-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "unprobed" .f32 0xF149F2CA#32 ⊥

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S1024x128 : Shape := ⟨2, ![1024, 128]⟩
abbrev S16x256x8 : Shape := ⟨3, ![16, 256, 8]⟩
abbrev S100000 : Shape := ⟨1, ![100000]⟩
abbrev S100000x16 : Shape := ⟨2, ![100000, 16]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S128x1024 : Shape := ⟨2, ![128, 1024]⟩
abbrev S1024x33 : Shape := ⟨2, ![1024, 33]⟩

class Facts : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  transposes_S1024x128_S128x1024_1_0 : S1024x128.Transposes [1, 0] S128x1024
  bcast_S_S1024x1024 : S_.BroadcastsInDim S1024x1024 (![] : Fin 0 → Fin S1024x1024.rank)
  sliceFits_S1024x1024_S1024x33 : S1024x1024.Slices (fun _ => 0) S1024x33
  bcast_S_S1024x128 : S_.BroadcastsInDim S1024x128 (![] : Fin 0 → Fin S1024x128.rank)
  reducesTo_S1024x128_S_d0_1 : S1024x128.ReducesTo [0, 1] S_
  bcast_S_S16x256x8 : S_.BroadcastsInDim S16x256x8 (![] : Fin 0 → Fin S16x256x8.rank)
  reducesTo_S16x256x8_S_d0_1_2 : S16x256x8.ReducesTo [0, 1, 2] S_
  bcast_S_S100000 : S_.BroadcastsInDim S100000 (![] : Fin 0 → Fin S100000.rank)
  reducesTo_S100000_S_d0 : S100000.ReducesTo [0] S_
  bcast_S_S100000x16 : S_.BroadcastsInDim S100000x16 (![] : Fin 0 → Fin S100000x16.rank)
  reducesTo_S100000x16_S_d0_1 : S100000x16.ReducesTo [0, 1] S_
  slices_S1024x33_S1024x1_0_31 : S1024x33.Slices ![0, 31] S1024x1
  shapeCasts_S1024x1_S1024 : S1024x1.ShapeCasts S1024
  slices_S1024x33_S1024x1_0_32 : S1024x33.Slices ![0, 32] S1024x1
  reducesTo_S1024_S_d0 : S1024.ReducesTo [0] S_
  dot_S1024x128_S128x1024_S1024x1024_1_0_0_1_n_n_wf : DotDims.WF S1024x128 S128x1024 S1024x1024 [1] [0] [0] [1] [] []

variable [Facts]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def fn_part2 {F : FTy → Type} [FloatOps F] (main_arg3 : IVec S100000 32) (main_arg4 : IVec S100000x16 32) (main_values : FVec F S1024x33 .f32) (main_v32 : IVec S_ 1) (main_v33 : IVec S100000 32) : IVec S_ 1 :=
  let main_v34 : IVec S100000 1 := cmpi .slt main_arg3 main_v33
  let main_c_10 : IVec S_ 1 := constantI S_ 1 1#1
  let main_v35 : IVec S_ 1 := (fun x v => Host.reduce IntOp.andi x v reducesTo_S100000_S_d0 h_S_) main_v34 main_c_10
  let main_v36 : IVec S_ 1 := andi main_v32 main_v35
  let main_c_11 : IVec S_ 32 := constantI S_ 32 0#32
  let main_v37 : IVec S100000x16 32 := broadcastInDim S100000x16 ![] bcast_S_S100000x16 main_c_11
  let main_v38 : IVec S100000x16 1 := cmpi .sge main_arg4 main_v37
  let main_c_12 : IVec S_ 1 := constantI S_ 1 1#1
  let main_v39 : IVec S_ 1 := (fun x v => Host.reduce IntOp.andi x v reducesTo_S100000x16_S_d0_1 h_S_) main_v38 main_c_12
  let main_v40 : IVec S_ 1 := andi main_v36 main_v39
  let main_c_13 : IVec S_ 32 := constantI S_ 32 256#32
  let main_v41 : IVec S100000x16 32 := broadcastInDim S100000x16 ![] bcast_S_S100000x16 main_c_13
  let main_v42 : IVec S100000x16 1 := cmpi .slt main_arg4 main_v41
  let main_c_14 : IVec S_ 1 := constantI S_ 1 1#1
  let main_v43 : IVec S_ 1 := (fun x v => Host.reduce IntOp.andi x v reducesTo_S100000x16_S_d0_1 h_S_) main_v42 main_c_14
  let main_v44 : IVec S_ 1 := andi main_v40 main_v43
  let main_v45 : FVec F S1024x1 .f32 := (extractStridedSlice S1024x1 ![0, 31] · slices_S1024x33_S1024x1_0_31) main_values
  let main_v46 : FVec F S1024 .f32 := shapeCast S1024 main_v45 shapeCasts_S1024x1_S1024
  let main_v47 : FVec F S1024x1 .f32 := (extractStridedSlice S1024x1 ![0, 32] · slices_S1024x33_S1024x1_0_32) main_values
  let main_v48 : FVec F S1024 .f32 := shapeCast S1024 main_v47 shapeCasts_S1024x1_S1024
  let main_v49 : IVec S1024 1 := cmpf .ogt main_v46 main_v48
  let main_c_15 : IVec S_ 1 := constantI S_ 1 1#1
  let main_v50 : IVec S_ 1 := (fun x v => Host.reduce IntOp.andi x v reducesTo_S1024_S_d0 h_S_) main_v49 main_c_15
  let main_v51 : IVec S_ 1 := andi main_v44 main_v50
  main_v51

def fn_part1 {F : FTy → Type} [FloatOps F] (main_arg1 : FVec F S1024x128 .f32) (main_arg2 : FVec F S16x256x8 .f32) (main_arg3 : IVec S100000 32) (main_arg4 : IVec S100000x16 32) (main_values : FVec F S1024x33 .f32) (main_v17 : IVec S1024x128 1) : IVec S_ 1 :=
  let main_c : IVec S_ 1 := constantI S_ 1 1#1
  let main_v18 : IVec S_ 1 := (fun x v => Host.reduce IntOp.andi x v reducesTo_S1024x128_S_d0_1 h_S_) main_v17 main_c
  let main_v19 : FVec F S1024x128 .f32 := Host.absf main_arg1
  let main_cst_3 : FVec F S_ .f32 := constant S_ .f32 0x7F800000#32
  let main_v20 : FVec F S1024x128 .f32 := broadcastInDim S1024x128 ![] bcast_S_S1024x128 main_cst_3
  let main_v21 : IVec S1024x128 1 := cmpf .olt main_v19 main_v20
  let main_c_4 : IVec S_ 1 := constantI S_ 1 1#1
  let main_v22 : IVec S_ 1 := (fun x v => Host.reduce IntOp.andi x v reducesTo_S1024x128_S_d0_1 h_S_) main_v21 main_c_4
  let main_v23 : IVec S_ 1 := andi main_v18 main_v22
  let main_v24 : FVec F S16x256x8 .f32 := Host.absf main_arg2
  let main_cst_5 : FVec F S_ .f32 := constant S_ .f32 0x7F800000#32
  let main_v25 : FVec F S16x256x8 .f32 := broadcastInDim S16x256x8 ![] bcast_S_S16x256x8 main_cst_5
  let main_v26 : IVec S16x256x8 1 := cmpf .olt main_v24 main_v25
  let main_c_6 : IVec S_ 1 := constantI S_ 1 1#1
  let main_v27 : IVec S_ 1 := (fun x v => Host.reduce IntOp.andi x v reducesTo_S16x256x8_S_d0_1_2 h_S_) main_v26 main_c_6
  let main_v28 : IVec S_ 1 := andi main_v23 main_v27
  let main_c_7 : IVec S_ 32 := constantI S_ 32 0#32
  let main_v29 : IVec S100000 32 := broadcastInDim S100000 ![] bcast_S_S100000 main_c_7
  let main_v30 : IVec S100000 1 := cmpi .sge main_arg3 main_v29
  let main_c_8 : IVec S_ 1 := constantI S_ 1 1#1
  let main_v31 : IVec S_ 1 := (fun x v => Host.reduce IntOp.andi x v reducesTo_S100000_S_d0 h_S_) main_v30 main_c_8
  let main_v32 : IVec S_ 1 := andi main_v28 main_v31
  let main_c_9 : IVec S_ 32 := constantI S_ 32 1024#32
  let main_v33 : IVec S100000 32 := broadcastInDim S100000 ![] bcast_S_S100000 main_c_9
  fn_part2 (F := F) main_arg3 main_arg4 main_values main_v32 main_v33

def fn {F : FTy → Type} [FloatOps F] (main_arg0 : FVec F S1024x128 .f32) (main_arg1 : FVec F S1024x128 .f32) (main_arg2 : FVec F S16x256x8 .f32) (main_arg3 : IVec S100000 32) (main_arg4 : IVec S100000x16 32) : IVec S_ 1 :=
  let main_v0 : FVec F S1024x128 .f32 := mulf main_arg0 main_arg0
  let main_cst : FVec F S_ .f32 := constant S_ .f32 0x00000000#32
  let main_v1 : FVec F S1024 .f32 := (fun x v => Host.reduceAdd x v reducesTo_S1024x128_S1024_d1 h_S_) main_v0 main_cst
  let main_v2 : FVec F S1024x1 .f32 := broadcastInDim S1024x1 ![0] bcast_S1024_S1024x1_0 main_v1
  let main_v3 : FVec F S1024x128 .f32 := mulf main_arg1 main_arg1
  let main_cst_0 : FVec F S_ .f32 := constant S_ .f32 0x00000000#32
  let main_v4 : FVec F S1024 .f32 := (fun x v => Host.reduceAdd x v reducesTo_S1024x128_S1024_d1 h_S_) main_v3 main_cst_0
  let main_v5 : FVec F S1x1024 .f32 := broadcastInDim S1x1024 ![1] bcast_S1024_S1x1024_1 main_v4
  let main_v6 : FVec F S1024x1024 .f32 := broadcastInDim S1024x1024 ![0, 1] bcast_S1024x1_S1024x1024_0_1 main_v2
  let main_v7 : FVec F S1024x1024 .f32 := broadcastInDim S1024x1024 ![0, 1] bcast_S1x1024_S1024x1024_0_1 main_v5
  let main_v8 : FVec F S1024x1024 .f32 := addf main_v6 main_v7
  let main_v9 : FVec F S128x1024 .f32 := (transpose S128x1024 [1, 0] · transposes_S1024x128_S128x1024_1_0) main_arg1
  let main_v10 : FVec F S1024x1024 .f32 := (fun l r => Host.dotGeneral dot_S1024x128_S128x1024_S1024x1024_1_0_0_1_n_n none l r) main_arg0 main_v9
  let main_cst_1 : FVec F S_ .f32 := constant S_ .f32 0x40000000#32
  let main_v11 : FVec F S1024x1024 .f32 := broadcastInDim S1024x1024 ![] bcast_S_S1024x1024 main_cst_1
  let main_v12 : FVec F S1024x1024 .f32 := mulf main_v11 main_v10
  let main_v13 : FVec F S1024x1024 .f32 := subf main_v8 main_v12
  let main_v14 : FVec F S1024x1024 .f32 := Host.negf main_v13
  let main_values : FVec F S1024x33 .f32 := (fun x => (Host.topK S1024x33 1 (FloatOps.cmpfTotal .gt) x sliceFits_S1024x1024_S1024x33).1) main_v14
  let main_indices : IVec S1024x33 32 := (fun x => (Host.topK S1024x33 1 (FloatOps.cmpfTotal .gt) x sliceFits_S1024x1024_S1024x33).2) main_v14
  let main_v15 : FVec F S1024x128 .f32 := Host.absf main_arg0
  let main_cst_2 : FVec F S_ .f32 := constant S_ .f32 0x7F800000#32
  let main_v16 : FVec F S1024x128 .f32 := broadcastInDim S1024x128 ![] bcast_S_S1024x128 main_cst_2
  let main_v17 : IVec S1024x128 1 := cmpf .olt main_v15 main_v16
  fn_part1 (F := F) main_arg1 main_arg2 main_arg3 main_arg4 main_values main_v17
-- ==== Kernel.lean ====
abbrev S1024x128 : Shape := ⟨2, ![1024, 128]⟩
abbrev S16x256x8 : Shape := ⟨3, ![16, 256, 8]⟩
abbrev S100000 : Shape := ⟨1, ![100000]⟩
abbrev S100000x16 : Shape := ⟨2, ![100000, 16]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S128x1024 : Shape := ⟨2, ![128, 1024]⟩
abbrev S1024x32 : Shape := ⟨2, ![1024, 32]⟩
abbrev S1024x16x8 : Shape := ⟨3, ![1024, 16, 8]⟩
abbrev S16x256x1024 : Shape := ⟨3, ![16, 256, 1024]⟩
abbrev S1024x16x256 : Shape := ⟨3, ![1024, 16, 256]⟩
abbrev S16x256 : Shape := ⟨2, ![16, 256]⟩
abbrev S1024x4096 : Shape := ⟨2, ![1024, 4096]⟩
abbrev S1024x5120 : Shape := ⟨2, ![1024, 5120]⟩
abbrev S352 : Shape := ⟨1, ![352]⟩
abbrev S100352 : Shape := ⟨1, ![100352]⟩
abbrev S352x16 : Shape := ⟨2, ![352, 16]⟩
abbrev S100352x16 : Shape := ⟨2, ![100352, 16]⟩
abbrev S16 : Shape := ⟨1, ![16]⟩
abbrev S1x100352 : Shape := ⟨2, ![1, 100352]⟩
abbrev S1x16 : Shape := ⟨2, ![1, 16]⟩
abbrev S16x100352 : Shape := ⟨2, ![16, 100352]⟩
abbrev S17x100352 : Shape := ⟨2, ![17, 100352]⟩
abbrev S4096x1024 : Shape := ⟨2, ![4096, 1024]⟩
abbrev S4096x1 : Shape := ⟨2, ![4096, 1]⟩
abbrev S98x1x1024 : Shape := ⟨3, ![98, 1, 1024]⟩
abbrev S17x1024 : Shape := ⟨2, ![17, 1024]⟩
abbrev S1x1x1024 : Shape := ⟨3, ![1, 1, 1024]⟩
abbrev S256x1024 : Shape := ⟨2, ![256, 1024]⟩
abbrev S16x1024 : Shape := ⟨2, ![16, 1024]⟩
abbrev S1024x100352 : Shape := ⟨2, ![1024, 100352]⟩
abbrev S512x5120 : Shape := ⟨2, ![512, 5120]⟩
abbrev S512x1 : Shape := ⟨2, ![512, 1]⟩
abbrev S512x1024 : Shape := ⟨2, ![512, 1024]⟩
abbrev S512x256 : Shape := ⟨2, ![512, 256]⟩
abbrev S98x1024x8 : Shape := ⟨3, ![98, 1024, 8]⟩
abbrev S98x1024x1 : Shape := ⟨3, ![98, 1024, 1]⟩
abbrev S1x512x8 : Shape := ⟨3, ![1, 512, 8]⟩
abbrev S1x512x1 : Shape := ⟨3, ![1, 512, 1]⟩
abbrev S512 : Shape := ⟨1, ![512]⟩
abbrev S512x8 : Shape := ⟨2, ![512, 8]⟩
abbrev S1024x98x8 : Shape := ⟨3, ![1024, 98, 8]⟩
abbrev S1024x784 : Shape := ⟨2, ![1024, 784]⟩
abbrev S1024x100 : Shape := ⟨2, ![1024, 100]⟩
abbrev S1024x100x1 : Shape := ⟨3, ![1024, 100, 1]⟩
abbrev S1 : Shape := ⟨1, ![1]⟩
abbrev S1x1x1 : Shape := ⟨3, ![1, 1, 1]⟩
abbrev S98x1024 : Shape := ⟨2, ![98, 1024]⟩

abbrev nBuf : Space → Nat
  | .hbm => 133
  | .vmem => 30
  | .smem => 0
  | _ => 0

abbrev hbmTy0_0 (i : Nat) : BufTy := match i % 128 with
  | 0 => ⟨S1024x128, .f32⟩
  | 1 => ⟨S1024x128, .f32⟩
  | 2 => ⟨S16x256x8, .f32⟩
  | 3 => ⟨S100000, .i32⟩
  | 4 => ⟨S100000x16, .i32⟩
  | 5 => ⟨S1024x128, .f32⟩
  | 6 => ⟨S_, .f32⟩
  | 7 => ⟨S1024, .f32⟩
  | 8 => ⟨S1024x1, .f32⟩
  | 9 => ⟨S1024x128, .f32⟩
  | 10 => ⟨S_, .f32⟩
  | 11 => ⟨S1024, .f32⟩
  | 12 => ⟨S1x1024, .f32⟩
  | 13 => ⟨S1024x1024, .f32⟩
  | 14 => ⟨S1024x1024, .f32⟩
  | 15 => ⟨S1024x1024, .f32⟩
  | 16 => ⟨S128x1024, .f32⟩
  | 17 => ⟨S1024x1024, .f32⟩
  | 18 => ⟨S_, .f32⟩
  | 19 => ⟨S1024x1024, .f32⟩
  | 20 => ⟨S1024x1024, .f32⟩
  | 21 => ⟨S1024x1024, .f32⟩
  | 22 => ⟨S1024x1024, .f32⟩
  | 23 => ⟨S1024x32, .f32⟩
  | 24 => ⟨S1024x32, .i32⟩
  | 25 => ⟨S1024x1, .f32⟩
  | 26 => ⟨S1024x1, .f32⟩
  | 27 => ⟨S1024x16x8, .f32⟩
  | 28 => ⟨S1024x16x8, .f32⟩
  | 29 => ⟨S16x256x1024, .f32⟩
  | 30 => ⟨S1024x16x256, .f32⟩
  | 31 => ⟨S16x256x1024, .f32⟩
  | 32 => ⟨S1024x16x256, .f32⟩
  | 33 => ⟨S16x256x8, .f32⟩
  | 34 => ⟨S_, .f32⟩
  | 35 => ⟨S16x256, .f32⟩
  | 36 => ⟨S1024x4096, .f32⟩
  | 37 => ⟨S1024x5120, .f32⟩
  | 38 => ⟨S1024x5120, .bf16⟩
  | 39 => ⟨S1024x5120, .f32⟩
  | 40 => ⟨S1024x5120, .f32⟩
  | 41 => ⟨S1024x5120, .bf16⟩
  | 42 => ⟨S1024x5120, .f32⟩
  | 43 => ⟨S1024x5120, .f32⟩
  | 44 => ⟨S1024x5120, .bf16⟩
  | 45 => ⟨S1024x5120, .bf16⟩
  | 46 => ⟨S1024x5120, .bf16⟩
  | 47 => ⟨S_, .i32⟩
  | 48 => ⟨S352, .i32⟩
  | 49 => ⟨S100352, .i32⟩
  | 50 => ⟨S_, .i32⟩
  | 51 => ⟨S352x16, .i32⟩
  | 52 => ⟨S100352x16, .i32⟩
  | 53 => ⟨S16, .i32⟩
  | 54 => ⟨S_, .i32⟩
  | 55 => ⟨S16, .i32⟩
  | 56 => ⟨S16, .i32⟩
  | 57 => ⟨S_, .i32⟩
  | 58 => ⟨S16, .i32⟩
  | 59 => ⟨S16, .i32⟩
  | 60 => ⟨S1x100352, .i32⟩
  | 61 => ⟨S1x16, .i32⟩
  | 62 => ⟨S100352x16, .i32⟩
  | 63 => ⟨S100352x16, .i32⟩
  | 64 => ⟨S16x100352, .i32⟩
  | 65 => ⟨S17x100352, .i32⟩
  | 66 => ⟨S1024x4096, .f32⟩
  | 67 => ⟨S4096x1024, .f32⟩
  | 68 => ⟨S4096x1024, .bf16⟩
  | 69 => ⟨S4096x1024, .f32⟩
  | 70 => ⟨S4096x1024, .f32⟩
  | 71 => ⟨S4096x1024, .bf16⟩
  | 72 => ⟨S4096x1024, .f32⟩
  | 73 => ⟨S4096x1024, .f32⟩
  | 74 => ⟨S4096x1024, .bf16⟩
  | 75 => ⟨S4096x1024, .bf16⟩
  | 76 => ⟨S4096x1024, .bf16⟩
  | 77 => ⟨S4096x1, .f32⟩
  | 78 => ⟨S98x1x1024, .f32⟩
  | 79 => ⟨S100352, .f32⟩
  | 80 => ⟨S100352, .i32⟩
  | 81 => ⟨S_, .i32⟩
  | 82 => ⟨S100352, .i32⟩
  | 83 => ⟨S100352, .i1⟩
  | 84 => ⟨S_, .f32⟩
  | 85 => ⟨S_, .f32⟩
  | 86 => ⟨S100352, .f32⟩
  | 87 => ⟨S100352, .f32⟩
  | 88 => ⟨S98x1x1024, .f32⟩
  | 89 => ⟨S1024x100352, .f32⟩
  | 90 => ⟨S98x1024x8, .f32⟩
  | 91 => ⟨S98x1024x8, .i32⟩
  | 92 => ⟨S98x1024x1, .f32⟩
  | 93 => ⟨S1024x98x8, .f32⟩
  | 94 => ⟨S1024x784, .f32⟩
  | 95 => ⟨S1024x98x8, .i32⟩
  | 96 => ⟨S1024x784, .i32⟩
  | 97 => ⟨S1024x100, .f32⟩
  | 98 => ⟨S1024x100, .i32⟩
  | 99 => ⟨S_, .i32⟩
  | 100 => ⟨S1024x100, .i32⟩
  | 101 => ⟨S1024x100, .i1⟩
  | 102 => ⟨S_, .i32⟩
  | 103 => ⟨S1024x100, .i32⟩
  | 104 => ⟨S1024x100, .i32⟩
  | 105 => ⟨S1024x100, .i32⟩
  | 106 => ⟨S1024x100x1, .i32⟩
  | 107 => ⟨S1, .i32⟩
  | 108 => ⟨S_, .i32⟩
  | 109 => ⟨S1024x100x1, .i32⟩
  | 110 => ⟨S1024x100x1, .i1⟩
  | 111 => ⟨S1x1x1, .i32⟩
  | 112 => ⟨S1024x100x1, .i32⟩
  | 113 => ⟨S1024x100x1, .i1⟩
  | 114 => ⟨S1024x100x1, .i1⟩
  | 115 => ⟨S_, .i1⟩
  | 116 => ⟨S1024x100, .i1⟩
  | 117 => ⟨S1024x100, .i32⟩
  | 118 => ⟨S_, .i32⟩
  | 119 => ⟨S1024x100, .i32⟩
  | 120 => ⟨S1024x100, .i32⟩
  | 121 => ⟨S1024x1, .f32⟩
  | 122 => ⟨S1024, .f32⟩
  | 123 => ⟨S98x1024, .f32⟩
  | 124 => ⟨S_, .f32⟩
  | 125 => ⟨S1024, .f32⟩
  | 126 => ⟨S1024, .i1⟩
  | 127 => ⟨S_, .i1⟩
  | _ => ⟨S1024x128, .f32⟩

abbrev hbmTy0_1 (i : Nat) : BufTy := match i % 128 with
  | 0 => ⟨S_, .i1⟩
  | 1 => ⟨S_, .i32⟩
  | 2 => ⟨S1024x100, .i32⟩
  | 3 => ⟨S1024x100, .f32⟩
  | 4 => ⟨S1024x100, .i32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1, .f32⟩
  | .local _ .vmem, ⟨4, _⟩ => ⟨S17x1024, .i32⟩
  | .local _ .vmem, ⟨5, _⟩ => ⟨S17x1024, .i32⟩
  | .local _ .vmem, ⟨6, _⟩ => ⟨S1x1x1024, .f32⟩
  | .local _ .vmem, ⟨7, _⟩ => ⟨S1x1x1024, .f32⟩
  | .local _ .vmem, ⟨8, _⟩ => ⟨S512x5120, .bf16⟩
  | .local _ .vmem, ⟨9, _⟩ => ⟨S512x5120, .bf16⟩
  | .local _ .vmem, ⟨10, _⟩ => ⟨S512x5120, .bf16⟩
  | .local _ .vmem, ⟨11, _⟩ => ⟨S512x5120, .bf16⟩
  | .local _ .vmem, ⟨12, _⟩ => ⟨S512x5120, .bf16⟩
  | .local _ .vmem, ⟨13, _⟩ => ⟨S512x5120, .bf16⟩
  | .local _ .vmem, ⟨14, _⟩ => ⟨S17x1024, .i32⟩
  | .local _ .vmem, ⟨15, _⟩ => ⟨S17x1024, .i32⟩
  | .local _ .vmem, ⟨16, _⟩ => ⟨S1x1x1024, .f32⟩
  | .local _ .vmem, ⟨17, _⟩ => ⟨S1x1x1024, .f32⟩
  | .local _ .vmem, ⟨18, _⟩ => ⟨S512x1, .f32⟩
  | .local _ .vmem, ⟨19, _⟩ => ⟨S512x1, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x512x8, .f32⟩
  | .local _ .vmem, ⟨25, _⟩ => ⟨S1x512x8, .f32⟩
  | .local _ .vmem, ⟨26, _⟩ => ⟨S1x512x8, .i32⟩
  | .local _ .vmem, ⟨27, _⟩ => ⟨S1x512x8, .i32⟩
  | .local _ .vmem, ⟨28, _⟩ => ⟨S1x512x1, .f32⟩
  | .local _ .vmem, ⟨29, _⟩ => ⟨S1x512x1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_values : Ref sig .tc := ⟨.hbm, 23, rfl⟩
abbrev main_indices : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_v36 : Ref sig .tc := ⟨.hbm, 48, rfl⟩
abbrev main_v37 : Ref sig .tc := ⟨.hbm, 49, rfl⟩
abbrev main_c_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_4 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_c_6 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_call0_v0 : Ref sig .tc := ⟨.hbm, 85, rfl⟩
abbrev main_call0_v1 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71_0 : Ref sig .tc := ⟨.hbm, 90, rfl⟩
abbrev main_v71_1 : Ref sig .tc := ⟨.hbm, 91, rfl⟩
abbrev main_v71_2 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_values_8 : Ref sig .tc := ⟨.hbm, 97, rfl⟩
abbrev main_indices_9 : Ref sig .tc := ⟨.hbm, 98, rfl⟩
abbrev main_call1_c : Ref sig .tc := ⟨.hbm, 99, rfl⟩
abbrev main_call1_v0 : Ref sig .tc := ⟨.hbm, 100, rfl⟩
abbrev main_call1_v1 : Ref sig .tc := ⟨.hbm, 101, rfl⟩
abbrev main_call1_c_0 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_c_1 : Ref sig .tc := ⟨.hbm, 107, rfl⟩
abbrev main_call1_c_2 : Ref sig .tc := ⟨.hbm, 108, rfl⟩
abbrev main_call1_v6 : Ref sig .tc := ⟨.hbm, 109, rfl⟩
abbrev main_call1_v7 : Ref sig .tc := ⟨.hbm, 110, rfl⟩
abbrev main_call1_v8 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_c_3 : Ref sig .tc := ⟨.hbm, 115, rfl⟩
abbrev main_call1_v12 : Ref sig .tc := ⟨.hbm, 116, rfl⟩
abbrev main_call1_v13 : Ref sig .tc := ⟨.hbm, 117, rfl⟩
abbrev main_call1_c_4 : Ref sig .tc := ⟨.hbm, 118, rfl⟩
abbrev main_call1_v14 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_10 : Ref sig .tc := ⟨.hbm, 124, rfl⟩
abbrev main_v80 : Ref sig .tc := ⟨.hbm, 125, rfl⟩
abbrev main_v81 : Ref sig .tc := ⟨.hbm, 126, rfl⟩
abbrev main_c_11 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_case0b0_values_12 : Ref sig .tc := ⟨.hbm, 131, rfl⟩
abbrev main_case0b0_indices_13 : Ref sig .tc := ⟨.hbm, 132, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S17x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 98], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x5120 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x5120 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x5120 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S17x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![2, 98], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x512x8 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== KernelIdeal.lean ====
variable {F : FTy → Type} [FloatOps F] [Named F]
def κ : String → Option EReal := fun
  | "unprobed" => some ⊥
  | _ => none
-- ==== ReferenceIdeal.lean ====
abbrev S1024x128 : Shape := ⟨2, ![1024, 128]⟩
abbrev S16x256x8 : Shape := ⟨3, ![16, 256, 8]⟩
abbrev S100000 : Shape := ⟨1, ![100000]⟩
abbrev S100000x16 : Shape := ⟨2, ![100000, 16]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S128x1024 : Shape := ⟨2, ![128, 1024]⟩
abbrev S100000x1 : Shape := ⟨2, ![100000, 1]⟩
abbrev S1 : Shape := ⟨1, ![1]⟩
abbrev S1x1 : Shape := ⟨2, ![1, 1]⟩
abbrev S1024x100000 : Shape := ⟨2, ![1024, 100000]⟩
abbrev S1024x16x8 : Shape := ⟨3, ![1024, 16, 8]⟩
abbrev S16x256x1024 : Shape := ⟨3, ![16, 256, 1024]⟩
abbrev S1024x16x256 : Shape := ⟨3, ![1024, 16, 256]⟩
abbrev S16x256 : Shape := ⟨2, ![16, 256]⟩
abbrev S16 : Shape := ⟨1, ![16]⟩
abbrev S1x16 : Shape := ⟨2, ![1, 16]⟩
abbrev S100000x16x1 : Shape := ⟨3, ![100000, 16, 1]⟩
abbrev S100000x16x3 : Shape := ⟨3, ![100000, 16, 3]⟩
abbrev S100000x16x2 : Shape := ⟨3, ![100000, 16, 2]⟩
abbrev S1024x100000x16 : Shape := ⟨3, ![1024, 100000, 16]⟩
abbrev S1x100000 : Shape := ⟨2, ![1, 100000]⟩
abbrev S1024x100 : Shape := ⟨2, ![1024, 100]⟩

abbrev nBuf : Space → Nat
  | .hbm => 176
  | .vmem => 0
  | .smem => 0
  | _ => 0

abbrev hbmTy0_0 (i : Nat) : BufTy := match i % 128 with
  | 0 => ⟨S1024x128, .f32⟩
  | 1 => ⟨S1024x128, .f32⟩
  | 2 => ⟨S16x256x8, .f32⟩
  | 3 => ⟨S100000, .i32⟩
  | 4 => ⟨S100000x16, .i32⟩
  | 5 => ⟨S1024x128, .f32⟩
  | 6 => ⟨S_, .f32⟩
  | 7 => ⟨S1024, .f32⟩
  | 8 => ⟨S1024x1, .f32⟩
  | 9 => ⟨S1024x128, .f32⟩
  | 10 => ⟨S_, .f32⟩
  | 11 => ⟨S1024, .f32⟩
  | 12 => ⟨S1x1024, .f32⟩
  | 13 => ⟨S1024x1024, .f32⟩
  | 14 => ⟨S1024x1024, .f32⟩
  | 15 => ⟨S1024x1024, .f32⟩
  | 16 => ⟨S128x1024, .f32⟩
  | 17 => ⟨S1024x1024, .f32⟩
  | 18 => ⟨S_, .f32⟩
  | 19 => ⟨S1024x1024, .f32⟩
  | 20 => ⟨S1024x1024, .f32⟩
  | 21 => ⟨S1024x1024, .f32⟩
  | 22 => ⟨S1024x1024, .i32⟩
  | 23 => ⟨S1024x1024, .f32⟩
  | 24 => ⟨S1024x1024, .i32⟩
  | 25 => ⟨S1024x1024, .i32⟩
  | 26 => ⟨S1024x1024, .i32⟩
  | 27 => ⟨S1024x1024, .i32⟩
  | 28 => ⟨S_, .i32⟩
  | 29 => ⟨S100000, .i32⟩
  | 30 => ⟨S100000, .i1⟩
  | 31 => ⟨S_, .i32⟩
  | 32 => ⟨S100000, .i32⟩
  | 33 => ⟨S100000, .i32⟩
  | 34 => ⟨S100000, .i32⟩
  | 35 => ⟨S100000x1, .i32⟩
  | 36 => ⟨S1, .i32⟩
  | 37 => ⟨S_, .i32⟩
  | 38 => ⟨S100000x1, .i32⟩
  | 39 => ⟨S100000x1, .i1⟩
  | 40 => ⟨S1x1, .i32⟩
  | 41 => ⟨S100000x1, .i32⟩
  | 42 => ⟨S100000x1, .i1⟩
  | 43 => ⟨S100000x1, .i1⟩
  | 44 => ⟨S_, .i1⟩
  | 45 => ⟨S100000, .i1⟩
  | 46 => ⟨S1024x100000, .i32⟩
  | 47 => ⟨S1024x100000, .i1⟩
  | 48 => ⟨S_, .i32⟩
  | 49 => ⟨S1024x100000, .i32⟩
  | 50 => ⟨S1024x100000, .i32⟩
  | 51 => ⟨S_, .i32⟩
  | 52 => ⟨S1024x100000, .i32⟩
  | 53 => ⟨S1024x100000, .i1⟩
  | 54 => ⟨S1024x16x8, .f32⟩
  | 55 => ⟨S16x256x1024, .f32⟩
  | 56 => ⟨S1024x16x256, .f32⟩
  | 57 => ⟨S1024x16x8, .f32⟩
  | 58 => ⟨S16x256x1024, .f32⟩
  | 59 => ⟨S1024x16x256, .f32⟩
  | 60 => ⟨S16x256x8, .f32⟩
  | 61 => ⟨S_, .f32⟩
  | 62 => ⟨S16x256, .f32⟩
  | 63 => ⟨S16, .i32⟩
  | 64 => ⟨S1x16, .i32⟩
  | 65 => ⟨S100000x1, .i32⟩
  | 66 => ⟨S_, .i32⟩
  | 67 => ⟨S100000x1, .i32⟩
  | 68 => ⟨S100000x1, .i1⟩
  | 69 => ⟨S_, .i32⟩
  | 70 => ⟨S100000x1, .i32⟩
  | 71 => ⟨S100000x1, .i32⟩
  | 72 => ⟨S100000x1, .i32⟩
  | 73 => ⟨S_, .i32⟩
  | 74 => ⟨S1x16, .i32⟩
  | 75 => ⟨S1x16, .i1⟩
  | 76 => ⟨S_, .i32⟩
  | 77 => ⟨S1x16, .i32⟩
  | 78 => ⟨S1x16, .i32⟩
  | 79 => ⟨S1x16, .i32⟩
  | 80 => ⟨S_, .i32⟩
  | 81 => ⟨S100000x16, .i32⟩
  | 82 => ⟨S100000x16, .i1⟩
  | 83 => ⟨S_, .i32⟩
  | 84 => ⟨S100000x16, .i32⟩
  | 85 => ⟨S100000x16, .i32⟩
  | 86 => ⟨S100000x16, .i32⟩
  | 87 => ⟨S100000x16, .i32⟩
  | 88 => ⟨S100000x16, .i32⟩
  | 89 => ⟨S100000x16x1, .i32⟩
  | 90 => ⟨S100000x16x1, .i32⟩
  | 91 => ⟨S100000x16x1, .i32⟩
  | 92 => ⟨S100000x16x3, .i32⟩
  | 93 => ⟨S100000x16, .f32⟩
  | 94 => ⟨S_, .f32⟩
  | 95 => ⟨S100000x16, .f32⟩
  | 96 => ⟨S100000x16, .f32⟩
  | 97 => ⟨S_, .i32⟩
  | 98 => ⟨S1x16, .i32⟩
  | 99 => ⟨S1x16, .i1⟩
  | 100 => ⟨S_, .i32⟩
  | 101 => ⟨S1x16, .i32⟩
  | 102 => ⟨S1x16, .i32⟩
  | 103 => ⟨S1x16, .i32⟩
  | 104 => ⟨S_, .i32⟩
  | 105 => ⟨S100000x16, .i32⟩
  | 106 => ⟨S100000x16, .i1⟩
  | 107 => ⟨S_, .i32⟩
  | 108 => ⟨S100000x16, .i32⟩
  | 109 => ⟨S100000x16, .i32⟩
  | 110 => ⟨S100000x16, .i32⟩
  | 111 => ⟨S100000x16, .i32⟩
  | 112 => ⟨S100000x16x1, .i32⟩
  | 113 => ⟨S100000x16x1, .i32⟩
  | 114 => ⟨S100000x16x2, .i32⟩
  | 115 => ⟨S100000x16, .f32⟩
  | 116 => ⟨S100000x16, .f32⟩
  | 117 => ⟨S_, .f32⟩
  | 118 => ⟨S100000, .f32⟩
  | 119 => ⟨S_, .i32⟩
  | 120 => ⟨S1x16, .i32⟩
  | 121 => ⟨S1x16, .i1⟩
  | 122 => ⟨S_, .i32⟩
  | 123 => ⟨S1x16, .i32⟩
  | 124 => ⟨S1x16, .i32⟩
  | 125 => ⟨S1x16, .i32⟩
  | 126 => ⟨S_, .i32⟩
  | 127 => ⟨S100000x16, .i32⟩
  | _ => ⟨S1024x128, .f32⟩

abbrev hbmTy0_1 (i : Nat) : BufTy := match i % 128 with
  | 0 => ⟨S100000x16, .i1⟩
  | 1 => ⟨S_, .i32⟩
  | 2 => ⟨S100000x16, .i32⟩
  | 3 => ⟨S100000x16, .i32⟩
  | 4 => ⟨S100000x16, .i32⟩
  | 5 => ⟨S100000x16, .i32⟩
  | 6 => ⟨S100000x16x1, .i32⟩
  | 7 => ⟨S100000x16x1, .i32⟩
  | 8 => ⟨S100000x16x2, .i32⟩
  | 9 => ⟨S1024x100000x16, .f32⟩
  | 10 => ⟨S_, .f32⟩
  | 11 => ⟨S1024x100000, .f32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S1, .i32⟩
  | 21 => ⟨S_, .i32⟩
  | 22 => ⟨S100000x1, .i32⟩
  | 23 => ⟨S100000x1, .i1⟩
  | 24 => ⟨S1x1, .i32⟩
  | 25 => ⟨S100000x1, .i32⟩
  | 26 => ⟨S100000x1, .i1⟩
  | 27 => ⟨S100000x1, .i1⟩
  | 28 => ⟨S_, .i1⟩
  | 29 => ⟨S100000, .i1⟩
  | 30 => ⟨S1024x100000, .f32⟩
  | 31 => ⟨S1024x100000, .i1⟩
  | 32 => ⟨S_, .f32⟩
  | 33 => ⟨S1024x100000, .f32⟩
  | 34 => ⟨S1024x100000, .f32⟩
  | 35 => ⟨S1x100000, .f32⟩
  | 36 => ⟨S1024x100000, .f32⟩
  | 37 => ⟨S1024x100000, .f32⟩
  | 38 => ⟨S_, .f32⟩
  | 39 => ⟨S1024x100000, .f32⟩
  | 40 => ⟨S1024x100000, .f32⟩
  | 41 => ⟨S1024x100000, .f32⟩
  | 42 => ⟨S_, .f32⟩
  | 43 => ⟨S1024x100000, .f32⟩
  | 44 => ⟨S1024x100000, .f32⟩
  | 45 => ⟨S1024x100000, .f32⟩
  | 46 => ⟨S1024x100, .f32⟩
  | 47 => ⟨S1024x100, .i32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1_0 : Ref sig .tc := ⟨.hbm, 23, rfl⟩
abbrev main_v14 : Ref sig .tc := ⟨.hbm, 24, rfl⟩
abbrev main_call1_v0 : Ref sig .tc := ⟨.hbm, 25, rfl⟩
abbrev main_call1_v1_0 : Ref sig .tc := ⟨.hbm, 26, rfl⟩
abbrev main_v15 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_v14 : Ref sig .tc := ⟨.hbm, 47, rfl⟩
abbrev main_call2_c_4 : Ref sig .tc := ⟨.hbm, 48, rfl⟩
abbrev main_call2_v15 : Ref sig .tc := ⟨.hbm, 49, rfl⟩
abbrev main_v16 : Ref sig .tc := ⟨.hbm, 50, rfl⟩
abbrev main_c : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_2 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_c_3 : Ref sig .tc := ⟨.hbm, 66, rfl⟩
abbrev main_v30 : Ref sig .tc := ⟨.hbm, 67, rfl⟩
abbrev main_v31 : Ref sig .tc := ⟨.hbm, 68, rfl⟩
abbrev main_c_4 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_c_5 : Ref sig .tc := ⟨.hbm, 73, rfl⟩
abbrev main_v35 : Ref sig .tc := ⟨.hbm, 74, rfl⟩
abbrev main_v36 : Ref sig .tc := ⟨.hbm, 75, rfl⟩
abbrev main_c_6 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_c_7 : Ref sig .tc := ⟨.hbm, 80, rfl⟩
abbrev main_v40 : Ref sig .tc := ⟨.hbm, 81, rfl⟩
abbrev main_v41 : Ref sig .tc := ⟨.hbm, 82, rfl⟩
abbrev main_c_8 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_9 : Ref sig .tc := ⟨.hbm, 94, rfl⟩
abbrev main_v52 : Ref sig .tc := ⟨.hbm, 95, rfl⟩
abbrev main_v53 : Ref sig .tc := ⟨.hbm, 96, rfl⟩
abbrev main_c_10 : Ref sig .tc := ⟨.hbm, 97, rfl⟩
abbrev main_v54 : Ref sig .tc := ⟨.hbm, 98, rfl⟩
abbrev main_v55 : Ref sig .tc := ⟨.hbm, 99, rfl⟩
abbrev main_c_11 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_c_12 : Ref sig .tc := ⟨.hbm, 104, rfl⟩
abbrev main_v59 : Ref sig .tc := ⟨.hbm, 105, rfl⟩
abbrev main_v60 : Ref sig .tc := ⟨.hbm, 106, rfl⟩
abbrev main_c_13 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_14 : Ref sig .tc := ⟨.hbm, 117, rfl⟩
abbrev main_v70 : Ref sig .tc := ⟨.hbm, 118, rfl⟩
abbrev main_c_15 : Ref sig .tc := ⟨.hbm, 119, rfl⟩
abbrev main_v71 : Ref sig .tc := ⟨.hbm, 120, rfl⟩
abbrev main_v72 : Ref sig .tc := ⟨.hbm, 121, rfl⟩
abbrev main_c_16 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_c_17 : Ref sig .tc := ⟨.hbm, 126, rfl⟩
abbrev main_v76 : Ref sig .tc := ⟨.hbm, 127, rfl⟩
abbrev main_v77 : Ref sig .tc := ⟨.hbm, 128, rfl⟩
abbrev main_c_18 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_cst_19 : Ref sig .tc := ⟨.hbm, 138, rfl⟩
abbrev main_v86 : Ref sig .tc := ⟨.hbm, 139, rfl⟩
abbrev main_call3_c : Ref sig .tc := ⟨.hbm, 140, rfl⟩
abbrev main_call3_v0 : Ref sig .tc := ⟨.hbm, 141, rfl⟩
abbrev main_call3_v1 : Ref sig .tc := ⟨.hbm, 142, rfl⟩
abbrev main_call3_c_0 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_call3_v5 : Ref sig .tc := ⟨.hbm, 147, rfl⟩
abbrev main_call3_c_1 : Ref sig .tc := ⟨.hbm, 148, rfl⟩
abbrev main_call3_c_2 : Ref sig .tc := ⟨.hbm, 149, rfl⟩
abbrev main_call3_v6 : Ref sig .tc := ⟨.hbm, 150, rfl⟩
abbrev main_call3_v7 : Ref sig .tc := ⟨.hbm, 151, rfl⟩
abbrev main_call3_v8 : Ref sig .tc := ⟨.hbm, 152, rfl⟩
abbrev main_call3_v9 : Ref sig .tc := ⟨.hbm, 153, rfl⟩
abbrev main_call3_v10 : Ref sig .tc := ⟨.hbm, 154, rfl⟩
abbrev main_call3_v11 : Ref sig .tc := ⟨.hbm, 155, rfl⟩
abbrev main_call3_c_3 : Ref sig .tc := ⟨.hbm, 156, rfl⟩
abbrev main_call3_v12 : Ref sig .tc := ⟨.hbm, 157, rfl⟩
abbrev main_call3_v13 : Ref sig .tc := ⟨.hbm, 158, rfl⟩
abbrev main_call3_v14 : Ref sig .tc := ⟨.hbm, 159, rfl⟩
abbrev main_call3_cst : Ref sig .tc := ⟨.hbm, 160, rfl⟩
abbrev main_call3_v15 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_cst_20 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_cst_21 : Ref sig .tc := ⟨.hbm, 170, rfl⟩
abbrev main_call4_v0 : Ref sig .tc := ⟨.hbm, 171, rfl⟩
abbrev main_v94 : Ref sig .tc := ⟨.hbm, 172, rfl⟩
abbrev main_v95 : Ref sig .tc := ⟨.hbm, 173, rfl⟩
abbrev main_values : Ref sig .tc := ⟨.hbm, 174, rfl⟩
abbrev main_indices : Ref sig .tc := ⟨.hbm, 175, rfl⟩

abbrev nD : Nat := 1
abbrev τ : Topo := Topo.v7x

variable {F : FTy → Type} [FloatOps F]
-- ==== Proof.KITerm.lean ====
/-
  Region 0 of the program, the term kernel (one score per database row, per block of 1024 rows): the values its body computes as definitions over the
  input blocks, what each output's staging buffer holds afterwards, the body run on whole staging buffers, and the proof
  data of the pipeline entered from any contents `V` of the buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- deciding membership in rectangles of these extents recurses once per coordinate of the long axes
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's accesses and values -/

abbrev r0_0 : Rect S17x1024 := Rect.unit (s := S17x1024) ![0, 0] S17x1024.size inb_S17x1024_S17x1024_0_0
abbrev r0_1 : Rect S4096x1024 := Rect.unit (s := S4096x1024) ![0, 0] S4096x1024.size inb_S4096x1024_S4096x1024_0_0
abbrev r0_2 : Rect S4096x1 := Rect.unit (s := S4096x1) ![0, 0] S4096x1.size inb_S4096x1_S4096x1_0_0
abbrev r0_3 : Rect S1x1x1024 := Rect.unit (s := S1x1x1024) ![0, 0, 0] S1x1x1024.size inb_S1x1x1024_S1x1x1024_0_0_0

def b0_0 (x0 : Vec F S4096x1024 .bf16) (x1 : Vec F S4096x1024 .bf16) (x2 : Vec F S4096x1024 .bf16) (x3 : Vec F S4096x1 .f32) (x4 : Vec F S17x1024 .i32) : IVec S256x1024 32 :=
  iota .tc S256x1024 32 [0] iota_S256x1024_d0_w32
def b0_1 (x0 : Vec F S4096x1024 .bf16) (x1 : Vec F S4096x1024 .bf16) (x2 : Vec F S4096x1024 .bf16) (x3 : Vec F S4096x1 .f32) (x4 : Vec F S17x1024 .i32) : IVec S17x1024 32 :=
  k0_pay2 (View.ld x4 r0_0)
def b0_2 (x0 : Vec F S4096x1024 .bf16) (x1 : Vec F S4096x1024 .bf16) (x2 : Vec F S4096x1024 .bf16) (x3 : Vec F S4096x1 .f32) (x4 : Vec F S17x1024 .i32) : FVec F S1024x1024 .bf16 :=
  k0_pay3 (View.ld x4 r0_0)
def b0_3 (x0 : Vec F S4096x1024 .bf16) (x1 : Vec F S4096x1024 .bf16) (x2 : Vec F S4096x1024 .bf16) (x3 : Vec F S4096x1 .f32) (x4 : Vec F S17x1024 .i32) : FVec F S256x1024 .f32 :=
  k0_pay4 (View.ld x4 r0_0)
def b0_4 (x0 : Vec F S4096x1024 .bf16) (x1 : Vec F S4096x1024 .bf16) (x2 : Vec F S4096x1024 .bf16) (x3 : Vec F S4096x1 .f32) (x4 : Vec F S17x1024 .i32) : FVec F S256x1024 .f32 :=
  k0_pay5 (View.ld x4 r0_0)
def b0_5 (x0 : Vec F S4096x1024 .bf16) (x1 : Vec F S4096x1024 .bf16) (x2 : Vec F S4096x1024 .bf16) (x3 : Vec F S4096x1 .f32) (x4 : Vec F S17x1024 .i32) : FVec F S256x1024 .f32 :=
  k0_pay6 (View.ld x4 r0_0)
def b0_6 (x0 : Vec F S4096x1024 .bf16) (x1 : Vec F S4096x1024 .bf16) (x2 : Vec F S4096x1024 .bf16) (x3 : Vec F S4096x1 .f32) (x4 : Vec F S17x1024 .i32) : FVec F S256x1024 .f32 :=
  k0_pay7 (View.ld x4 r0_0)
def b0_7 (x0 : Vec F S4096x1024 .bf16) (x1 : Vec F S4096x1024 .bf16) (x2 : Vec F S4096x1024 .bf16) (x3 : Vec F S4096x1 .f32) (x4 : Vec F S17x1024 .i32) : FVec F S256x1024 .f32 :=
  k0_pay8 (View.ld x4 r0_0)
def b0_8 (x0 : Vec F S4096x1024 .bf16) (x1 : Vec F S4096x1024 .bf16) (x2 : Vec F S4096x1024 .bf16) (x3 : Vec F S4096x1 .f32) (x4 : Vec F S17x1024 .i32) : IVec S256x1024 32 :=
  k0_pay9 (View.ld x4 r0_0)
def b0_9 (x0 : Vec F S4096x1024 .bf16) (x1 : Vec F S4096x1024 .bf16) (x2 : Vec F S4096x1024 .bf16) (x3 : Vec F S4096x1 .f32) (x4 : Vec F S17x1024 .i32) : FVec F S256x1024 .f32 :=
  k0_pay10 (F := F) (b0_8 x0 x1 x2 x3 x4)
def b0_10 (x0 : Vec F S4096x1024 .bf16) (x1 : Vec F S4096x1024 .bf16) (x2 : Vec F S4096x1024 .bf16) (x3 : Vec F S4096x1 .f32) (x4 : Vec F S17x1024 .i32) : FVec F S256x1024 .f32 :=
  k0_pay11 (F := F) (b0_1 x0 x1 x2 x3 x4) (b0_0 x0 x1 x2 x3 x4)
def b0_11 (x0 : Vec F S4096x1024 .bf16) (x1 : Vec F S4096x1024 .bf16) (x2 : Vec F S4096x1024 .bf16) (x3 : Vec F S4096x1 .f32) (x4 : Vec F S17x1024 .i32) : FVec F S256x1024 .f32 :=
  k0_pay12 (F := F) (b0_1 x0 x1 x2 x3 x4) (b0_0 x0 x1 x2 x3 x4)
def b0_12 (x0 : Vec F S4096x1024 .bf16) (x1 : Vec F S4096x1024 .bf16) (x2 : Vec F S4096x1024 .bf16) (x3 : Vec F S4096x1 .f32) (x4 : Vec F S17x1024 .i32) : FVec F S256x1024 .f32 :=
  k0_pay13 (F := F) (b0_1 x0 x1 x2 x3 x4) (b0_0 x0 x1 x2 x3 x4)
def b0_13 (x0 : Vec F S4096x1024 .bf16) (x1 : Vec F S4096x1024 .bf16) (x2 : Vec F S4096x1024 .bf16) (x3 : Vec F S4096x1 .f32) (x4 : Vec F S17x1024 .i32) : FVec F S256x1024 .f32 :=
  k0_pay14 (F := F) (b0_1 x0 x1 x2 x3 x4) (b0_0 x0 x1 x2 x3 x4)
def b0_14 (x0 : Vec F S4096x1024 .bf16) (x1 : Vec F S4096x1024 .bf16) (x2 : Vec F S4096x1024 .bf16) (x3 : Vec F S4096x1 .f32) (x4 : Vec F S17x1024 .i32) : FVec F S256x1024 .f32 :=
  k0_pay15 (F := F) (b0_1 x0 x1 x2 x3 x4) (b0_0 x0 x1 x2 x3 x4)
def b0_15 (x0 : Vec F S4096x1024 .bf16) (x1 : Vec F S4096x1024 .bf16) (x2 : Vec F S4096x1024 .bf16) (x3 : Vec F S4096x1 .f32) (x4 : Vec F S17x1024 .i32) : FVec F S256x1024 .f32 :=
  k0_pay16 (F := F) (b0_1 x0 x1 x2 x3 x4) (b0_0 x0 x1 x2 x3 x4)
def b0_16 (x0 : Vec F S4096x1024 .bf16) (x1 : Vec F S4096x1024 .bf16) (x2 : Vec F S4096x1024 .bf16) (x3 : Vec F S4096x1 .f32) (x4 : Vec F S17x1024 .i32) : FVec F S256x1024 .f32 :=
  k0_pay17 (F := F) (b0_1 x0 x1 x2 x3 x4) (b0_0 x0 x1 x2 x3 x4)
def b0_17 (x0 : Vec F S4096x1024 .bf16) (x1 : Vec F S4096x1024 .bf16) (x2 : Vec F S4096x1024 .bf16) (x3 : Vec F S4096x1 .f32) (x4 : Vec F S17x1024 .i32) : IVec S1x1024 32 :=
  k0_pay18 (b0_1 x0 x1 x2 x3 x4)
def b0_18 (x0 : Vec F S4096x1024 .bf16) (x1 : Vec F S4096x1024 .bf16) (x2 : Vec F S4096x1024 .bf16) (x3 : Vec F S4096x1 .f32) (x4 : Vec F S17x1024 .i32) : IVec S1x1024 32 :=
  k0_pay19
def b0_19 (x0 : Vec F S4096x1024 .bf16) (x1 : Vec F S4096x1024 .bf16) (x2 : Vec F S4096x1024 .bf16) (x3 : Vec F S4096x1 .f32) (x4 : Vec F S17x1024 .i32) : FVec F S16x1024 .f32 :=
  k0_pay21 (b0_1 x0 x1 x2 x3 x4) (b0_2 x0 x1 x2 x3 x4) (b0_0 x0 x1 x2 x3 x4) (b0_3 x0 x1 x2 x3 x4) (b0_4 x0 x1 x2 x3 x4) (b0_5 x0 x1 x2 x3 x4) (b0_6 x0 x1 x2 x3 x4) (b0_7 x0 x1 x2 x3 x4) (b0_9 x0 x1 x2 x3 x4) (b0_10 x0 x1 x2 x3 x4) (b0_11 x0 x1 x2 x3 x4) (b0_12 x0 x1 x2 x3 x4) (b0_13 x0 x1 x2 x3 x4) (b0_14 x0 x1 x2 x3 x4) (b0_15 x0 x1 x2 x3 x4) (b0_16 x0 x1 x2 x3 x4) (b0_17 x0 x1 x2 x3 x4) (b0_18 x0 x1 x2 x3 x4) (View.ld x0 r0_1) (View.ld x1 r0_1) (View.ld x2 r0_1)
def b0_20 (x0 : Vec F S4096x1024 .bf16) (x1 : Vec F S4096x1024 .bf16) (x2 : Vec F S4096x1024 .bf16) (x3 : Vec F S4096x1 .f32) (x4 : Vec F S17x1024 .i32) : FVec F S16x1024 .f32 :=
  k0_pay22 (b0_1 x0 x1 x2 x3 x4) (b0_0 x0 x1 x2 x3 x4) (b0_3 x0 x1 x2 x3 x4) (b0_4 x0 x1 x2 x3 x4) (b0_5 x0 x1 x2 x3 x4) (b0_6 x0 x1 x2 x3 x4) (b0_7 x0 x1 x2 x3 x4) (b0_9 x0 x1 x2 x3 x4) (b0_10 x0 x1 x2 x3 x4) (b0_11 x0 x1 x2 x3 x4) (b0_12 x0 x1 x2 x3 x4) (b0_13 x0 x1 x2 x3 x4) (b0_14 x0 x1 x2 x3 x4) (b0_15 x0 x1 x2 x3 x4) (b0_16 x0 x1 x2 x3 x4) (b0_17 x0 x1 x2 x3 x4) (b0_18 x0 x1 x2 x3 x4) (View.ld x3 r0_2)
def b0_21 (x0 : Vec F S4096x1024 .bf16) (x1 : Vec F S4096x1024 .bf16) (x2 : Vec F S4096x1024 .bf16) (x3 : Vec F S4096x1 .f32) (x4 : Vec F S17x1024 .i32) : FVec F S1x1024 .f32 :=
  k0_pay23 (F := F)
def b0_22 (x0 : Vec F S4096x1024 .bf16) (x1 : Vec F S4096x1024 .bf16) (x2 : Vec F S4096x1024 .bf16) (x3 : Vec F S4096x1 .f32) (x4 : Vec F S17x1024 .i32) : FVec F S1x1024 .f32 :=
  k0_pay24 (b0_1 x0 x1 x2 x3 x4) (b0_2 x0 x1 x2 x3 x4) (b0_0 x0 x1 x2 x3 x4) (b0_3 x0 x1 x2 x3 x4) (b0_4 x0 x1 x2 x3 x4) (b0_5 x0 x1 x2 x3 x4) (b0_6 x0 x1 x2 x3 x4) (b0_7 x0 x1 x2 x3 x4) (b0_9 x0 x1 x2 x3 x4) (b0_10 x0 x1 x2 x3 x4) (b0_11 x0 x1 x2 x3 x4) (b0_12 x0 x1 x2 x3 x4) (b0_13 x0 x1 x2 x3 x4) (b0_14 x0 x1 x2 x3 x4) (b0_15 x0 x1 x2 x3 x4) (b0_16 x0 x1 x2 x3 x4) (b0_17 x0 x1 x2 x3 x4) (b0_18 x0 x1 x2 x3 x4) (View.ld x0 r0_1) (View.ld x1 r0_1) (View.ld x2 r0_1)
def b0_23 (x0 : Vec F S4096x1024 .bf16) (x1 : Vec F S4096x1024 .bf16) (x2 : Vec F S4096x1024 .bf16) (x3 : Vec F S4096x1 .f32) (x4 : Vec F S17x1024 .i32) : FVec F S1x1024 .f32 :=
  k0_pay25 (F := F)
def b0_24 (x0 : Vec F S4096x1024 .bf16) (x1 : Vec F S4096x1024 .bf16) (x2 : Vec F S4096x1024 .bf16) (x3 : Vec F S4096x1 .f32) (x4 : Vec F S17x1024 .i32) : FVec F S1x1024 .f32 :=
  k0_pay26 (b0_19 x0 x1 x2 x3 x4) (b0_20 x0 x1 x2 x3 x4) (b0_21 x0 x1 x2 x3 x4) (b0_22 x0 x1 x2 x3 x4) (b0_23 x0 x1 x2 x3 x4)

/-- What output window 5's staging buffer holds after the body. -/
def out0_5 (x0 : Vec F S4096x1024 .bf16) (x1 : Vec F S4096x1024 .bf16) (x2 : Vec F S4096x1024 .bf16) (x3 : Vec F S4096x1 .f32) (x4 : Vec F S17x1024 .i32) : Vec F S1x1x1024 .f32 :=
  View.canon [⟨r0_3, (k0_pay1 (b0_19 x0 x1 x2 x3 x4) (b0_20 x0 x1 x2 x3 x4) (b0_24 x0 x1 x2 x3 x4))⟩]
theorem cover0_5 (p0 : Vec F S1x1x1024 .f32) (y : S1x1x1024.Idx) :
    ∃ pc ∈ ([⟨r0_3, p0⟩] : List (View.Piece (Elt F) S1x1x1024 .f32)), y ∈ pc.1.set :=
  View.cover_of_tiled [⟨r0_3, p0⟩] S1x1x1024.size (by rfl) y

/-! ## The body, run -/

set_option maxHeartbeats 2000000 in
/-- The body on whole staging buffers, the inputs at read contents and the outputs at anything, runs to its end with the
    inputs as they were and each output at its value above. -/
theorem sound_kernel0 (c : Dev nD) (E : Set ℕ) (i : grid0.Coords) (arg1 : Memref sig .tc .vmem S4096x1024 .bf16) (harg1 : arg1.IsWhole) (arg2 : Memref sig .tc .vmem S4096x1024 .bf16) (harg2 : arg2.IsWhole) (arg3 : Memref sig .tc .vmem S4096x1024 .bf16) (harg3 : arg3.IsWhole) (arg4 : Memref sig .tc .vmem S4096x1 .f32) (harg4 : arg4.IsWhole) (arg5 : Memref sig .tc .vmem S17x1024 .i32) (harg5 : arg5.IsWhole) (arg6 : Memref sig .tc .vmem S1x1x1024 .f32) (harg6 : arg6.IsWhole)
    (x0 : Vec F S4096x1024 .bf16) (x1 : Vec F S4096x1024 .bf16) (x2 : Vec F S4096x1024 .bf16) (x3 : Vec F S4096x1 .f32) (x4 : Vec F S17x1024 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__term_block_kernel i arg1 harg1 arg2 harg2 arg3 harg3 arg4 harg4 arg5 harg5 arg6 harg6) K := by
  simp only [cc0__term_block_kernel_eq_skeleton]; unfold cc0__term_block_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover0_5 _)).trans ?_
  rfl

/-! ## The proof data, from any contents of the buffers -/

variable (V : Dev nD → Valuation τ sig (Elt F))

/-- Window `w`'s block at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The proof data: the arrays at `V`; after the body each input's buffer at its block and each output's at its value;
    the invariant the scoped buffers no window stages. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.scopedRest (Ix := Unit) (Name := ℕ) (U := UR sig nD τ) (Lvl := ℕ) (Val := Elt F) spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.KIAdc.lean ====
/-
  Region 1 of the program, the scoring kernel (a 512 × 1024 block of scores): the values its body computes as definitions over the
  input blocks, what each output's staging buffer holds afterwards, the body run on whole staging buffers, and the proof
  data of the pipeline entered from any contents `V` of the buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- deciding membership in rectangles of these extents recurses once per coordinate of the long axes
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's accesses and values -/

abbrev r1_0 : Rect S17x1024 := Rect.unit (s := S17x1024) ![0, 0] S17x1024.size inb_S17x1024_S17x1024_0_0
abbrev r1_1 : Rect S512x5120 := Rect.unit (s := S512x5120) ![0, 0] S512x1024.size inb_S512x5120_S512x1024_0_0
abbrev r1_2 : Rect S1x1x1024 := Rect.unit (s := S1x1x1024) ![0, 0, 0] S1x1x1024.size inb_S1x1x1024_S1x1x1024_0_0_0
abbrev r1_3 : Rect S512x5120 := Rect.unit (s := S512x5120) ![0, 1024] S512x256.size inb_S512x5120_S512x256_0_1024
abbrev r1_4 : Rect S512x5120 := Rect.unit (s := S512x5120) ![0, 1280] S512x256.size inb_S512x5120_S512x256_0_1280
abbrev r1_5 : Rect S512x5120 := Rect.unit (s := S512x5120) ![0, 1536] S512x256.size inb_S512x5120_S512x256_0_1536
abbrev r1_6 : Rect S512x5120 := Rect.unit (s := S512x5120) ![0, 1792] S512x256.size inb_S512x5120_S512x256_0_1792
abbrev r1_7 : Rect S512x5120 := Rect.unit (s := S512x5120) ![0, 2048] S512x256.size inb_S512x5120_S512x256_0_2048
abbrev r1_8 : Rect S512x5120 := Rect.unit (s := S512x5120) ![0, 2304] S512x256.size inb_S512x5120_S512x256_0_2304
abbrev r1_9 : Rect S512x5120 := Rect.unit (s := S512x5120) ![0, 2560] S512x256.size inb_S512x5120_S512x256_0_2560
abbrev r1_10 : Rect S512x5120 := Rect.unit (s := S512x5120) ![0, 2816] S512x256.size inb_S512x5120_S512x256_0_2816
abbrev r1_11 : Rect S512x5120 := Rect.unit (s := S512x5120) ![0, 3072] S512x256.size inb_S512x5120_S512x256_0_3072
abbrev r1_12 : Rect S512x5120 := Rect.unit (s := S512x5120) ![0, 3328] S512x256.size inb_S512x5120_S512x256_0_3328
abbrev r1_13 : Rect S512x5120 := Rect.unit (s := S512x5120) ![0, 3584] S512x256.size inb_S512x5120_S512x256_0_3584
abbrev r1_14 : Rect S512x5120 := Rect.unit (s := S512x5120) ![0, 3840] S512x256.size inb_S512x5120_S512x256_0_3840
abbrev r1_15 : Rect S512x5120 := Rect.unit (s := S512x5120) ![0, 4096] S512x256.size inb_S512x5120_S512x256_0_4096
abbrev r1_16 : Rect S512x5120 := Rect.unit (s := S512x5120) ![0, 4352] S512x256.size inb_S512x5120_S512x256_0_4352
abbrev r1_17 : Rect S512x5120 := Rect.unit (s := S512x5120) ![0, 4608] S512x256.size inb_S512x5120_S512x256_0_4608
abbrev r1_18 : Rect S512x5120 := Rect.unit (s := S512x5120) ![0, 4864] S512x256.size inb_S512x5120_S512x256_0_4864
abbrev r1_19 : Rect S512x1 := Rect.unit (s := S512x1) ![0, 0] S512x1.size inb_S512x1_S512x1_0_0
abbrev r1_20 : Rect S512x1024 := Rect.unit (s := S512x1024) ![0, 0] S512x1024.size inb_S512x1024_S512x1024_0_0

def b1_0 (x0 : Vec F S512x5120 .bf16) (x1 : Vec F S512x5120 .bf16) (x2 : Vec F S512x5120 .bf16) (x3 : Vec F S17x1024 .i32) (x4 : Vec F S1x1x1024 .f32) (x5 : Vec F S512x1 .f32) : IVec S256x1024 32 :=
  iota .tc S256x1024 32 [0] iota_S256x1024_d0_w32
def b1_1 (x0 : Vec F S512x5120 .bf16) (x1 : Vec F S512x5120 .bf16) (x2 : Vec F S512x5120 .bf16) (x3 : Vec F S17x1024 .i32) (x4 : Vec F S1x1x1024 .f32) (x5 : Vec F S512x1 .f32) : IVec S17x1024 32 :=
  k1_pay2 (View.ld x3 r1_0)
def b1_2 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x1024 .f32 :=
  k1_pay3 (View.ld x3 r1_0) (View.ld x0 r1_1) (View.ld x1 r1_1) (View.ld x2 r1_1)
def b1_3 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x1024 .f32 :=
  k1_pay4 (View.ld x3 r1_0) (View.ld x0 r1_1) (View.ld x1 r1_1) (View.ld x2 r1_1) (View.ld x4 r1_2)
def b1_4 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S256x1024 .bf16 :=
  k1_pay5 (View.ld x3 r1_0)
def b1_5 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x1024 .f32 :=
  k1_pay6 (View.ld x3 r1_0) (View.ld x0 r1_3)
def b1_6 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x256 .bf16 :=
  k1_pay7 (View.ld x1 r1_3)
def b1_7 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x1024 .f32 :=
  k1_pay8 (b1_1 x0 x1 x2 x3 x4 x5) (b1_3 x0 x1 x2 x3 x4 x5) (b1_0 x0 x1 x2 x3 x4 x5) (b1_4 x0 x1 x2 x3 x4 x5) (b1_5 x0 x1 x2 x3 x4 x5) (b1_6 x0 x1 x2 x3 x4 x5) (View.ld x2 r1_3) (View.ld x0 r1_4) (View.ld x1 r1_4) (View.ld x2 r1_4)
def b1_8 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S256x1024 .bf16 :=
  k1_pay9 (F := F) (b1_1 x0 x1 x2 x3 x4 x5) (b1_0 x0 x1 x2 x3 x4 x5)
def b1_9 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x256 .bf16 :=
  k1_pay10 (View.ld x0 r1_5)
def b1_10 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x1024 .f32 :=
  k1_pay11 (b1_1 x0 x1 x2 x3 x4 x5) (b1_0 x0 x1 x2 x3 x4 x5) (b1_7 x0 x1 x2 x3 x4 x5) (b1_8 x0 x1 x2 x3 x4 x5) (b1_9 x0 x1 x2 x3 x4 x5) (View.ld x1 r1_5) (View.ld x2 r1_5) (View.ld x0 r1_6) (View.ld x1 r1_6) (View.ld x2 r1_6)
def b1_11 (x0 : Vec F S512x5120 .bf16) (x1 : Vec F S512x5120 .bf16) (x2 : Vec F S512x5120 .bf16) (x3 : Vec F S17x1024 .i32) (x4 : Vec F S1x1x1024 .f32) (x5 : Vec F S512x1 .f32) : IVec S256x1024 32 :=
  k1_pay12 (b1_1 x0 x1 x2 x3 x4 x5) (b1_0 x0 x1 x2 x3 x4 x5)
def b1_12 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x1024 .f32 :=
  k1_pay13 (b1_1 x0 x1 x2 x3 x4 x5) (b1_0 x0 x1 x2 x3 x4 x5) (b1_10 x0 x1 x2 x3 x4 x5) (b1_11 x0 x1 x2 x3 x4 x5) (View.ld x0 r1_7) (View.ld x1 r1_7) (View.ld x2 r1_7) (View.ld x0 r1_8) (View.ld x1 r1_8) (View.ld x2 r1_8)
def b1_13 (x0 : Vec F S512x5120 .bf16) (x1 : Vec F S512x5120 .bf16) (x2 : Vec F S512x5120 .bf16) (x3 : Vec F S17x1024 .i32) (x4 : Vec F S1x1x1024 .f32) (x5 : Vec F S512x1 .f32) : IVec S1x1024 32 :=
  k1_pay14 (b1_1 x0 x1 x2 x3 x4 x5)
def b1_14 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x1024 .f32 :=
  k1_pay15 (b1_0 x0 x1 x2 x3 x4 x5) (b1_12 x0 x1 x2 x3 x4 x5) (b1_13 x0 x1 x2 x3 x4 x5) (View.ld x0 r1_9) (View.ld x1 r1_9) (View.ld x2 r1_9)
def b1_15 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x1024 .f32 :=
  k1_pay17 (b1_1 x0 x1 x2 x3 x4 x5) (b1_0 x0 x1 x2 x3 x4 x5) (View.ld x2 r1_10)
def b1_16 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x1024 .f32 :=
  k1_pay18 (b1_1 x0 x1 x2 x3 x4 x5) (b1_0 x0 x1 x2 x3 x4 x5) (View.ld x0 r1_10) (View.ld x1 r1_10)
def b1_17 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x1024 .f32 :=
  k1_pay19 (b1_1 x0 x1 x2 x3 x4 x5) (b1_0 x0 x1 x2 x3 x4 x5) (b1_14 x0 x1 x2 x3 x4 x5) (b1_15 x0 x1 x2 x3 x4 x5) (b1_16 x0 x1 x2 x3 x4 x5) (View.ld x0 r1_11) (View.ld x1 r1_11) (View.ld x2 r1_11)
def b1_18 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S256x1024 .bf16 :=
  k1_pay20 (F := F) (b1_1 x0 x1 x2 x3 x4 x5) (b1_0 x0 x1 x2 x3 x4 x5)
def b1_19 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x1024 .f32 :=
  k1_pay21 (b1_1 x0 x1 x2 x3 x4 x5) (b1_0 x0 x1 x2 x3 x4 x5) (View.ld x0 r1_12)
def b1_20 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x1024 .f32 :=
  k1_pay22 (b1_1 x0 x1 x2 x3 x4 x5) (b1_0 x0 x1 x2 x3 x4 x5) (View.ld x1 r1_12)
def b1_21 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x1024 .f32 :=
  k1_pay23 (b1_1 x0 x1 x2 x3 x4 x5) (b1_0 x0 x1 x2 x3 x4 x5) (b1_17 x0 x1 x2 x3 x4 x5) (b1_18 x0 x1 x2 x3 x4 x5) (b1_19 x0 x1 x2 x3 x4 x5) (b1_20 x0 x1 x2 x3 x4 x5) (View.ld x2 r1_12) (View.ld x0 r1_13) (View.ld x1 r1_13) (View.ld x2 r1_13)
def b1_22 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S256x1024 .bf16 :=
  k1_pay24 (F := F) (b1_1 x0 x1 x2 x3 x4 x5) (b1_0 x0 x1 x2 x3 x4 x5)
def b1_23 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x1024 .f32 :=
  k1_pay25 (b1_1 x0 x1 x2 x3 x4 x5) (b1_0 x0 x1 x2 x3 x4 x5) (View.ld x0 r1_14)
def b1_24 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x1024 .f32 :=
  k1_pay26 (b1_1 x0 x1 x2 x3 x4 x5) (b1_0 x0 x1 x2 x3 x4 x5) (b1_21 x0 x1 x2 x3 x4 x5) (b1_22 x0 x1 x2 x3 x4 x5) (b1_23 x0 x1 x2 x3 x4 x5) (View.ld x1 r1_14) (View.ld x2 r1_14) (View.ld x0 r1_15) (View.ld x1 r1_15) (View.ld x2 r1_15)
def b1_25 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S256x1024 .bf16 :=
  k1_pay27 (F := F) (b1_1 x0 x1 x2 x3 x4 x5) (b1_0 x0 x1 x2 x3 x4 x5)
def b1_26 (x0 : Vec F S512x5120 .bf16) (x1 : Vec F S512x5120 .bf16) (x2 : Vec F S512x5120 .bf16) (x3 : Vec F S17x1024 .i32) (x4 : Vec F S1x1x1024 .f32) (x5 : Vec F S512x1 .f32) : FVec F S512x1024 .f32 :=
  k1_pay28 (b1_1 x0 x1 x2 x3 x4 x5) (b1_0 x0 x1 x2 x3 x4 x5) (b1_24 x0 x1 x2 x3 x4 x5) (b1_25 x0 x1 x2 x3 x4 x5) (View.ld x0 r1_16) (View.ld x1 r1_16) (View.ld x2 r1_16) (View.ld x0 r1_17) (View.ld x1 r1_17) (View.ld x2 r1_17)
def b1_27 (x0 : Vec F S512x5120 .bf16) (x1 : Vec F S512x5120 .bf16) (x2 : Vec F S512x5120 .bf16) (x3 : Vec F S17x1024 .i32) (x4 : Vec F S1x1x1024 .f32) (x5 : Vec F S512x1 .f32) : IVec S1x1024 32 :=
  k1_pay29 (b1_1 x0 x1 x2 x3 x4 x5)

/-- What output window 6's staging buffer holds after the body. -/
def out1_6 (x0 : Vec F S512x5120 .bf16) (x1 : Vec F S512x5120 .bf16) (x2 : Vec F S512x5120 .bf16) (x3 : Vec F S17x1024 .i32) (x4 : Vec F S1x1x1024 .f32) (x5 : Vec F S512x1 .f32) : Vec F S512x1024 .f32 :=
  View.canon [⟨r1_20, (k1_pay1 (b1_2 x0 x1 x2 x3 x4 x5) (b1_0 x0 x1 x2 x3 x4 x5) (b1_26 x0 x1 x2 x3 x4 x5) (b1_27 x0 x1 x2 x3 x4 x5) (View.ld x0 r1_18) (View.ld x1 r1_18) (View.ld x2 r1_18) (View.ld x5 r1_19))⟩]
theorem cover1_6 (p0 : Vec F S512x1024 .f32) (y : S512x1024.Idx) :
    ∃ pc ∈ ([⟨r1_20, p0⟩] : List (View.Piece (Elt F) S512x1024 .f32)), y ∈ pc.1.set :=
  View.cover_of_tiled [⟨r1_20, p0⟩] S512x1024.size (by rfl) y

/-! ## The body, run -/

set_option maxHeartbeats 2000000 in
/-- The body on whole staging buffers, the inputs at read contents and the outputs at anything, runs to its end with the
    inputs as they were and each output at its value above. -/
theorem sound_kernel1 (c : Dev nD) (E : Set ℕ) (i : grid1.Coords) (arg2 : Memref sig .tc .vmem S512x5120 .bf16) (harg2 : arg2.IsWhole) (arg3 : Memref sig .tc .vmem S512x5120 .bf16) (harg3 : arg3.IsWhole) (arg4 : Memref sig .tc .vmem S512x5120 .bf16) (harg4 : arg4.IsWhole) (arg5 : Memref sig .tc .vmem S17x1024 .i32) (harg5 : arg5.IsWhole) (arg6 : Memref sig .tc .vmem S1x1x1024 .f32) (harg6 : arg6.IsWhole) (arg7 : Memref sig .tc .vmem S512x1 .f32) (harg7 : arg7.IsWhole) (arg8 : Memref sig .tc .vmem S512x1024 .f32) (harg8 : arg8.IsWhole)
    (x0 : Vec F S512x5120 .bf16) (x1 : Vec F S512x5120 .bf16) (x2 : Vec F S512x5120 .bf16) (x3 : Vec F S17x1024 .i32) (x4 : Vec F S1x1x1024 .f32) (x5 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2 x3 x4 x5)) -∗ K ⟨⟩))
      ⊢ wp frame (wpE (defs₀ (F := F)) Variants.none c none) E (cc1__adc_block_kernel i arg2 harg2 arg3 harg3 arg4 harg4 arg5 harg5 arg6 harg6 arg7 harg7 arg8 harg8) K := by
  simp only [cc1__adc_block_kernel_eq_skeleton]; unfold cc1__adc_block_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover1_6 _)).trans ?_
  rfl

/-! ## The proof data, from any contents of the buffers -/

variable (V : Dev nD → Valuation τ sig (Elt F))

/-- Window `w`'s block at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays at `V`; after the body each input's buffer at its block and each output's at its value;
    the invariant the scoped buffers no window stages. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.scopedRest (Ix := Unit) (Name := ℕ) (U := UR sig nD τ) (Lvl := ℕ) (Val := Elt F) spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Own

end
-- ==== Proof.KIExtract.lean ====
/-
  Region 2 of the program, the extraction kernel (the eight largest scores of each block of 1024, and the ninth value): the values its body computes as definitions over the
  input blocks, what each output's staging buffer holds afterwards, the body run on whole staging buffers, and the proof
  data of the pipeline entered from any contents `V` of the buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- deciding membership in rectangles of these extents recurses once per coordinate of the long axes
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's accesses and values -/

abbrev r2_0 : Rect S512x1024 := Rect.unit (s := S512x1024) ![0, 0] S512x1024.size inb_S512x1024_S512x1024_0_0
abbrev r2_1 : Rect S1x512x8 := Rect.unit (s := S1x512x8) ![0, 0, 0] S1x512x8.size inb_S1x512x8_S1x512x8_0_0_0
abbrev r2_2 : Rect S1x512x1 := Rect.unit (s := S1x512x1) ![0, 0, 0] S1x512x1.size inb_S1x512x1_S1x512x1_0_0_0

def b2_0 (i : grid2.Coords) (x0 : Vec F S512x1024 .f32) : IVec S512x1024 32 :=
  iota .tc S512x1024 32 [1] iota_S512x1024_d1_w32
def b2_1 (i : grid2.Coords) (x0 : Vec F S512x1024 .f32) : BitVec 32 :=
  Scalar.muli (BitVec.ofNat 32 (i 1).val) 1024#32
def b2_2 (i : grid2.Coords) (x0 : Vec F S512x1024 .f32) : FVec F S512x1 .f32 :=
  k2_pay9 (View.ld x0 r2_0)
def b2_3 (i : grid2.Coords) (x0 : Vec F S512x1024 .f32) : IVec S512x1 32 :=
  k2_pay11 i (View.ld x0 r2_0)
def b2_4 (i : grid2.Coords) (x0 : Vec F S512x1024 .f32) : FVec F S512x1 .f32 :=
  k2_pay13 (View.ld x0 r2_0)
def b2_5 (i : grid2.Coords) (x0 : Vec F S512x1024 .f32) : IVec S512x1 32 :=
  k2_pay15 i (View.ld x0 r2_0)
def b2_6 (i : grid2.Coords) (x0 : Vec F S512x1024 .f32) : FVec F S512x1024 .f32 :=
  k2_pay16 (View.ld x0 r2_0)
def b2_7 (i : grid2.Coords) (x0 : Vec F S512x1024 .f32) : FVec F S512x1 .f32 :=
  k2_pay17 (View.ld x0 r2_0)
def b2_8 (i : grid2.Coords) (x0 : Vec F S512x1024 .f32) : IVec S512x1 32 :=
  k2_pay19 i (View.ld x0 r2_0)
def b2_9 (i : grid2.Coords) (x0 : Vec F S512x1024 .f32) : IVec S512x1024 1 :=
  k2_pay20 (View.ld x0 r2_0)
def b2_10 (i : grid2.Coords) (x0 : Vec F S512x1024 .f32) : FVec F S512x1 .f32 :=
  k2_pay22 (b2_6 i x0) (b2_9 i x0)
def b2_11 (i : grid2.Coords) (x0 : Vec F S512x1024 .f32) : IVec S512x1 32 :=
  k2_pay24 (b2_0 i x0) (b2_1 i x0) (b2_6 i x0) (b2_9 i x0)
def b2_12 (i : grid2.Coords) (x0 : Vec F S512x1024 .f32) : FVec F S512x1 .f32 :=
  k2_pay26 (b2_0 i x0) (b2_6 i x0) (b2_9 i x0)
def b2_13 (i : grid2.Coords) (x0 : Vec F S512x1024 .f32) : IVec S512x1 32 :=
  k2_pay28 (b2_0 i x0) (b2_1 i x0) (b2_6 i x0) (b2_9 i x0)
def b2_14 (i : grid2.Coords) (x0 : Vec F S512x1024 .f32) : FVec F S512x1 .f32 :=
  k2_pay30 (b2_0 i x0) (b2_6 i x0) (b2_9 i x0)
def b2_15 (i : grid2.Coords) (x0 : Vec F S512x1024 .f32) : IVec S512x1 32 :=
  k2_pay32 (b2_0 i x0) (b2_1 i x0) (b2_6 i x0) (b2_9 i x0)
def b2_16 (i : grid2.Coords) (x0 : Vec F S512x1024 .f32) : FVec F S512x1024 .f32 :=
  k2_pay33 (b2_0 i x0) (b2_6 i x0) (b2_9 i x0)
def b2_17 (i : grid2.Coords) (x0 : Vec F S512x1024 .f32) : FVec F S512x1 .f32 :=
  k2_pay34 (b2_0 i x0) (b2_6 i x0) (b2_9 i x0)

/-- What output window 1's staging buffer holds after the body. -/
def out2_1 (i : grid2.Coords) (x0 : Vec F S512x1024 .f32) : Vec F S1x512x8 .f32 :=
  View.canon [⟨r2_1, (k2_pay5 (b2_0 i x0) (b2_2 i x0) (b2_4 i x0) (b2_7 i x0) (b2_10 i x0) (b2_12 i x0) (b2_14 i x0) (b2_16 i x0) (b2_17 i x0))⟩]
theorem cover2_1 (p0 : Vec F S1x512x8 .f32) (y : S1x512x8.Idx) :
    ∃ pc ∈ ([⟨r2_1, p0⟩] : List (View.Piece (Elt F) S1x512x8 .f32)), y ∈ pc.1.set :=
  View.cover_of_tiled [⟨r2_1, p0⟩] S1x512x8.size (by rfl) y
/-- What output window 2's staging buffer holds after the body. -/
def out2_2 (i : grid2.Coords) (x0 : Vec F S512x1024 .f32) : Vec F S1x512x8 .i32 :=
  View.canon [⟨r2_1, (k2_pay6 (b2_0 i x0) (b2_1 i x0) (b2_3 i x0) (b2_5 i x0) (b2_8 i x0) (b2_11 i x0) (b2_13 i x0) (b2_15 i x0) (b2_16 i x0) (b2_17 i x0))⟩]
theorem cover2_2 (p0 : Vec F S1x512x8 .i32) (y : S1x512x8.Idx) :
    ∃ pc ∈ ([⟨r2_1, p0⟩] : List (View.Piece (Elt F) S1x512x8 .i32)), y ∈ pc.1.set :=
  View.cover_of_tiled [⟨r2_1, p0⟩] S1x512x8.size (by rfl) y
/-- What output window 3's staging buffer holds after the body. -/
def out2_3 (i : grid2.Coords) (x0 : Vec F S512x1024 .f32) : Vec F S1x512x1 .f32 :=
  View.canon [⟨r2_2, (k2_pay7 (b2_0 i x0) (b2_16 i x0) (b2_17 i x0))⟩]
theorem cover2_3 (p0 : Vec F S1x512x1 .f32) (y : S1x512x1.Idx) :
    ∃ pc ∈ ([⟨r2_2, p0⟩] : List (View.Piece (Elt F) S1x512x1 .f32)), y ∈ pc.1.set :=
  View.cover_of_tiled [⟨r2_2, p0⟩] S1x512x1.size (by rfl) y

/-! ## The body, run -/

set_option maxHeartbeats 2000000 in
/-- The body on whole staging buffers, the inputs at read contents and the outputs at anything, runs to its end with the
    inputs as they were and each output at its value above. -/
theorem sound_kernel2 (c : Dev nD) (E : Set ℕ) (i : grid2.Coords) (arg2 : Memref sig .tc .vmem S512x1024 .f32) (harg2 : arg2.IsWhole) (arg3 : Memref sig .tc .vmem S1x512x8 .f32) (harg3 : arg3.IsWhole) (arg4 : Memref sig .tc .vmem S1x512x8 .i32) (harg4 : arg4.IsWhole) (arg5 : Memref sig .tc .vmem S1x512x1 .f32) (harg5 : arg5.IsWhole)
    (x0 : Vec F S512x1024 .f32) (K : PUnit → sProp 𝕄) :
    iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare (out2_1 i x0) ∗ owns (c : Thread nD τ) arg4 fullShare (out2_2 i x0) ∗ owns (c : Thread nD τ) arg5 fullShare (out2_3 i x0)) -∗ K ⟨⟩))
      ⊢ wp frame (wpE (defs₀ (F := F)) Variants.none c none) E (cc2__extract_block_kernel i arg2 harg2 arg3 harg3 arg4 harg4 arg5 harg5) K := by
  simp only [cc2__extract_block_kernel_eq_skeleton]; unfold cc2__extract_block_kernel_skel
  simp only [k2_part1_eq_skeleton, k2_part2_eq_skeleton]
  unfold owns
  iintro ⟨⟨%f0, %hf0, H0⟩, ⟨%d1, %f1, -, H1⟩, ⟨%d2, %f2, -, H2⟩, ⟨%d3, %f3, -, H3⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover2_1 _)).trans ?_
    rfl
  isplitl [H2]
  · iexists _; isplitr
    swap; · iexact H2
    ipureintro
    refine (View.read_writes_eq_canon _ _ _ (cover2_2 _)).trans ?_
    rfl
  iexists _; isplitr
  swap; · iexact H3
  ipureintro
  refine (View.read_writes_eq_canon _ _ _ (cover2_3 _)).trans ?_
  rfl

/-! ## The proof data, from any contents of the buffers -/

variable (V : Dev nD → Valuation τ sig (Elt F))

/-- Window `w`'s block at point `t`, read off its array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The proof data: the arrays at `V`; after the body each input's buffer at its block and each output's at its value;
    the invariant the scoped buffers no window stages. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (grid2.coords t) (iblk2 V c 0 t)
    | ⟨2, _⟩ => out2_2 (grid2.coords t) (iblk2 V c 0 t)
    | ⟨3, _⟩ => out2_3 (grid2.coords t) (iblk2 V c 0 t)
  Φ _ := Pipeline.scopedRest (Ix := Unit) (Name := ℕ) (U := UR sig nD τ) (Lvl := ℕ) (Val := Elt F) spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (grid2.coords t) (iblk2 V c 0 t) := by dsimp only [dat2]
theorem after2_2 (c : Dev nD) (t : Fin cfg2.N) : (dat2 V c).after 2 t = out2_2 (grid2.coords t) (iblk2 V c 0 t) := by dsimp only [dat2]
theorem after2_3 (c : Dev nD) (t : Fin cfg2.N) : (dat2 V c).after 3 t = out2_3 (grid2.coords t) (iblk2 V c 0 t) := by dsimp only [dat2]
theorem before2_0 (c : Dev nD) (t : Fin cfg2.N) (d) : (dat2 V c).before 0 t d = iblk2 V c 0 t :=
  before2_0_of V (dat2 V c) (A_eq2 V c 0) (after2_0 V c) t d

/-! ## The body obligation -/

/-- What the body is called with at point `t`, window by window. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body. -/
theorem defs₀_row2 (t : Fin cfg2.N) :
    defs₀ (F := F) .tc cfg2.body (cfg2.bodyArgs t (cfg2.slots t)) = bodyAt2 t := by
  unfold defs₀; rw [Defs.onTc_tc]

/-- The body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Own

end
-- ==== Proof.KIVals.lean ====
/-
  The buffers' contents after each of the program's items (host stretches, the three regions, and the final branch), and
  what each item leaves unchanged.
-/
module

public import proofs.«01_k».proof.Proof.KITerm
public import proofs.«01_k».proof.Proof.KIAdc
public import proofs.«01_k».proof.Proof.KIExtract
public import Idealize.ShloMosaic.Lib.Pipeline.Frame
public import Idealize.ShloMosaic.Lib.Pipeline.Regions
public import Idealize.ShloMosaic.Lib.Pipeline.RegionsCase

@[expose] public section

set_option maxRecDepth 4096

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

/-! ## The final branch: the word it reads and its two arms -/

/-- The read: the predicate widened to the word the branch takes. -/
abbrev rdOp : HloOp τ sig (Elt F) :=
  StableHlo.unary main_v82 main_v83 ((extui 32 · natLt_1_32) : (⟨S_, .i1⟩ : BufTy).Contents (Elt F) → (⟨S_, .i32⟩ : BufTy).Contents (Elt F))

/-- The arms' operations. -/
abbrev armOps : Fin 2 → List (HloOp τ sig (Elt F))
  | 0 => [ StableHlo.unary main_v70 main_case0b0_values_12 ((fun x => (Host.topK S1024x100 1 (FloatOps.cmpfTotal .gt) x sliceFits_S1024x100352_S1024x100).1) : (⟨S1024x100352, .f32⟩ : BufTy).Contents (Elt F) → (⟨S1024x100, .f32⟩ : BufTy).Contents (Elt F)),
           StableHlo.unary main_v70 main_case0b0_indices_13 ((fun x => (Host.topK S1024x100 1 (FloatOps.cmpfTotal .gt) x sliceFits_S1024x100352_S1024x100).2) : (⟨S1024x100352, .f32⟩ : BufTy).Contents (Elt F) → (⟨S1024x100, .i32⟩ : BufTy).Contents (Elt F)),
           StableHlo.unary main_case0b0_indices_13 main_v84 id ]
  | 1 => [ StableHlo.unary main_v76 main_v84 id ]

theorem armOps_sub (b : Fin 2) : ∀ op ∈ (armOps (F := F) b), op.bufs ⊆ Pipeline.ucRefs τ sig := by
  intro op h; fin_cases b <;> fin_cases h <;> exact Pipeline.sub_ucRefs _ (StableHlo.unary_bufs_sub ..)
theorem armOps_fresh (b : Fin 2) : ∀ op ∈ (armOps (F := F) b), op.fresh = ∅ := by
  intro op h; fin_cases b <;> fin_cases h <;> rfl

/-- The references the arms write. -/
abbrev arm_W : Fin 2 → List (Ref sig .tc)
  | 0 => [main_case0b0_values_12, main_case0b0_indices_13, main_v84]
  | 1 => [main_v84]
theorem arm_writes (b : Fin 2) : (armOps (F := F) b).Forall fun op => op.writes ⊆ ((arm_W b).map (Proc.devRef (τ := τ) .tc)).toFinset := by
  fin_cases b <;> exact StableHlo.forall_writes_sub_of_map rfl

/-- The arms as printed. -/
abbrev arms : Fin 2 → Prog (TpuEff nD τ sig (Elt F) (Pipeline.Sig Λ₀ (Fin 3) fun p => (pcfgs (F := F) p).Adm) .tc) PUnit
    | 0 => do
        hlo rfl (StableHlo.unary main_v70 main_case0b0_values_12 ((fun x => (Host.topK S1024x100 1 (FloatOps.cmpfTotal .gt) x sliceFits_S1024x100352_S1024x100).1) : (⟨S1024x100352, .f32⟩ : BufTy).Contents (Elt F) → (⟨S1024x100, .f32⟩ : BufTy).Contents (Elt F))) (fun _ => .ret ⟨⟩)
        hlo rfl (StableHlo.unary main_v70 main_case0b0_indices_13 ((fun x => (Host.topK S1024x100 1 (FloatOps.cmpfTotal .gt) x sliceFits_S1024x100352_S1024x100).2) : (⟨S1024x100352, .f32⟩ : BufTy).Contents (Elt F) → (⟨S1024x100, .i32⟩ : BufTy).Contents (Elt F))) (fun _ => .ret ⟨⟩)
        hlo rfl (StableHlo.unary main_case0b0_indices_13 main_v84 id) (fun _ => .ret ⟨⟩)
        pure ⟨⟩
    | 1 => do
        hlo rfl (StableHlo.unary main_v76 main_v84 id) (fun _ => .ret ⟨⟩)
        pure ⟨⟩
    | ⟨_ + 2, h⟩ => absurd h (Nat.not_lt.2 (Nat.le_add_left _ _))

/-- An arm is its operations in sequence. -/
theorem arms_eq (b : Fin 2) : arms (F := F) b = StableHlo.seq (armOps b) := by
  fin_cases b <;> chain_rfl

/-- The branch as printed. -/
abbrev condProg : Prog (TpuEff nD τ sig (Elt F) (Pipeline.Sig Λ₀ (Fin 3) fun p => (pcfgs (F := F) p).Adm) .tc) PUnit := do
  let x_v83 ← hlo rfl (StableHlo.unary main_v82 main_v83 ((extui 32 · natLt_1_32) : (⟨S_, .i1⟩ : BufTy).Contents (Elt F) → (⟨S_, .i32⟩ : BufTy).Contents (Elt F))) (HostLoop.elt main_v83)
  HostLoop.case 2 x_v83 arms

/-- The branch followed by anything is the read followed by the named arm and that. -/
theorem condProg_bind {β : Type} (k : PUnit → Prog (TpuEff nD τ sig (Elt F) (Pipeline.Sig Λ₀ (Fin 3) fun p => (pcfgs (F := F) p).Adm) .tc) β) :
    (condProg (F := F) >>= k) = hlo rfl (rdOp (F := F)) (fun w =>
      arms (HostLoop.branch (w ⟨main_v83, Finset.mem_singleton_self _⟩ HostLoop.idx0) 1) >>= k) := rfl

/-! ## The buffers' contents between items -/

variable (m : (ℓ : Loc nD τ sig) → Buf (Elt F) ℓ)

/-- The unscoped buffers at launch. -/
def V0 (c : Dev nD) : Valuation τ sig (Elt F) := fun b => m (c, b)
/-- After the host stretch `hostOps0`. -/
def V1 (c : Dev nD) : Valuation τ sig (Elt F) := StableHlo.after hostOps0 (V0 m c)
/-- After region 0. -/
def V2 (c : Dev nD) : Valuation τ sig (Elt F) := Function.update (V1 m c) main_v63 ((dat0 (V1 m) c).arrAt 5 cfg0.N)
/-- After the host stretch `hostOps1`. -/
def V3 (c : Dev nD) : Valuation τ sig (Elt F) := StableHlo.after hostOps1 (V2 m c)
/-- After the host stretch `hostOps1_1`. -/
def V4 (c : Dev nD) : Valuation τ sig (Elt F) := StableHlo.after hostOps1_1 (V3 m c)
/-- After the host stretch `hostOps1_2`. -/
def V5 (c : Dev nD) : Valuation τ sig (Elt F) := StableHlo.after hostOps1_2 (V4 m c)
/-- After region 1. -/
def V6 (c : Dev nD) : Valuation τ sig (Elt F) := Function.update (V5 m c) main_v70 ((dat1 (V5 m) c).arrAt 6 cfg1.N)
/-- After region 2. -/
def V7 (c : Dev nD) : Valuation τ sig (Elt F) := Function.update (Function.update (Function.update (V6 m c) main_v71_0 ((dat2 (V6 m) c).arrAt 1 cfg2.N)) main_v71_1 ((dat2 (V6 m) c).arrAt 2 cfg2.N)) main_v71_2 ((dat2 (V6 m) c).arrAt 3 cfg2.N)
/-- After the host stretch `hostOps3`. -/
def V8 (c : Dev nD) : Valuation τ sig (Elt F) := StableHlo.after hostOps3 (V7 m c)
/-- After the host stretch `hostOps3_1`. -/
def V9 (c : Dev nD) : Valuation τ sig (Elt F) := StableHlo.after hostOps3_1 (V8 m c)
/-- After the host stretch `hostOps3_2`. -/
def V10 (c : Dev nD) : Valuation τ sig (Elt F) := StableHlo.after hostOps3_2 (V9 m c)
/-- After the read of the branch's word, and after the arm it names. -/
def Vr (c : Dev nD) : Valuation τ sig (Elt F) := StableHlo.after [rdOp] (V10 m c)
abbrev word (c : Dev nD) : BitVec 32 := Vr m c main_v83 HostLoop.idx0
def V11 (c : Dev nD) : Valuation τ sig (Elt F) := StableHlo.after (armOps (HostLoop.branch (word m c) 1)) (Vr m c)
theorem hostOps0_fresh : (hostOps0 : List (HloOp τ sig (Elt F))).Forall fun op => op.fresh = ∅ := by
  simp only [List.Forall]; repeat' constructor
/-- The references `hostOps0` writes, in order. -/
abbrev hostOps0_W : List (Ref sig .tc) := [main_v0, main_cst, main_v1, main_v2, main_v3, main_cst_0, main_v4, main_v5, main_v6, main_v7, main_v8, main_v9, main_v10, main_cst_1, main_v11, main_v12, main_v13, main_v14, main_values, main_indices, main_v15, main_v16, main_v17, main_v18, main_v19, main_v20, main_v21, main_v22, main_v23, main_cst_2, main_v24, main_v25, main_v26, main_v27, main_v28, main_v29, main_v30, main_v31, main_v32, main_v33, main_v34, main_v35, main_c, main_v36, main_v37, main_c_3, main_v38, main_v39, main_v40, main_c_4, main_v41, main_v42, main_c_5, main_v43, main_v44, main_v45, main_v46, main_v47, main_v48, main_v49, main_v50, main_v51, main_v52, main_v53, main_v54, main_v55, main_v56, main_v57, main_v58, main_v59, main_v60, main_v61, main_v62]
theorem hostOps0_writes : (hostOps0 : List (HloOp τ sig (Elt F))).Forall fun op => op.writes ⊆ (hostOps0_W.map (Proc.devRef (τ := τ) .tc)).toFinset :=
  StableHlo.forall_writes_sub_of_map rfl
theorem hostOps1_fresh : (hostOps1 : List (HloOp τ sig (Elt F))).Forall fun op => op.fresh = ∅ := by
  simp only [List.Forall]; repeat' constructor
/-- The references `hostOps1` writes, in order. -/
abbrev hostOps1_W : List (Ref sig .tc) := [main_v64, main_v65, main_c_6, main_v66, main_v67, main_cst_7]
theorem hostOps1_writes : (hostOps1 : List (HloOp τ sig (Elt F))).Forall fun op => op.writes ⊆ (hostOps1_W.map (Proc.devRef (τ := τ) .tc)).toFinset :=
  StableHlo.forall_writes_sub_of_map rfl
theorem hostOps1_1_fresh : (hostOps1_1 : List (HloOp τ sig (Elt F))).Forall fun op => op.fresh = ∅ := by
  simp only [List.Forall]; repeat' constructor
/-- The references `hostOps1_1` writes, in order. -/
abbrev hostOps1_1_W : List (Ref sig .tc) := [main_call0_v0, main_call0_v1, main_v68]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_2_fresh : (hostOps1_2 : List (HloOp τ sig (Elt F))).Forall fun op => op.fresh = ∅ := by
  simp only [List.Forall]; repeat' constructor
/-- The references `hostOps1_2` writes, in order. -/
abbrev hostOps1_2_W : List (Ref sig .tc) := [main_v69]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps3_fresh : (hostOps3 : List (HloOp τ sig (Elt F))).Forall fun op => op.fresh = ∅ := by
  simp only [List.Forall]; repeat' constructor
/-- The references `hostOps3` writes, in order. -/
abbrev hostOps3_W : List (Ref sig .tc) := [main_v72, main_v73, main_v74, main_v75, main_values_8, main_indices_9]
theorem hostOps3_writes : (hostOps3 : List (HloOp τ sig (Elt F))).Forall fun op => op.writes ⊆ (hostOps3_W.map (Proc.devRef (τ := τ) .tc)).toFinset :=
  StableHlo.forall_writes_sub_of_map rfl
theorem hostOps3_1_fresh : (hostOps3_1 : List (HloOp τ sig (Elt F))).Forall fun op => op.fresh = ∅ := by
  simp only [List.Forall]; repeat' constructor
/-- The references `hostOps3_1` writes, in order. -/
abbrev hostOps3_1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_c_4, main_call1_v14, main_v76]
theorem hostOps3_1_writes : (hostOps3_1 : List (HloOp τ sig (Elt F))).Forall fun op => op.writes ⊆ (hostOps3_1_W.map (Proc.devRef (τ := τ) .tc)).toFinset :=
  StableHlo.forall_writes_sub_of_map rfl
theorem hostOps3_2_fresh : (hostOps3_2 : List (HloOp τ sig (Elt F))).Forall fun op => op.fresh = ∅ := by
  simp only [List.Forall]; repeat' constructor
/-- The references `hostOps3_2` writes, in order. -/
abbrev hostOps3_2_W : List (Ref sig .tc) := [main_v77, main_v78, main_v79, main_cst_10, main_v80, main_v81, main_c_11, main_v82]
theorem hostOps3_2_writes : (hostOps3_2 : List (HloOp τ sig (Elt F))).Forall fun op => op.writes ⊆ (hostOps3_2_W.map (Proc.devRef (τ := τ) .tc)).toFinset :=
  StableHlo.forall_writes_sub_of_map rfl

/-! ## What each item leaves unchanged -/

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v63] : List (Ref sig .tc))) : V2 m c r = V1 m c r := by
  unfold V2
  simp only [List.mem_cons, List.not_mem_nil, _root_.or_false, not_or] at h
  rw [Function.update_of_ne (StableHlo.devRef_ne_of_ne h)]
theorem V2_main_v63 (c : Dev nD) : V2 m c main_v63 = (dat0 (V1 m) c).arrAt 5 cfg0.N := by
  unfold V2
  rw [Function.update_self]
theorem V3_of (c : Dev nD) (r : Ref sig .tc) (h : r ∉ hostOps1_W) : V3 m c r = V2 m c r :=
  StableHlo.after_of_writes_sub hostOps1 _ hostOps1_writes h
theorem V4_of (c : Dev nD) (r : Ref sig .tc) (h : r ∉ hostOps1_1_W) : V4 m c r = V3 m c r :=
  StableHlo.after_of_writes_sub hostOps1_1 _ hostOps1_1_writes h
theorem V5_of (c : Dev nD) (r : Ref sig .tc) (h : r ∉ hostOps1_2_W) : V5 m c r = V4 m c r :=
  StableHlo.after_of_writes_sub hostOps1_2 _ hostOps1_2_writes h
theorem V6_of (c : Dev nD) (r : Ref sig .tc) (h : r ∉ ([main_v70] : List (Ref sig .tc))) : V6 m c r = V5 m c r := by
  unfold V6
  simp only [List.mem_cons, List.not_mem_nil, _root_.or_false, not_or] at h
  rw [Function.update_of_ne (StableHlo.devRef_ne_of_ne h)]
theorem V6_main_v70 (c : Dev nD) : V6 m c main_v70 = (dat1 (V5 m) c).arrAt 6 cfg1.N := by
  unfold V6
  rw [Function.update_self]
theorem V7_of (c : Dev nD) (r : Ref sig .tc) (h : r ∉ ([main_v71_0, main_v71_1, main_v71_2] : List (Ref sig .tc))) : V7 m c r = V6 m c r := by
  unfold V7
  simp only [List.mem_cons, List.not_mem_nil, _root_.or_false, not_or] at h
  rw [Function.update_of_ne (StableHlo.devRef_ne_of_ne h.2.2), Function.update_of_ne (StableHlo.devRef_ne_of_ne h.2.1), Function.update_of_ne (StableHlo.devRef_ne_of_ne h.1)]
theorem V7_main_v71_0 (c : Dev nD) : V7 m c main_v71_0 = (dat2 (V6 m) c).arrAt 1 cfg2.N := by
  unfold V7
  rw [Function.update_of_ne (StableHlo.devRef_ne_of_ne (by decide)), Function.update_of_ne (StableHlo.devRef_ne_of_ne (by decide)), Function.update_self]
theorem V7_main_v71_1 (c : Dev nD) : V7 m c main_v71_1 = (dat2 (V6 m) c).arrAt 2 cfg2.N := by
  unfold V7
  rw [Function.update_of_ne (StableHlo.devRef_ne_of_ne (by decide)), Function.update_self]
theorem V7_main_v71_2 (c : Dev nD) : V7 m c main_v71_2 = (dat2 (V6 m) c).arrAt 3 cfg2.N := by
  unfold V7
  rw [Function.update_self]
theorem V8_of (c : Dev nD) (r : Ref sig .tc) (h : r ∉ hostOps3_W) : V8 m c r = V7 m c r :=
  StableHlo.after_of_writes_sub hostOps3 _ hostOps3_writes h
theorem V9_of (c : Dev nD) (r : Ref sig .tc) (h : r ∉ hostOps3_1_W) : V9 m c r = V8 m c r :=
  StableHlo.after_of_writes_sub hostOps3_1 _ hostOps3_1_writes h
theorem V10_of (c : Dev nD) (r : Ref sig .tc) (h : r ∉ hostOps3_2_W) : V10 m c r = V9 m c r :=
  StableHlo.after_of_writes_sub hostOps3_2 _ hostOps3_2_writes h
theorem Vr_of (c : Dev nD) (r : Ref sig .tc) (h : r ∉ ([main_v83] : List (Ref sig .tc))) : Vr m c r = V10 m c r :=
  StableHlo.after_of_writes_sub [rdOp] _ (StableHlo.forall_writes_sub_of_map rfl) h
theorem V11_of (c : Dev nD) (r : Ref sig .tc) (h : ∀ b, r ∉ arm_W b) : V11 m c r = Vr m c r :=
  StableHlo.after_of_writes_sub _ _ (arm_writes _) (h _)
theorem V11_main_arg0 (c : Dev nD) : V11 m c main_arg0 = m ((c : Thread nD τ).loc main_arg0) :=
  (V11_of m c main_arg0 (by decide)).trans <|
    (Vr_of m c main_arg0 (by decide)).trans <|
    (V10_of m c main_arg0 (by decide)).trans <|
    (V9_of m c main_arg0 (by decide)).trans <|
    (V8_of m c main_arg0 (by decide)).trans <|
    (V7_of m c main_arg0 (by decide)).trans <|
    (V6_of m c main_arg0 (by decide)).trans <|
    (V5_of m c main_arg0 (by decide)).trans <|
    (V4_of m c main_arg0 (by decide)).trans <|
    (V3_of m c main_arg0 (by decide)).trans <|
    (V2_of m c main_arg0 (by decide)).trans <|
    (V1_of m c main_arg0 (by decide)).trans <|
    rfl
theorem V11_main_arg1 (c : Dev nD) : V11 m c main_arg1 = m ((c : Thread nD τ).loc main_arg1) :=
  (V11_of m c main_arg1 (by decide)).trans <|
    (Vr_of m c main_arg1 (by decide)).trans <|
    (V10_of m c main_arg1 (by decide)).trans <|
    (V9_of m c main_arg1 (by decide)).trans <|
    (V8_of m c main_arg1 (by decide)).trans <|
    (V7_of m c main_arg1 (by decide)).trans <|
    (V6_of m c main_arg1 (by decide)).trans <|
    (V5_of m c main_arg1 (by decide)).trans <|
    (V4_of m c main_arg1 (by decide)).trans <|
    (V3_of m c main_arg1 (by decide)).trans <|
    (V2_of m c main_arg1 (by decide)).trans <|
    (V1_of m c main_arg1 (by decide)).trans <|
    rfl
theorem V11_main_arg2 (c : Dev nD) : V11 m c main_arg2 = m ((c : Thread nD τ).loc main_arg2) :=
  (V11_of m c main_arg2 (by decide)).trans <|
    (Vr_of m c main_arg2 (by decide)).trans <|
    (V10_of m c main_arg2 (by decide)).trans <|
    (V9_of m c main_arg2 (by decide)).trans <|
    (V8_of m c main_arg2 (by decide)).trans <|
    (V7_of m c main_arg2 (by decide)).trans <|
    (V6_of m c main_arg2 (by decide)).trans <|
    (V5_of m c main_arg2 (by decide)).trans <|
    (V4_of m c main_arg2 (by decide)).trans <|
    (V3_of m c main_arg2 (by decide)).trans <|
    (V2_of m c main_arg2 (by decide)).trans <|
    (V1_of m c main_arg2 (by decide)).trans <|
    rfl
theorem V11_main_arg3 (c : Dev nD) : V11 m c main_arg3 = m ((c : Thread nD τ).loc main_arg3) :=
  (V11_of m c main_arg3 (by decide)).trans <|
    (Vr_of m c main_arg3 (by decide)).trans <|
    (V10_of m c main_arg3 (by decide)).trans <|
    (V9_of m c main_arg3 (by decide)).trans <|
    (V8_of m c main_arg3 (by decide)).trans <|
    (V7_of m c main_arg3 (by decide)).trans <|
    (V6_of m c main_arg3 (by decide)).trans <|
    (V5_of m c main_arg3 (by decide)).trans <|
    (V4_of m c main_arg3 (by decide)).trans <|
    (V3_of m c main_arg3 (by decide)).trans <|
    (V2_of m c main_arg3 (by decide)).trans <|
    (V1_of m c main_arg3 (by decide)).trans <|
    rfl
theorem V11_main_arg4 (c : Dev nD) : V11 m c main_arg4 = m ((c : Thread nD τ).loc main_arg4) :=
  (V11_of m c main_arg4 (by decide)).trans <|
    (Vr_of m c main_arg4 (by decide)).trans <|
    (V10_of m c main_arg4 (by decide)).trans <|
    (V9_of m c main_arg4 (by decide)).trans <|
    (V8_of m c main_arg4 (by decide)).trans <|
    (V7_of m c main_arg4 (by decide)).trans <|
    (V6_of m c main_arg4 (by decide)).trans <|
    (V5_of m c main_arg4 (by decide)).trans <|
    (V4_of m c main_arg4 (by decide)).trans <|
    (V3_of m c main_arg4 (by decide)).trans <|
    (V2_of m c main_arg4 (by decide)).trans <|
    (V1_of m c main_arg4 (by decide)).trans <|
    rfl

end Cert.KernelIdeal.Own

end
-- ==== Proof.KIRun.lean ====
/-
  The whole program's run: each region as a segment over the unscoped buffers, and the run composed from the segments. Every
  argument ends as launched, the result holds what the last contents say, and every semaphore counter is zero.
-/
module

public import proofs.«01_k».proof.Proof.KIVals

@[expose] public section

set_option maxRecDepth 4096

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## The segments -/

abbrev 𝒱₀ : Variants := Variants.none
/-- No core owes another anything: no level is assigned. -/
abbrev L : GSem nD τ sig → Finset Unit := fun _ => ∅
abbrev lv : GSem nD τ sig → Unit → ℕ := fun _ _ => 0
/-- No region has a prefetched table. -/
abbrev adm : (p : Fin 3) → (pcfgs (F := F) p).Adm := fun p => (cfgs p).toPCfg_adm
/-- What rides beside the buffers. -/
abbrev E (c : Dev nD) : sProp 𝕄 := iprop(∃ W, owes (c : Thread nD τ) (0 : CellTallies nD τ sig Unit) W)

/-- The regions' proof data, each entered from the contents its item finds. -/
def pdats : (p : Fin 3) → (c : Dev nD) → Dat τ (Elt F) Unit ℕ (UR sig nD τ) ℕ (cfgs p) c
  | ⟨0, _⟩ => fun c => dat0 (V1 m) c
  | ⟨1, _⟩ => fun c => dat1 (V5 m) c
  | ⟨2, _⟩ => fun c => dat2 (V6 m) c

def seg0 : HostSeg (Ix := Unit) (Name := ℕ) (U := UR sig nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E

-- a launch lemma stated over the pinned configuration unifies only when unification may unfold plain definitions in a
-- metavariable's type
set_option backward.isDefEq.respectTransparency.types false in
set_option maxHeartbeats 1000000 in
/-- Region 0 over the unscoped buffers: its arrays taken out, put back at what the write-backs leave. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (V1 m c) ∗ E c)
  post c := iprop(StableHlo.held (c : Thread nD τ) (Pipeline.ucRefs τ sig) (V2 m c) ∗ E c)
  X _ := BI.emp
  Y _ := BI.emp
  Z c := Pipeline.unscopedRest (Ix := Unit) (Name := ℕ) (U := UR sig nD τ) (Lvl := ℕ) spec0 c (fun b => V1 m c b)
  hentry c := by
    rw [Pipeline.ownSems0_none, ← Pipeline.unscopedBufs_held (Ix := Unit) (Name := ℕ) (U := UR sig nD τ) (Lvl := ℕ) c (V1 m c)]
    have hsplit := Pipeline.arrays_of_unscopedBufs (p := 0) (pcfgs (F := F)) adm (pdats m) launch0.win launch0.arr_whole c
      ((pdats m 0 c).share_full fun _ => rfl) (fun b => V1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats m 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [← Pipeline.unscopedBufs_held (Ix := Unit) (Name := ℕ) (U := UR sig nD τ) (Lvl := ℕ) c (V2 m c)]
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => V1 m c b) (fun b => V2 m c b) ((pdats m 0 c).arrAt · cfg0.N)
      (fun w => by
        fin_cases w
        · exact ((pdats m 0 c).arrAt_in 0 rfl _).trans (V2_of m c (Pipeline.arrRef spec0 0) (by decide)).symm
        · exact ((pdats m 0 c).arrAt_in 1 rfl _).trans (V2_of m c (Pipeline.arrRef spec0 1) (by decide)).symm
        · exact ((pdats m 0 c).arrAt_in 2 rfl _).trans (V2_of m c (Pipeline.arrRef spec0 2) (by decide)).symm
        · exact ((pdats m 0 c).arrAt_in 3 rfl _).trans (V2_of m c (Pipeline.arrRef spec0 3) (by decide)).symm
        · exact ((pdats m 0 c).arrAt_in 4 rfl _).trans (V2_of m c (Pipeline.arrRef spec0 4) (by decide)).symm
        · exact (V2_main_v63 m c).symm)
      (fun b hb => V2_of m c b fun h => hb (by rw [List.mem_singleton] at h; subst h; exact Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

def seg2 : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) E
def seg3 : HostSeg (Ix := Unit) (Name := ℕ) (U := UR sig nD τ) (Lvl := ℕ) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (V3 m) E
def seg4 : HostSeg (Ix := Unit) (Name := ℕ) (U := UR sig nD τ) (Lvl := ℕ) (pcfgs (F := F)) defs₀ 𝒱₀ L lv :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (V4 m) E

-- a launch lemma stated over the pinned configuration unifies only when unification may unfold plain definitions in a
-- metavariable's type
set_option backward.isDefEq.respectTransparency.types false in
set_option maxHeartbeats 1000000 in
/-- Region 1 over the unscoped buffers: its arrays taken out, put back at what the write-backs leave. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (V5 m c) ∗ E c)
  post c := iprop(StableHlo.held (c : Thread nD τ) (Pipeline.ucRefs τ sig) (V6 m c) ∗ E c)
  X _ := BI.emp
  Y _ := BI.emp
  Z c := Pipeline.unscopedRest (Ix := Unit) (Name := ℕ) (U := UR sig nD τ) (Lvl := ℕ) spec1 c (fun b => V5 m c b)
  hentry c := by
    rw [Pipeline.ownSems0_none, ← Pipeline.unscopedBufs_held (Ix := Unit) (Name := ℕ) (U := UR sig nD τ) (Lvl := ℕ) c (V5 m c)]
    have hsplit := Pipeline.arrays_of_unscopedBufs (p := 1) (pcfgs (F := F)) adm (pdats m) launch1.win launch1.arr_whole c
      ((pdats m 1 c).share_full fun _ => rfl) (fun b => V5 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    rw [← Pipeline.unscopedBufs_held (Ix := Unit) (Name := ℕ) (U := UR sig nD τ) (Lvl := ℕ) c (V6 m c)]
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => V5 m c b) (fun b => V6 m c b) ((pdats m 1 c).arrAt · cfg1.N)
      (fun w => by
        fin_cases w
        · exact ((pdats m 1 c).arrAt_in 0 rfl _).trans (V6_of m c (Pipeline.arrRef spec1 0) (by decide)).symm
        · exact ((pdats m 1 c).arrAt_in 1 rfl _).trans (V6_of m c (Pipeline.arrRef spec1 1) (by decide)).symm
        · exact ((pdats m 1 c).arrAt_in 2 rfl _).trans (V6_of m c (Pipeline.arrRef spec1 2) (by decide)).symm
        · exact ((pdats m 1 c).arrAt_in 3 rfl _).trans (V6_of m c (Pipeline.arrRef spec1 3) (by decide)).symm
        · exact ((pdats m 1 c).arrAt_in 4 rfl _).trans (V6_of m c (Pipeline.arrRef spec1 4) (by decide)).symm
        · exact ((pdats m 1 c).arrAt_in 5 rfl _).trans (V6_of m c (Pipeline.arrRef spec1 5) (by decide)).symm
        · exact (V6_main_v70 m c).symm)
      (fun b hb => V6_of m c b fun h => hb (by rw [List.mem_singleton] at h; subst h; exact Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- a launch lemma stated over the pinned configuration unifies only when unification may unfold plain definitions in a
-- metavariable's type
set_option backward.isDefEq.respectTransparency.types false in
set_option maxHeartbeats 1000000 in
/-- Region 2 over the unscoped buffers: its arrays taken out, put back at what the write-backs leave. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (V6 m c) ∗ E c)
  post c := iprop(StableHlo.held (c : Thread nD τ) (Pipeline.ucRefs τ sig) (V7 m c) ∗ E c)
  X _ := BI.emp
  Y _ := BI.emp
  Z c := Pipeline.unscopedRest (Ix := Unit) (Name := ℕ) (U := UR sig nD τ) (Lvl := ℕ) spec2 c (fun b => V6 m c b)
  hentry c := by
    rw [Pipeline.ownSems0_none, ← Pipeline.unscopedBufs_held (Ix := Unit) (Name := ℕ) (U := UR sig nD τ) (Lvl := ℕ) c (V6 m c)]
    have hsplit := Pipeline.arrays_of_unscopedBufs (p := 2) (pcfgs (F := F)) adm (pdats m) launch2.win launch2.arr_whole c
      ((pdats m 2 c).share_full fun _ => rfl) (fun b => V6 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 2 c).Φ 0 = Pipeline.scopedRest (Ix := Unit) (Name := ℕ) (U := UR sig nD τ) (Lvl := ℕ) (Val := Elt F) spec2 c from rfl]
    iintro ⟨-, -, Hr⟩; iexact Hr
  hout c := by
    rw [Pipeline.ownSems0_none, show (pdats m 2 c).Φ (Fin.last _) = Pipeline.scopedRest (Ix := Unit) (Name := ℕ) (U := UR sig nD τ) (Lvl := ℕ) (Val := Elt F) spec2 c from rfl]
    iintro Hr
    isplitr; · iempintro
    isplitr; · iempintro
    iexact Hr
  hexit c := by
    rw [← Pipeline.unscopedBufs_held (Ix := Unit) (Name := ℕ) (U := UR sig nD τ) (Lvl := ℕ) c (V7 m c)]
    have hjoin := Pipeline.unscopedBufs_of_arrays (p := 2) (pcfgs (F := F)) adm (Ix := Unit) (Name := ℕ) (U := UR sig nD τ) (Lvl := ℕ) launch2.win launch2.arr_whole c
      (pdats m) ((pdats m 2 c).share_full fun _ => rfl) (fun b => V6 m c b) (fun b => V7 m c b) ((pdats m 2 c).arrAt · cfg2.N)
      (fun w => by
        fin_cases w
        · exact ((pdats m 2 c).arrAt_in 0 rfl _).trans (V7_of m c (Pipeline.arrRef spec2 0) (by decide)).symm
        · exact (V7_main_v71_0 m c).symm
        · exact (V7_main_v71_1 m c).symm
        · exact (V7_main_v71_2 m c).symm)
      (fun b hb => V7_of m c b fun h => hb (by
        simp only [List.mem_cons, List.not_mem_nil, _root_.or_false] at h
        rcases h with rfl | rfl | rfl
        · exact Finset.mem_image.mpr ⟨1, Finset.mem_univ _, rfl⟩
        · exact Finset.mem_image.mpr ⟨2, Finset.mem_univ _, rfl⟩
        · exact Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

def seg7 : HostSeg (Ix := Unit) (Name := ℕ) (U := UR sig nD τ) (Lvl := ℕ) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V7 m) E
def seg8 : HostSeg (Ix := Unit) (Name := ℕ) (U := UR sig nD τ) (Lvl := ℕ) (pcfgs (F := F)) defs₀ 𝒱₀ L lv :=
  HostSeg.ofOps _ _ _ _ _ (Pipeline.ucRefs τ sig) hostOps3_1
    (fun op h => Pipeline.sub_ucRefs op ((List.forall_iff_forall_mem.mp hostOps3_1_sub) op h))
    (fun op h => (List.forall_iff_forall_mem.mp hostOps3_1_fresh) op h) (V8 m) E
def seg9 : HostSeg (Ix := Unit) (Name := ℕ) (U := UR sig nD τ) (Lvl := ℕ) (pcfgs (F := F)) defs₀ 𝒱₀ L lv :=
  HostSeg.ofOps _ _ _ _ _ (Pipeline.ucRefs τ sig) hostOps3_2
    (fun op h => Pipeline.sub_ucRefs op ((List.forall_iff_forall_mem.mp hostOps3_2_sub) op h))
    (fun op h => (List.forall_iff_forall_mem.mp hostOps3_2_fresh) op h) (V9 m) E

set_option backward.isDefEq.respectTransparency.types false in
set_option maxHeartbeats 1000000 in
/-- The branch: the word read, then the operations of the arm it names. -/
def seg10 : HostSeg (Ix := Unit) (Name := ℕ) (U := UR sig nD τ) (Lvl := ℕ) (pcfgs (F := F)) defs₀ 𝒱₀ L lv where
  prog := condProg
  pre c := iprop(StableHlo.held (c.tc : Thread nD τ) (Pipeline.ucRefs τ sig) (V10 m c) ∗ E c)
  post c := iprop(StableHlo.held (c.tc : Thread nD τ) (Pipeline.ucRefs τ sig) (V11 m c) ∗ E c)
  run c {β} k K := by
    rw [condProg_bind]
    simp only [arms_eq]
    have hseq := fun b => StableHlo.wp_seq (defs := Pipeline.defs (pcfgs (F := F)) defs₀) (Variants.lift 𝒱₀) none Set.univ c (Pipeline.ucRefs τ sig) k (K := K) (armOps b) (armOps_sub b) (armOps_fresh b) (Vr m c)
    iintro ⟨Hk, Hbd, ⟨Hh, HO⟩, -⟩
    iapply (StableHlo.wp_hlo_within (Variants.lift 𝒱₀) (c : Thread nD τ) none Set.univ (Pipeline.sub_ucRefs _ (StableHlo.unary_bufs_sub ..))) $$ [Hbd Hh]
    · isplitl [Hbd]; · iexact Hbd
      iexact Hh
    iintro ⟨Hbd, Hh⟩
    iapply hseq _ $$ [Hbd Hh]
    · isplitl [Hbd]; · iexact Hbd
      unfold Vr; rw [StableHlo.after_cons, StableHlo.after_nil]; iexact Hh
    iintro ⟨Hbd, Hh⟩
    iapply Hk
    isplitl [Hbd]; · iexact Hbd
    isplitl [Hh]; · iexact Hh
    iexact HO

/-- The program's items as segments. -/
abbrev segs (c : Dev nD) : List (Seg (pcfgs (F := F)) adm (pdats m) () defs₀ 𝒱₀ L lv) :=
  [.host (seg0 m), .region (reg0 m), .host (seg2 m), .host (seg3 m), .host (seg4 m), .region (reg1 m), .region (reg2 m), .host (seg7 m), .host (seg8 m), .host (seg9 m), .host (seg10 m)]

/-- The regions run are the three, each once. -/
theorem pipes_nodup (c : Dev nD) : (Seg.pipes (segs m c)).Nodup := by
  have h : Seg.pipes (segs m c) = ([0, 1, 2] : List (Fin 3)) := rfl
  rw [h]; decide

/-- The program's last item is the branch as named above. -/
theorem cond_eq : ((do
      let x_v83 ← hlo rfl (StableHlo.unary main_v82 main_v83 ((extui 32 · natLt_1_32) : (⟨S_, .i1⟩ : BufTy).Contents (Elt F) → (⟨S_, .i32⟩ : BufTy).Contents (Elt F))) (HostLoop.elt main_v83)
      HostLoop.case 2 x_v83 fun
        | 0 => do
            hlo rfl (StableHlo.unary main_v70 main_case0b0_values_12 ((fun x => (Host.topK S1024x100 1 (FloatOps.cmpfTotal .gt) x sliceFits_S1024x100352_S1024x100).1) : (⟨S1024x100352, .f32⟩ : BufTy).Contents (Elt F) → (⟨S1024x100, .f32⟩ : BufTy).Contents (Elt F))) (fun _ => .ret ⟨⟩)
            hlo rfl (StableHlo.unary main_v70 main_case0b0_indices_13 ((fun x => (Host.topK S1024x100 1 (FloatOps.cmpfTotal .gt) x sliceFits_S1024x100352_S1024x100).2) : (⟨S1024x100352, .f32⟩ : BufTy).Contents (Elt F) → (⟨S1024x100, .i32⟩ : BufTy).Contents (Elt F))) (fun _ => .ret ⟨⟩)
            hlo rfl (StableHlo.unary main_case0b0_indices_13 main_v84 id) (fun _ => .ret ⟨⟩)
            pure ⟨⟩
        | 1 => do
            hlo rfl (StableHlo.unary main_v76 main_v84 id) (fun _ => .ret ⟨⟩)
            pure ⟨⟩
        | ⟨_ + 2, h⟩ => absurd h (Nat.not_lt.2 (Nat.le_add_left _ _)) ) : Prog (TpuEff nD τ sig (Elt F) (Pipeline.Sig Λ₀ (Fin 3) fun p => (pcfgs (F := F) p).Adm) .tc) PUnit) = condProg := by
  refine congrArg (fun k => hlo rfl (rdOp (F := F)) (HostLoop.elt main_v83) >>= k) (funext fun x => ?_)
  show _ = arms (HostLoop.branch x 1)
  simp only [HostLoop.case]
  generalize HostLoop.branch x 1 = b
  match b with
  | 0 => rfl
  | 1 => rfl

/-- The program is the chain of its items, the branch under its name. -/
theorem main_items (c : Dev nD) : main (F := F) c = Pipeline.chain
  [ StableHlo.seq hostOps0,
    Prog.lift (.customCall (Pipeline.entry 0) ()),
    StableHlo.seq hostOps1,
    StableHlo.seq hostOps1_1,
    StableHlo.seq hostOps1_2,
    Prog.lift (.customCall (Pipeline.entry 1) ()),
    Prog.lift (.customCall (Pipeline.entry 2) ()),
    StableHlo.seq hostOps3,
    StableHlo.seq hostOps3_1,
    StableHlo.seq hostOps3_2,
    condProg ] :=
  (main_chain c).trans (congrArg (fun p => Pipeline.chain
  [ StableHlo.seq hostOps0,
    Prog.lift (.customCall (Pipeline.entry 0) ()),
    StableHlo.seq hostOps1,
    StableHlo.seq hostOps1_1,
    StableHlo.seq hostOps1_2,
    Prog.lift (.customCall (Pipeline.entry 1) ()),
    Prog.lift (.customCall (Pipeline.entry 2) ()),
    StableHlo.seq hostOps3,
    StableHlo.seq hostOps3_1,
    StableHlo.seq hostOps3_2,
    p ]) cond_eq)

/-- Every semaphore is scoped. -/
theorem no_unscoped : ∀ sm : SemLoc sig, sm.isScoped .tc = true := by decide

set_option backward.isDefEq.respectTransparency.types false in
set_option maxHeartbeats 1000000 in
/-- From any memory with zero counters every weakly fair execution terminates, every argument ends as launched, the result
    holds the last contents, and every semaphore counter is zero. -/
theorem run_main (ρ : Dev nD → PrngReg) :
    θ_run defs (onTc (τ := τ) (main (F := F))) ⟨m, fun _ => 0, ρ⟩ (fun r => (∀ c : Dev nD,
      (r.2.mem ((c.tc : Thread nD τ).loc main_v84) = V11 m c main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) adm (pdats m) () cellOf_inj emb₁ defs₀ 𝒱₀ L lv m ρ main
    (segs m)
    (fun c Q => by
      rewrite [main_items c, Seg.run_eq_chain,
        show (segs m c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          Prog.lift (.customCall (Pipeline.entry 2) ()),
          StableHlo.seq hostOps3,
          StableHlo.seq hostOps3_1,
          StableHlo.seq hostOps3_2,
          condProg ] from rfl]
      exact .rfl)
    (fun c => pipes_nodup m c) (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E c))
    (Tₙ := fun c => StableHlo.held (c : Thread nD τ) (Pipeline.ucRefs τ sig) (V11 m c))
    (hch := fun c => ⟨.rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v84) = V11 m c main_v84
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h hz => ⟨h, funext fun g => hz g (.inr (no_unscoped g.2))⟩)
  unfold StableHlo.held
  iintro ⟨Hh, HSI⟩
  ihave Hr := (pointsTo_read_all (Pipeline.ucRefs τ sig) (fun b => ((c : Thread nD τ).1, b)) (V11 m c) s') $$ [Hh HSI]
  · isplitl [Hh] <;> iassumption
  icases Hr with ⟨%h, HSI⟩
  imodintro
  isplitr
  · ipureintro
    exact ⟨h (Proc.devRef .tc main_v84) (Finset.mem_filter.mpr ⟨StableHlo.devRef_mem_tcRefs main_v84, by decide⟩),
      (h (Proc.devRef .tc main_arg0) (Finset.mem_filter.mpr ⟨StableHlo.devRef_mem_tcRefs main_arg0, by decide⟩)).trans (V11_main_arg0 m c),
      (h (Proc.devRef .tc main_arg1) (Finset.mem_filter.mpr ⟨StableHlo.devRef_mem_tcRefs main_arg1, by decide⟩)).trans (V11_main_arg1 m c),
      (h (Proc.devRef .tc main_arg2) (Finset.mem_filter.mpr ⟨StableHlo.devRef_mem_tcRefs main_arg2, by decide⟩)).trans (V11_main_arg2 m c),
      (h (Proc.devRef .tc main_arg3) (Finset.mem_filter.mpr ⟨StableHlo.devRef_mem_tcRefs main_arg3, by decide⟩)).trans (V11_main_arg3 m c),
      (h (Proc.devRef .tc main_arg4) (Finset.mem_filter.mpr ⟨StableHlo.devRef_mem_tcRefs main_arg4, by decide⟩)).trans (V11_main_arg4 m c)⟩
  · iexact HSI

end Cert.KernelIdeal.Own

end
-- ==== Proof.Frames.lean ====
/-
  The three programs run from any memory, leave their arguments unchanged and end with every semaphore counter at zero; and
  the one constant the idealized kernel names.
-/
module

public import proofs.«01_k».proof.Defs
public import proofs.«01_k».proof.Proof.KRun
public import proofs.«01_k».proof.Proof.KIRun
public import proofs.«01_k».proof.Proof.Gen.ReferenceIdeal
public import proofs.«01_k».proof.Proof.Gen.ReferenceIdeal.Run
public import proofs.«01_k».proof.Proof.Gen.Pre_pre
public import Idealize.ShloMosaic.Adequacy
public import Idealize.ShloMosaic.Init

@[expose] public section

noncomputable section

namespace Cert.Own

open Idealize.ShloMosaic Idealize.SL.Sem

/-- The kernel's frame. -/
theorem frame_kernel : Cert.quiescent_Kernel (hKernel := Cert.Kernel.Gen.facts) := fun m g _ =>
  (θ_run _ _ _).mono (fun r h => ⟨fun c => (h.1 c).2, h.2⟩) (Cert.Kernel.Own.run_main m g)

/-- The idealized kernel's frame. -/
theorem frame_kernelIdeal : Cert.quiescent_KernelIdeal (hKernelIdeal := Cert.KernelIdeal.Gen.facts) := fun m g _ =>
  (θ_run _ _ _).mono (fun r h => ⟨fun c => (h.1 c).2, h.2⟩) (Cert.KernelIdeal.Own.run_main m g)

/-- The reference's frame: it declares no semaphore. -/
theorem frame_referenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run m g)

/-- The idealized kernel's frame, the precondition not used. -/
theorem frame_kernelIdeal_pre : Cert.quiescent_KernelIdeal_pre_pre (hKernelIdeal := Cert.KernelIdeal.Gen.facts) (hPre_pre := Cert.Pre_pre.Gen.facts) :=
  fun m g _ => (θ_run _ _ _).mono (fun r h => ⟨fun c => (h.1 c).2, h.2⟩) (Cert.KernelIdeal.Own.run_main m g)

/-- The reference's frame, the precondition not used. -/
theorem frame_referenceIdeal_pre : Cert.quiescent_ReferenceIdeal_pre_pre (hReferenceIdeal := Cert.ReferenceIdeal.Gen.facts) (hPre_pre := Cert.Pre_pre.Gen.facts) :=
  fun m g _ => (θ_run _ _ _).mono (fun r h => ⟨fun c => (h c).2, sem_eq_zero_of_no_sems (by decide) r.2⟩)
    (Cert.ReferenceIdeal.Value.run m g)

/-- The named constant: the masking value read as the least extended real. -/
theorem preserves_kernel : Cert.preserves_Kernel_KernelIdeal :=
  IdealRules.named_const.statement Cert.KernelIdeal.κ "unprobed" .f32 0xF149F2CA#32 ⊥ rfl

end Cert.Own

end
-- ==== Proof.KIArr.lean ====
/-
  The arrays the three calls leave, at an index: each block is the body's value at its point, and each input block is its
  array at the block's place.
-/
module

public import proofs.«01_k».proof.Proof.KIVals
public import Idealize.ShloMosaic.Lib.Pointwise
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI Idealize.SL.Sem
open Idealize.ShloMosaic.Pipeline (Dat)

variable (V : Dev nD → Valuation τ sig (Elt Ideal))

theorem index0_0 : ∀ t : Fin cfg0.N, win0_0.index t = ![0, 0] :=
  (by decide +kernel : ∀ t : Fin grid0.N, win0_0.index t = ![0, 0])
theorem index0_1 : ∀ t : Fin cfg0.N, win0_1.index t = ![0, 0] :=
  (by decide +kernel : ∀ t : Fin grid0.N, win0_1.index t = ![0, 0])
theorem index0_2 : ∀ t : Fin cfg0.N, win0_2.index t = ![0, 0] :=
  (by decide +kernel : ∀ t : Fin grid0.N, win0_2.index t = ![0, 0])
theorem index0_3 : ∀ t : Fin cfg0.N, win0_3.index t = ![0, 0] :=
  (by decide +kernel : ∀ t : Fin grid0.N, win0_3.index t = ![0, 0])
theorem index0_4 : ∀ t : Fin cfg0.N, win0_4.index t = ![0, t.val] :=
  (by decide +kernel : ∀ t : Fin grid0.N, win0_4.index t = ![0, t.val])
theorem index0_5 : ∀ t : Fin cfg0.N, win0_5.index t = ![t.val, 0, 0] :=
  (by decide +kernel : ∀ t : Fin grid0.N, win0_5.index t = ![t.val, 0, 0])
theorem index1_0 : ∀ t : Fin cfg1.N, win1_0.index t = ![t.val / 98, 0] :=
  (by decide +kernel : ∀ t : Fin grid1.N, win1_0.index t = ![t.val / 98, 0])
theorem index1_1 : ∀ t : Fin cfg1.N, win1_1.index t = ![t.val / 98, 0] :=
  (by decide +kernel : ∀ t : Fin grid1.N, win1_1.index t = ![t.val / 98, 0])
theorem index1_2 : ∀ t : Fin cfg1.N, win1_2.index t = ![t.val / 98, 0] :=
  (by decide +kernel : ∀ t : Fin grid1.N, win1_2.index t = ![t.val / 98, 0])
theorem index1_3 : ∀ t : Fin cfg1.N, win1_3.index t = ![0, t.val % 98] :=
  (by decide +kernel : ∀ t : Fin grid1.N, win1_3.index t = ![0, t.val % 98])
theorem index1_4 : ∀ t : Fin cfg1.N, win1_4.index t = ![t.val % 98, 0, 0] :=
  (by decide +kernel : ∀ t : Fin grid1.N, win1_4.index t = ![t.val % 98, 0, 0])
theorem index1_5 : ∀ t : Fin cfg1.N, win1_5.index t = ![t.val / 98, 0] :=
  (by decide +kernel : ∀ t : Fin grid1.N, win1_5.index t = ![t.val / 98, 0])
theorem index1_6 : ∀ t : Fin cfg1.N, win1_6.index t = ![t.val / 98, t.val % 98] :=
  (by decide +kernel : ∀ t : Fin grid1.N, win1_6.index t = ![t.val / 98, t.val % 98])
theorem index2_0 : ∀ t : Fin cfg2.N, win2_0.index t = ![t.val / 98, t.val % 98] :=
  (by decide +kernel : ∀ t : Fin grid2.N, win2_0.index t = ![t.val / 98, t.val % 98])
theorem index2_1 : ∀ t : Fin cfg2.N, win2_1.index t = ![t.val % 98, t.val / 98, 0] :=
  (by decide +kernel : ∀ t : Fin grid2.N, win2_1.index t = ![t.val % 98, t.val / 98, 0])
theorem index2_2 : ∀ t : Fin cfg2.N, win2_2.index t = ![t.val % 98, t.val / 98, 0] :=
  (by decide +kernel : ∀ t : Fin grid2.N, win2_2.index t = ![t.val % 98, t.val / 98, 0])
theorem index2_3 : ∀ t : Fin cfg2.N, win2_3.index t = ![t.val % 98, t.val / 98, 0] :=
  (by decide +kernel : ∀ t : Fin grid2.N, win2_3.index t = ![t.val % 98, t.val / 98, 0])

/-- Window 0's block of call 0 at an index. -/
theorem iblk0_0_apply (c : Dev nD) (t : Fin cfg0.N) (x : Fin 4096) (y : Fin 1024) :
    iblk0 V c 0 t (ix2 x y) = V c main_v59 (ix2 x y) := by
  blk_ext [iblk0, index0_0]

/-- Window 1's block of call 0 at an index. -/
theorem iblk0_1_apply (c : Dev nD) (t : Fin cfg0.N) (x : Fin 4096) (y : Fin 1024) :
    iblk0 V c 1 t (ix2 x y) = V c main_v60 (ix2 x y) := by
  blk_ext [iblk0, index0_1]

/-- Window 2's block of call 0 at an index. -/
theorem iblk0_2_apply (c : Dev nD) (t : Fin cfg0.N) (x : Fin 4096) (y : Fin 1024) :
    iblk0 V c 2 t (ix2 x y) = V c main_v61 (ix2 x y) := by
  blk_ext [iblk0, index0_2]

/-- Window 3's block of call 0 at an index. -/
theorem iblk0_3_apply (c : Dev nD) (t : Fin cfg0.N) (x : Fin 4096) (y : Fin 1) :
    iblk0 V c 3 t (ix2 x y) = V c main_v62 (ix2 x y) := by
  blk_ext [iblk0, index0_3]

/-- Window 4's block of call 0 at an index. -/
theorem iblk0_4_apply (c : Dev nD) (t : Fin cfg0.N) (x : Fin 17) (y : Fin 1024) :
    iblk0 V c 4 t (ix2 x y) = V c main_v50 (ix2 x ⟨(t.val) * 1024 + y.val, by have := t.isLt; have := N_0; have : cfg0.N = grid0.N := rfl; omega⟩) := by
  blk_ext [iblk0, index0_4]

/-- Window 0's block of call 1 at an index. -/
theorem iblk1_0_apply (c : Dev nD) (t : Fin cfg1.N) (x : Fin 512) (y : Fin 5120) :
    iblk1 V c 0 t (ix2 x y) = V c main_v33 (ix2 ⟨(t.val / 98) * 512 + x.val, by have := t.isLt; have := N_1; have : cfg1.N = grid1.N := rfl; omega⟩ y) := by
  blk_ext [iblk1, index1_0]

/-- Window 1's block of call 1 at an index. -/
theorem iblk1_1_apply (c : Dev nD) (t : Fin cfg1.N) (x : Fin 512) (y : Fin 5120) :
    iblk1 V c 1 t (ix2 x y) = V c main_v34 (ix2 ⟨(t.val / 98) * 512 + x.val, by have := t.isLt; have := N_1; have : cfg1.N = grid1.N := rfl; omega⟩ y) := by
  blk_ext [iblk1, index1_1]

/-- Window 2's block of call 1 at an index. -/
theorem iblk1_2_apply (c : Dev nD) (t : Fin cfg1.N) (x : Fin 512) (y : Fin 5120) :
    iblk1 V c 2 t (ix2 x y) = V c main_v35 (ix2 ⟨(t.val / 98) * 512 + x.val, by have := t.isLt; have := N_1; have : cfg1.N = grid1.N := rfl; omega⟩ y) := by
  blk_ext [iblk1, index1_2]

/-- Window 3's block of call 1 at an index. -/
theorem iblk1_3_apply (c : Dev nD) (t : Fin cfg1.N) (x : Fin 17) (y : Fin 1024) :
    iblk1 V c 3 t (ix2 x y) = V c main_v50 (ix2 x ⟨(t.val % 98) * 1024 + y.val, by have := t.isLt; have := N_1; have : cfg1.N = grid1.N := rfl; omega⟩) := by
  blk_ext [iblk1, index1_3]

/-- Window 4's block of call 1 at an index. -/
theorem iblk1_4_apply (c : Dev nD) (t : Fin cfg1.N) (x : Fin 1) (y : Fin 1) (z : Fin 1024) :
    iblk1 V c 4 t (ix3 x y z) = V c main_v69 (ix3 ⟨(t.val % 98) * 1 + x.val, by have := t.isLt; have := N_1; have : cfg1.N = grid1.N := rfl; omega⟩ y z) := by
  blk_ext [iblk1, index1_4]

/-- Window 5's block of call 1 at an index. -/
theorem iblk1_5_apply (c : Dev nD) (t : Fin cfg1.N) (x : Fin 512) (y : Fin 1) :
    iblk1 V c 5 t (ix2 x y) = V c main_v16 (ix2 ⟨(t.val / 98) * 512 + x.val, by have := t.isLt; have := N_1; have : cfg1.N = grid1.N := rfl; omega⟩ y) := by
  blk_ext [iblk1, index1_5]

/-- Window 0's block of call 2 at an index. -/
theorem iblk2_0_apply (c : Dev nD) (t : Fin cfg2.N) (x : Fin 512) (y : Fin 1024) :
    iblk2 V c 0 t (ix2 x y) = V c main_v70 (ix2 ⟨(t.val / 98) * 512 + x.val, by have := t.isLt; have := N_2; have : cfg2.N = grid2.N := rfl; omega⟩ ⟨(t.val % 98) * 1024 + y.val, by have := t.isLt; have := N_2; have : cfg2.N = grid2.N := rfl; omega⟩) := by
  blk_ext [iblk2, index2_0]

/-- The point whose block of output 5 of call 0 holds an index. -/
def pt0_5 (i : (⟨3, ![98, 1, 1024]⟩ : Shape).Idx) : Fin cfg0.N :=
  ⟨(i 0).val, by idx_bounds i; have := N_0; have : cfg0.N = grid0.N := rfl; omega⟩

/-- Output 5 of call 0 after the run: at each index the body's value at its point. -/
theorem arr0_5 (c : Dev nD) : (dat0 V c).arrAt 5 cfg0.N = fun i => (fun t : Fin cfg0.N => out0_5 (iblk0 V c 0 t) (iblk0 V c 1 t) (iblk0 V c 2 t) (iblk0 V c 3 t) (iblk0 V c 4 t)) (pt0_5 i)
    (ix3 ⟨(i 0).val % 1, Nat.mod_lt _ (by norm_num)⟩ ⟨(i 1).val % 1, Nat.mod_lt _ (by norm_num)⟩ ⟨(i 2).val % 1024, Nat.mod_lt _ (by norm_num)⟩) := by
  refine (dat0 V c).arrAt_eq_of_covers 5 _ (by decide +kernel) fun t hf y => ?_
  blk_simp
  rw [after0_5]
  have ht : pt0_5 ((win0_5.blk t).view.emb y) = t := by
    idx_bounds y
    have := N_0
    have : cfg0.N = grid0.N := rfl
    have := t.isLt
    apply Fin.ext
    unfold pt0_5
    blk_simp [index0_5]
  dsimp only
  rw [ht]
  congr 1
  blk_ext [index0_5]

/-- The point whose block of output 6 of call 1 holds an index. -/
def pt1_6 (i : (⟨2, ![1024, 100352]⟩ : Shape).Idx) : Fin cfg1.N :=
  ⟨98 * ((i 0).val / 512) + (i 1).val / 1024, by idx_bounds i; have := N_1; have : cfg1.N = grid1.N := rfl; omega⟩

/-- Output 6 of call 1 after the run: at each index the body's value at its point. -/
theorem arr1_6 (c : Dev nD) : (dat1 V c).arrAt 6 cfg1.N = fun i => (fun t : Fin cfg1.N => out1_6 (iblk1 V c 0 t) (iblk1 V c 1 t) (iblk1 V c 2 t) (iblk1 V c 3 t) (iblk1 V c 4 t) (iblk1 V c 5 t)) (pt1_6 i)
    (ix2 ⟨(i 0).val % 512, Nat.mod_lt _ (by norm_num)⟩ ⟨(i 1).val % 1024, Nat.mod_lt _ (by norm_num)⟩) := by
  refine (dat1 V c).arrAt_eq_of_covers 6 _ (by decide +kernel) fun t hf y => ?_
  blk_simp
  rw [after1_6]
  have ht : pt1_6 ((win1_6.blk t).view.emb y) = t := by
    idx_bounds y
    have := N_1
    have : cfg1.N = grid1.N := rfl
    have := t.isLt
    apply Fin.ext
    unfold pt1_6
    blk_simp [index1_6]
    dsimp only
    omega
  dsimp only
  rw [ht]
  congr 1
  blk_ext [index1_6]

/-- The point whose block of output 1 of call 2 holds an index. -/
def pt2_1 (i : (⟨3, ![98, 1024, 8]⟩ : Shape).Idx) : Fin cfg2.N :=
  ⟨98 * ((i 1).val / 512) + (i 0).val, by idx_bounds i; have := N_2; have : cfg2.N = grid2.N := rfl; omega⟩

/-- Output 1 of call 2 after the run: at each index the body's value at its point. -/
theorem arr2_1 (c : Dev nD) : (dat2 V c).arrAt 1 cfg2.N = fun i => (fun t : Fin cfg2.N => out2_1 (grid2.coords t) (iblk2 V c 0 t)) (pt2_1 i)
    (ix3 ⟨(i 0).val % 1, Nat.mod_lt _ (by norm_num)⟩ ⟨(i 1).val % 512, Nat.mod_lt _ (by norm_num)⟩ ⟨(i 2).val % 8, Nat.mod_lt _ (by norm_num)⟩) := by
  refine (dat2 V c).arrAt_eq_of_covers 1 _ (by decide +kernel) fun t hf y => ?_
  blk_simp
  rw [after2_1]
  have ht : pt2_1 ((win2_1.blk t).view.emb y) = t := by
    idx_bounds y
    have := N_2
    have : cfg2.N = grid2.N := rfl
    have := t.isLt
    apply Fin.ext
    unfold pt2_1
    blk_simp [index2_1]
    dsimp only
    omega
  dsimp only
  rw [ht]
  congr 1
  blk_ext [index2_1]

/-- The point whose block of output 2 of call 2 holds an index. -/
def pt2_2 (i : (⟨3, ![98, 1024, 8]⟩ : Shape).Idx) : Fin cfg2.N :=
  ⟨98 * ((i 1).val / 512) + (i 0).val, by idx_bounds i; have := N_2; have : cfg2.N = grid2.N := rfl; omega⟩

/-- Output 2 of call 2 after the run: at each index the body's value at its point. -/
theorem arr2_2 (c : Dev nD) : (dat2 V c).arrAt 2 cfg2.N = fun i => (fun t : Fin cfg2.N => out2_2 (grid2.coords t) (iblk2 V c 0 t)) (pt2_2 i)
    (ix3 ⟨(i 0).val % 1, Nat.mod_lt _ (by norm_num)⟩ ⟨(i 1).val % 512, Nat.mod_lt _ (by norm_num)⟩ ⟨(i 2).val % 8, Nat.mod_lt _ (by norm_num)⟩) := by
  refine (dat2 V c).arrAt_eq_of_covers 2 _ (by decide +kernel) fun t hf y => ?_
  blk_simp
  rw [after2_2]
  have ht : pt2_2 ((win2_2.blk t).view.emb y) = t := by
    idx_bounds y
    have := N_2
    have : cfg2.N = grid2.N := rfl
    have := t.isLt
    apply Fin.ext
    unfold pt2_2
    blk_simp [index2_2]
    dsimp only
    omega
  dsimp only
  rw [ht]
  congr 1
  blk_ext [index2_2]

/-- The point whose block of output 3 of call 2 holds an index. -/
def pt2_3 (i : (⟨3, ![98, 1024, 1]⟩ : Shape).Idx) : Fin cfg2.N :=
  ⟨98 * ((i 1).val / 512) + (i 0).val, by idx_bounds i; have := N_2; have : cfg2.N = grid2.N := rfl; omega⟩

/-- Output 3 of call 2 after the run: at each index the body's value at its point. -/
theorem arr2_3 (c : Dev nD) : (dat2 V c).arrAt 3 cfg2.N = fun i => (fun t : Fin cfg2.N => out2_3 (grid2.coords t) (iblk2 V c 0 t)) (pt2_3 i)
    (ix3 ⟨(i 0).val % 1, Nat.mod_lt _ (by norm_num)⟩ ⟨(i 1).val % 512, Nat.mod_lt _ (by norm_num)⟩ ⟨(i 2).val % 1, Nat.mod_lt _ (by norm_num)⟩) := by
  refine (dat2 V c).arrAt_eq_of_covers 3 _ (by decide +kernel) fun t hf y => ?_
  blk_simp
  rw [after2_3]
  have ht : pt2_3 ((win2_3.blk t).view.emb y) = t := by
    idx_bounds y
    have := N_2
    have : cfg2.N = grid2.N := rfl
    have := t.isLt
    apply Fin.ext
    unfold pt2_3
    blk_simp [index2_3]
    dsimp only
    omega
  dsimp only
  rw [ht]
  congr 1
  blk_ext [index2_3]

end Cert.KernelIdeal.Own

end
-- ==== Proof.Rank.lean ====
/-
  Places in a stable sort: the position a stable sort puts at place `k` is the one that exactly `k` positions precede. From
  it, what the greatest of a row are, what an argsort of an argsort is, and when the greatest among some candidates are the
  greatest of all.
-/
module

public import Idealize.ShloMosaic.Lib.SortFacts
public import Idealize.ShloMosaic.PureOps.Ideal.Laws

@[expose] public section

noncomputable section

namespace Cert.Own

open Idealize.ShloMosaic

/-- `a` is placed before `p` by a stable sort under `B`: it sorts strictly before, or neither does and it comes first. -/
def placed {n : ℕ} (B : Fin n → Fin n → Bool) (a p : Fin n) : Bool := B a p || (!B p a && decide (a < p))

/-- How many positions are placed before `p`. -/
def place {n : ℕ} (B : Fin n → Fin n → Bool) (p : Fin n) : ℕ := (Finset.univ.filter fun a => placed B a p = true).card

section
variable {n : ℕ} (B : Fin n → Fin n → Bool) (hasy : ∀ a b, B a b = true → B b a = false)
  (hneg : ∀ a b c, B a b = false → B b c = false → B a c = false)

/-- On an increasing list the stable sort under `B` is the one under the strict order it completes to. -/
theorem stableSort_placed (l : List (Fin n)) (hl : l.Pairwise (· < ·)) : stableSort B l = stableSort (placed B) l := by
  induction l with
  | nil => rfl
  | cons a l ih =>
    rw [List.pairwise_cons] at hl
    unfold stableSort
    rw [ih hl.2]
    refine insertBefore_congr _ _ _ _ fun b hb => ?_
    have hb' : a < b := hl.1 b ((perm_stableSort _ _).mem_iff.mp hb)
    simp [placed, not_lt.mpr hb'.le]

include hasy in
theorem placed_asymm (a b : Fin n) (h : placed B a b = true) : placed B b a = false := by
  unfold placed at *
  rcases Bool.or_eq_true _ _ ▸ h with h | h
  · simp [hasy a b h, h]
  · simp only [Bool.and_eq_true, Bool.not_eq_true', decide_eq_true_eq] at h
    simp [h.1, not_lt.mpr h.2.le]

include hneg in
theorem placed_negTrans (a b c : Fin n) (h₁ : placed B a b = false) (h₂ : placed B b c = false) : placed B a c = false := by
  unfold placed at *
  simp only [Bool.or_eq_false_iff, Bool.and_eq_false_iff, Bool.not_eq_false', decide_eq_false_iff_not, not_lt] at *
  refine ⟨hneg a b c h₁.1 h₂.1, ?_⟩
  by_cases hca : B c a = true
  · exact Or.inl hca
  rw [Bool.not_eq_true] at hca
  have hba : B b a = false := hneg b c a h₂.1 hca
  have hcb : B c b = false := hneg c a b hca h₁.1
  rcases h₁.2 with h | h
  · rw [hba] at h; exact absurd h (by decide)
  rcases h₂.2 with h' | h'
  · rw [hcb] at h'; exact absurd h' (by decide)
  · exact Or.inr (h'.trans h)

include hasy hneg in
/-- Of two places the earlier one's position is placed before the later one's, and only then. -/
theorem placed_sortedFrom (i j : Fin n) : placed B (sortedFrom B i) (sortedFrom B j) = true ↔ i < j := by
  have hs : sortPositions n B = sortPositions n (placed B) :=
    stableSort_placed B _ (List.pairwise_lt_finRange n)
  have hf : sortedFrom B = sortedFrom (placed B) := by
    funext k; unfold sortedFrom; rw [List.get_of_eq hs]; rfl
  have hlt : ∀ i j : Fin n, i < j → placed B (sortedFrom B i) (sortedFrom B j) = true := by
    intro i j hij
    have h := sortedFrom_noInversion (placed B) (placed B) (placed_asymm B hasy) (fun _ _ h => h) (placed_negTrans B hneg) i j hij
    rw [← hf] at h
    have hne : sortedFrom B i ≠ sortedFrom B j := fun e => hij.ne (sortedFrom_injective B e)
    generalize sortedFrom B i = a at h hne
    generalize sortedFrom B j = b at h hne
    unfold placed at *
    simp only [Bool.or_eq_false_iff, Bool.and_eq_false_iff, Bool.not_eq_false', decide_eq_false_iff_not, not_lt] at h
    rcases h.2 with h' | h'
    · simp [h']
    · simp [h.1, lt_of_le_of_ne h' hne]
  constructor
  · intro h
    by_contra hij
    rcases lt_or_eq_of_le (not_lt.mp hij) with h' | h'
    · have := placed_asymm B hasy _ _ (hlt j i h'); rw [h] at this; exact absurd this (by decide)
    · subst h'
      have := placed_asymm B hasy _ _ h; rw [h] at this; exact absurd this (by decide)
  · exact hlt i j

include hasy hneg in
/-- The position at place `k` is the one exactly `k` positions are placed before. -/
theorem place_sortedFrom (k : Fin n) : place B (sortedFrom B k) = k.val := by
  unfold place
  have hb : Function.Bijective (sortedFrom B) := ⟨sortedFrom_injective B, sortedFrom_surjective B⟩
  rw [← Fin.card_Iio k]
  symm
  refine Finset.card_bij (fun i _ => sortedFrom B i) ?_ (fun i _ j _ h => hb.1 h) ?_
  · intro i hi
    rw [Finset.mem_filter]
    exact ⟨Finset.mem_univ _, (placed_sortedFrom B hasy hneg i k).mpr (Finset.mem_Iio.mp hi)⟩
  · intro a ha
    obtain ⟨i, rfl⟩ := hb.2 a
    rw [Finset.mem_filter] at ha
    exact ⟨i, Finset.mem_Iio.mpr ((placed_sortedFrom B hasy hneg i k).mp ha.2), rfl⟩

include hasy hneg in
theorem sortedFrom_eq_iff (k p : Fin n) : sortedFrom B k = p ↔ place B p = k.val := by
  constructor
  · rintro rfl; exact place_sortedFrom B hasy hneg k
  · intro h
    obtain ⟨j, rfl⟩ := sortedFrom_surjective B p
    rw [place_sortedFrom B hasy hneg j] at h
    rw [Fin.ext h]

end

/-! ## By values -/

/-- Greater first. -/
def gtB {n : ℕ} (x : Fin n → EReal) (a b : Fin n) : Bool := decide (x b < x a)

theorem gtB_asymm {n : ℕ} (x : Fin n → EReal) (a b : Fin n) (h : gtB x a b = true) : gtB x b a = false := by
  simp only [gtB, decide_eq_true_eq, decide_eq_false_iff_not, not_lt] at *; exact h.le
theorem gtB_neg {n : ℕ} (x : Fin n → EReal) (a b c : Fin n) (h₁ : gtB x a b = false) (h₂ : gtB x b c = false) :
    gtB x a c = false := by
  simp only [gtB, decide_eq_false_iff_not, not_lt] at *; exact h₁.trans h₂

/-- `a` comes before `p`, greater values first and equal ones in order. -/
theorem placed_gtB {n : ℕ} (x : Fin n → EReal) (a p : Fin n) :
    placed (gtB x) a p = true ↔ x p < x a ∨ (x a = x p ∧ a < p) := by
  simp only [placed, gtB, Bool.or_eq_true, Bool.and_eq_true, Bool.not_eq_true', decide_eq_true_eq, decide_eq_false_iff_not, not_lt]
  constructor
  · rintro (h | ⟨h, h'⟩)
    · exact Or.inl h
    · rcases lt_or_eq_of_le h with h'' | h''
      · exact Or.inl h''
      · exact Or.inr ⟨h''.symm, h'⟩
  · rintro (h | ⟨h, h'⟩)
    · exact Or.inl h
    · exact Or.inr ⟨h.ge, h'⟩

/-- The position of the `k`-th of `x`, greater first. -/
abbrev nth {n : ℕ} (x : Fin n → EReal) (k : Fin n) : Fin n := sortedFrom (gtB x) k

theorem nth_eq_iff {n : ℕ} (x : Fin n → EReal) (k p : Fin n) : nth x k = p ↔ place (gtB x) p = k.val :=
  sortedFrom_eq_iff _ (gtB_asymm x) (gtB_neg x) k p

/-- Values fall along the places. -/
theorem nth_anti {n : ℕ} (x : Fin n → EReal) (i j : Fin n) (h : i ≤ j) : x (nth x j) ≤ x (nth x i) := by
  rcases lt_or_eq_of_le h with h | h
  · have := (placed_sortedFrom _ (gtB_asymm x) (gtB_neg x) i j).mpr h
    rcases (placed_gtB x _ _).mp this with h | h
    · exact h.le
    · exact h.1.ge
  · rw [h]

/-- Where a line goes on with least values, the places of the line and of its beginning agree while the values are above the
    least. -/
theorem nth_padded {n N : ℕ} (hN : n ≤ N) (x : Fin n → EReal) (y : Fin N → EReal)
    (hy : ∀ (e : Fin n), y ⟨e.val, e.isLt.trans_le hN⟩ = x e) (hp : ∀ e : Fin N, n ≤ e.val → y e = ⊥) (k : Fin n) :
    nth y ⟨k.val, k.isLt.trans_le hN⟩ = ⟨(nth x k).val, (nth x k).isLt.trans_le hN⟩ := by
  rw [nth_eq_iff]
  have h := (nth_eq_iff x k _).mp rfl
  generalize nth x k = p at h ⊢
  refine Eq.trans ?_ h
  unfold place
  symm
  refine Finset.card_bij (fun a _ => ⟨a.val, a.isLt.trans_le hN⟩) ?_ (fun a _ b _ h => Fin.ext (Fin.mk.inj h)) ?_
  · intro a ha
    simp only [Finset.mem_filter, Finset.mem_univ, true_and, placed_gtB] at ha ⊢
    rw [hy, hy]
    exact ha
  · intro a ha
    simp only [Finset.mem_filter, Finset.mem_univ, true_and, placed_gtB] at ha
    by_cases han : a.val < n
    · refine ⟨⟨a.val, han⟩, ?_, rfl⟩
      simp only [Finset.mem_filter, Finset.mem_univ, true_and, placed_gtB]
      rw [← hy, ← hy]; exact ha
    · exfalso
      rw [hp a (not_lt.mp han)] at ha
      rcases ha with h | h
      · exact not_lt_bot h
      · exact absurd (show a.val < p.val from h.2) (not_lt.mpr (p.isLt.le.trans (not_lt.mp han)))

/-! ## An argsort of an argsort -/

/-- Sorting the positions a sort gives orders them by position: place `p` holds the place of `p`. -/
theorem sort_sorted {n : ℕ} (B : Fin n → Fin n → Bool) (p : Fin n) :
    sortedFrom B (sortedFrom (fun k k' => decide ((sortedFrom B k).val < (sortedFrom B k').val)) p) = p := by
  set C : Fin n → Fin n → Bool := fun k k' => decide ((sortedFrom B k).val < (sortedFrom B k').val) with hC
  have hasy : ∀ a b, C a b = true → C b a = false := by
    intro a b h; simp only [hC, decide_eq_true_eq, decide_eq_false_iff_not] at *; omega
  have hneg : ∀ a b c, C a b = false → C b c = false → C a c = false := by
    intro a b c h h'; simp only [hC, decide_eq_false_iff_not] at *; omega
  obtain ⟨k, rfl⟩ := sortedFrom_surjective B p
  rw [(sortedFrom_eq_iff C hasy hneg _ k).mpr]
  unfold place
  have hb : Function.Bijective (sortedFrom B) := ⟨sortedFrom_injective B, sortedFrom_surjective B⟩
  rw [← Fin.card_Iio (sortedFrom B k)]
  refine Finset.card_bij (fun i _ => sortedFrom B i) ?_ (fun i _ j _ h => hb.1 h) ?_
  · intro a ha
    simp only [Finset.mem_filter, Finset.mem_univ, true_and, placed, hC, Bool.or_eq_true, Bool.and_eq_true, Bool.not_eq_true',
      decide_eq_true_eq, decide_eq_false_iff_not, not_lt] at ha
    rw [Finset.mem_Iio, Fin.lt_def]
    rcases ha with h | ⟨h, h'⟩
    · exact h
    · refine lt_of_le_of_ne h fun e => h'.ne (hb.1 (Fin.ext e))
  · intro b hb'
    obtain ⟨a, rfl⟩ := hb.2 b
    refine ⟨a, ?_, rfl⟩
    simp only [Finset.mem_filter, Finset.mem_univ, true_and, placed, hC, Bool.or_eq_true, decide_eq_true_eq]
    exact Or.inl (Fin.lt_def.mp (Finset.mem_Iio.mp hb'))

/-- With a gap in value between places `r` and `r + 1`, the positions at places up to `r` are those whose value reaches the
    one at place `r`. -/
theorem sorted_le_iff {n : ℕ} (x : Fin n → EReal) (r : ℕ) (hr : r + 1 < n)
    (hgap : x (nth x ⟨r + 1, hr⟩) < x (nth x ⟨r, by omega⟩)) (k : Fin n) :
    k.val < r + 1 ↔ x (nth x ⟨r, by omega⟩) ≤ x (nth x k) := by
  constructor
  · intro h
    exact nth_anti x k ⟨r, by omega⟩ (by rw [Fin.le_def]; show k.val ≤ r; omega)
  · intro h
    by_contra hk
    have := nth_anti x ⟨r + 1, hr⟩ k (by rw [Fin.le_def]; show r + 1 ≤ k.val; omega)
    exact absurd (h.trans this) (not_le.mpr hgap)

/-! ## The greatest among candidates -/

/-- Candidates `(V, I)` of a line `x`: those of value above the least hold distinct elements in order, and every element above
    the bound `b` is one. Then, while the `t`-th candidate stands above the bound, its element is the line's `t`-th. -/
theorem nth_candidates {N K : ℕ} (x : Fin N → EReal) (V : Fin K → EReal) (I : Fin K → Fin N) (b : EReal)
    (hval : ∀ c, ⊥ < V c → x (I c) = V c)
    (hord : ∀ c c', ⊥ < V c → V c = V c' → c < c' → I c < I c')
    (hall : ∀ e, b < x e → ∃ c, ⊥ < V c ∧ I c = e)
    (k : Fin K) (hk : b < V (nth V k)) (hkN : k.val < N) :
    I (nth V k) = nth x ⟨k.val, hkN⟩ := by
  symm
  rw [nth_eq_iff]
  have h := (nth_eq_iff V k _).mp rfl
  generalize nth V k = p at h hk ⊢
  refine Eq.trans ?_ h
  have hp : ⊥ < V p := bot_le.trans_lt hk
  unfold place
  symm
  have hgood : ∀ c, (V p < V c ∨ (V c = V p ∧ c < p)) → ⊥ < V c := by
    rintro c (h | h)
    · exact hp.trans h
    · rw [h.1]; exact hp
  refine Finset.card_bij (fun c _ => I c) ?_ ?_ ?_
  · intro c hc
    simp only [Finset.mem_filter, Finset.mem_univ, true_and, placed_gtB] at hc ⊢
    rw [hval c (hgood c hc), hval p hp]
    rcases hc with h | h
    · exact Or.inl h
    · exact Or.inr ⟨h.1, hord c p (hgood c (Or.inr h)) h.1 h.2⟩
  · intro c hc c' hc' he
    simp only [Finset.mem_filter, Finset.mem_univ, true_and, placed_gtB] at hc hc'
    have hg := hgood c hc
    have hg' := hgood c' hc'
    have hv : V c = V c' := by rw [← hval c hg, ← hval c' hg', he]
    by_contra hne
    rcases lt_or_gt_of_ne hne with h | h
    · exact absurd he (hord c c' hg hv h).ne
    · exact absurd he (hord c' c hg' hv.symm h).ne'
  · intro e he
    simp only [Finset.mem_filter, Finset.mem_univ, true_and, placed_gtB] at he
    have hbe : b < x e := by
      rw [hval p hp] at he
      rcases he with h | h
      · exact hk.trans h
      · rw [h.1]; exact hk
    obtain ⟨c, hc, rfl⟩ := hall e hbe
    refine ⟨c, ?_, rfl⟩
    simp only [Finset.mem_filter, Finset.mem_univ, true_and, placed_gtB]
    rw [hval c hc, hval p hp] at he
    rcases he with h | h
    · exact Or.inl h
    · refine Or.inr ⟨h.1, ?_⟩
      by_contra hcp
      rcases lt_or_eq_of_le (not_lt.mp hcp) with h' | h'
      · exact absurd (hord p c hp h.1.symm h') (not_lt.mpr h.2.le)
      · rw [h'] at h; exact absurd h.2 (lt_irrefl _)

/-! ## Rounds of extraction -/

/-- The line after `s` rounds, each dropping the first greatest to the least value. -/
def left {n : ℕ} (x : Fin n → EReal) (A : ℕ → Fin n) : ℕ → Fin n → EReal
  | 0 => x
  | s + 1 => fun l => if l = A s then ⊥ else left x A s l

section
variable {n : ℕ} (x : Fin n → EReal) (A : ℕ → Fin n) (M : ℕ → EReal)
  (hM : ∀ s l, left x A s l ≤ M s) (hA : ∀ s, left x A s (A s) = M s) (hmin : ∀ s l, left x A s l = M s → A s ≤ l)

theorem left_or (s : ℕ) (l : Fin n) : left x A s l = x l ∨ left x A s l = ⊥ := by
  induction s with
  | zero => exact Or.inl rfl
  | succ s ih =>
    unfold left
    split
    · exact Or.inr rfl
    · exact ih

theorem left_anti (s s' : ℕ) (h : s ≤ s') (l : Fin n) : left x A s' l ≤ left x A s l := by
  induction s' with
  | zero => rw [Nat.le_zero.mp h]
  | succ s' ih =>
    rcases Nat.lt_or_ge s (s' + 1) with h' | h'
    · refine le_trans ?_ (ih (by omega))
      rw [show left x A (s' + 1) l = if l = A s' then ⊥ else left x A s' l from rfl]
      split
      · exact bot_le
      · exact le_rfl
    · rw [show s = s' + 1 by omega]

theorem left_taken (s s' : ℕ) (h : s < s') : left x A s' (A s) = ⊥ := by
  refine le_bot_iff.mp ((left_anti x A (s + 1) s' h (A s)).trans (le_of_eq ?_))
  show (if A s = A s then ⊥ else left x A s (A s)) = ⊥
  rw [if_pos rfl]

theorem left_untaken (s : ℕ) (l : Fin n) (h : ∀ s' < s, l ≠ A s') : left x A s l = x l := by
  induction s with
  | zero => rfl
  | succ s ih =>
    show (if l = A s then ⊥ else left x A s l) = x l
    rw [if_neg (h s (by omega)), ih fun s' hs' => h s' (by omega)]

include hA in
theorem round_val (s : ℕ) (h : ⊥ < M s) : x (A s) = M s := by
  rcases left_or x A s (A s) with h' | h'
  · rw [← h', hA]
  · rw [hA] at h'; rw [h'] at h; exact absurd h (lt_irrefl _)

include hA hM hmin in
theorem round_ord (s s' : ℕ) (hs : s < s') (h : ⊥ < M s) (he : M s = M s') : A s < A s' := by
  have h1 : left x A s (A s') = M s :=
    le_antisymm (hM s _) (by rw [he, ← hA s']; exact left_anti x A s s' hs.le _)
  refine lt_of_le_of_ne (hmin s _ h1) fun e => ?_
  have := left_taken x A s s' hs
  rw [e, hA s', ← he] at this
  rw [this] at h; exact absurd h (lt_irrefl _)

include hM hA in
theorem round_all (S : ℕ) (l : Fin n) (h : M S < x l) : ∃ s < S, ⊥ < M s ∧ A s = l := by
  by_contra hno
  have key : ∀ s' < S, l ≠ A s' := by
    intro s' hs' e
    refine hno ⟨s', hs', ?_, e.symm⟩
    -- the first round that takes `l` meets it at its own value
    by_contra hb
    have hb' : M s' = ⊥ := le_bot_iff.mp (not_lt.mp hb)
    have hbot : ∀ s'', s' ≤ s'' → M s'' = ⊥ := by
      intro s'' h''
      refine le_bot_iff.mp ?_
      rw [← hA s'']
      exact (left_anti x A s' s'' h'' _).trans ((hM s' _).trans hb'.le)
    -- the least round that takes `l`
    obtain ⟨t, ht, htl⟩ : ∃ t, t ≤ s' ∧ l = A t ∧ ∀ u < t, l ≠ A u := by
      classical
      have hex : ∃ t, l = A t := ⟨s', e⟩
      exact ⟨Nat.find hex, Nat.find_min' hex e, Nat.find_spec hex, fun u hu => Nat.find_min hex hu⟩
    have hx : left x A t l = x l := left_untaken x A t l htl.2
    have hMt : x l ≤ M t := by rw [← hx]; exact hM t l
    have hMtb : ⊥ < M t := (bot_le.trans_lt h).trans_le hMt
    exact hno ⟨t, by omega, hMtb, htl.1.symm⟩
  have := left_untaken x A S l key
  exact absurd (this ▸ hM S l) (not_le.mpr h)

end

end Cert.Own

end
-- ==== Proof.Reals.lean ====
/-
  Arithmetic of finite extended reals, sums that pick one entry, and the running difference the kernel takes.
-/
module

public import Idealize.ShloMosaic.Lib.Pointwise

@[expose] public section

noncomputable section

namespace Cert.Own

open Idealize.ShloMosaic

/-- A finite extended real: a real number. -/
def Fin' (x : EReal) : Prop := ∃ r : ℝ, x = (r : EReal)

theorem Fin'.add {x y : EReal} : Fin' x → Fin' y → Fin' (x + y)
  | ⟨a, ha⟩, ⟨b, hb⟩ => ⟨a + b, by rw [ha, hb, EReal.coe_add]⟩
theorem Fin'.sub {x y : EReal} : Fin' x → Fin' y → Fin' (x - y)
  | ⟨a, ha⟩, ⟨b, hb⟩ => ⟨a - b, by rw [ha, hb, EReal.coe_sub]⟩
theorem Fin'.mul {x y : EReal} : Fin' x → Fin' y → Fin' (x * y)
  | ⟨a, ha⟩, ⟨b, hb⟩ => ⟨a * b, by rw [ha, hb, EReal.coe_mul]⟩
theorem Fin'.zero : Fin' 0 := ⟨0, rfl⟩
theorem Fin'.sum {ι : Type} (s : Finset ι) (f : ι → EReal) (h : ∀ i, Fin' (f i)) : Fin' (∑ i ∈ s, f i) := by
  classical
  choose g hg using h
  refine ⟨∑ i ∈ s, g i, ?_⟩
  induction s using Finset.induction_on with
  | empty => simp
  | insert a s ha ih => rw [Finset.sum_insert ha, Finset.sum_insert ha, ih, hg, EReal.coe_add]

/-- A finite number less itself is zero. -/
theorem Fin'.sub_self {x : EReal} : Fin' x → x - x = 0
  | ⟨a, ha⟩ => by rw [ha, ← EReal.coe_sub, _root_.sub_self, EReal.coe_zero]

/-- The word of a one-bit equality test as a number. -/
theorem bit_val (a b : BitVec 32) :
    (FloatOps.sitofp (F := Ideal) .f32 (BitVec.setWidth 32 (IntOp.cmpi .eq a b)) : EReal) = if a = b then 1 else 0 := by
  by_cases h : a = b
  · subst h
    rw [if_pos rfl]
    have : BitVec.setWidth 32 (IntOp.cmpi .eq a a) = 1#32 := by simp [IntOp.cmpi]
    rw [this]
    show (((1#32 : BitVec 32).toInt : ℝ) : EReal) = 1
    norm_num
  · rw [if_neg h]
    have : BitVec.setWidth 32 (IntOp.cmpi .eq a b) = 0#32 := by
      have hb : (a == b) = false := beq_eq_false_iff_ne.mpr h
      simp [IntOp.cmpi, hb]
    rw [this]
    show (((0#32 : BitVec 32).toInt : ℝ) : EReal) = 0
    norm_num

theorem ofNat_inj {n : ℕ} (hn : n ≤ 2 ^ 32) (a b : Fin n) : BitVec.ofNat 32 a.val = BitVec.ofNat 32 b.val ↔ a = b := by
  constructor
  · intro h
    have := congrArg BitVec.toNat h
    simp only [BitVec.toNat_ofNat] at this
    rw [Nat.mod_eq_of_lt (by omega), Nat.mod_eq_of_lt (by omega)] at this
    exact Fin.ext this
  · rintro rfl; rfl

/-- A product with a one-hot column picks the entry it marks. -/
theorem sum_pick {n : ℕ} (hn : n ≤ 2 ^ 32) (t : Fin n → EReal) (c : Fin n) :
    ∑ k, t k * (FloatOps.sitofp (F := Ideal) .f32 (BitVec.setWidth 32 (IntOp.cmpi .eq (BitVec.ofNat 32 k.val) (BitVec.ofNat 32 c.val))) : EReal)
      = t c := by
  rw [Finset.sum_eq_single c]
  · rw [bit_val, if_pos rfl, mul_one]
  · intro k _ hk
    rw [bit_val, if_neg fun h => hk ((ofNat_inj hn k c).mp h), mul_zero]
  · intro h; exact absurd (Finset.mem_univ c) h

/-- `d` less twice the first `n` of `g`, one after another. -/
def down (d : EReal) (g : ℕ → EReal) : ℕ → EReal
  | 0 => d
  | n + 1 => down d g n - 2 * g n

/-- Zero plus twice each of `g` plus each of `h`, one after another. -/
def up (g h : ℕ → EReal) : ℕ → EReal
  | 0 => 0
  | n + 1 => up g h n + 2 * g n + h n

theorem up_eq (g h : ℕ → EReal) (n : ℕ) : up g h n = ∑ i ∈ Finset.range n, (2 * g i + h i) := by
  induction n with
  | zero => rfl
  | succ n ih => rw [Finset.sum_range_succ, ← ih, up, add_assoc]

theorem two_coe : (2 : EReal) = ((2 : ℝ) : EReal) := rfl

theorem down_eq (d : EReal) (g : ℕ → EReal) (hg : ∀ i, Fin' (g i)) (hd : Fin' d) (n : ℕ) :
    down d g n = d - 2 * ∑ i ∈ Finset.range n, g i := by
  induction n with
  | zero => simp [down]
  | succ n ih =>
    rw [Finset.sum_range_succ, down, ih]
    obtain ⟨a, ha⟩ := hd
    obtain ⟨s, hs⟩ := Fin'.sum (Finset.range n) g hg
    obtain ⟨b, hb⟩ := hg n
    rw [ha, hs, hb, two_coe, ← EReal.coe_mul, ← EReal.coe_mul, ← EReal.coe_add, ← EReal.coe_mul, ← EReal.coe_sub,
      ← EReal.coe_sub, ← EReal.coe_sub]
    congr 1; ring

theorem down_top (g : ℕ → EReal) (hg : ∀ i, Fin' (g i)) (n : ℕ) : down ⊤ g n = ⊤ := by
  induction n with
  | zero => rfl
  | succ n ih =>
    rw [down, ih]
    obtain ⟨b, hb⟩ := hg n
    rw [hb, two_coe, ← EReal.coe_mul, EReal.top_sub_coe]

theorem ofBits_two_f32 : Ideal.ofBits .f32 0x40000000#32 = 2 := by
  rw [two_coe]
  simp [Ideal.ofBits, Ideal.ieee, -EReal.coe_mul]; norm_num

theorem ofBits_top_f32 : Ideal.ofBits .f32 0x7F800000#32 = ⊤ := by simp [Ideal.ofBits, Ideal.ieee]

theorem ofBits_bot_f32 : Ideal.ofBits .f32 0xFF800000#32 = ⊥ := by simp [Ideal.ofBits, Ideal.ieee]

end Cert.Own

end
-- ==== Proof.Rounds.lean ====
/-
  Rounds of extraction on one line: each takes the first greatest and drops it; and the reductions that find it.
-/
module

public import proofs.«01_k».proof.Proof.Rank
public import proofs.«01_k».proof.Proof.Reals
public import Idealize.ShloMosaic.Lib.Pointwise

@[expose] public section

noncomputable section

namespace Cert.Own

open Idealize.ShloMosaic

/-- The first place holds the first greatest. -/
theorem nth_zero_max {n : ℕ} (y : Fin (n + 1) → EReal) (l : Fin (n + 1)) : y l ≤ y (nth y 0) := by
  obtain ⟨k, rfl⟩ := sortedFrom_surjective (gtB y) l
  exact nth_anti y 0 k (Fin.zero_le k)

theorem nth_zero_min {n : ℕ} (y : Fin (n + 1) → EReal) (l : Fin (n + 1)) (h : y l = y (nth y 0)) : nth y 0 ≤ l := by
  obtain ⟨k, rfl⟩ := sortedFrom_surjective (gtB y) l
  by_contra hlt
  have hk : 0 < k := by
    rcases Fin.eq_zero_or_eq_succ k with hk | ⟨j, rfl⟩
    · rw [hk] at hlt; exact absurd le_rfl hlt
    · exact Fin.succ_pos j
  have := (placed_sortedFrom _ (gtB_asymm y) (gtB_neg y) _ _).mpr hk
  rcases (placed_gtB y _ _).mp this with h' | h'
  · exact absurd h h'.ne
  · exact hlt h'.2.le

/-- The position of the first greatest. -/
def first (y : Fin 1024 → EReal) : Fin 1024 := nth (n := 1023 + 1) y 0

theorem first_max (y : Fin 1024 → EReal) (l : Fin 1024) : y l ≤ y (first y) := nth_zero_max (n := 1023) y l

theorem first_min (y : Fin 1024 → EReal) (l : Fin 1024) (h : y l = y (first y)) : first y ≤ l := nth_zero_min (n := 1023) y l h

/-- The line after `s` rounds. -/
def rd (x : Fin 1024 → EReal) : ℕ → Fin 1024 → EReal
  | 0 => x
  | s + 1 => fun l => if l = first (rd x s) then ⊥ else rd x s l

/-- What round `s` takes, and where. -/
def rdA (x : Fin 1024 → EReal) (s : ℕ) : Fin 1024 := first (rd x s)
def rdM (x : Fin 1024 → EReal) (s : ℕ) : EReal := rd x s (rdA x s)

theorem left_rd (x : Fin 1024 → EReal) (s : ℕ) : left x (rdA x) s = rd x s := by
  induction s with
  | zero => rfl
  | succ s ih =>
    funext l
    show (if l = rdA x s then ⊥ else left x (rdA x) s l) = if l = first (rd x s) then ⊥ else rd x s l
    rw [ih]; rfl

theorem rd_le (x : Fin 1024 → EReal) (s : ℕ) (l : Fin 1024) : left x (rdA x) s l ≤ rdM x s := by
  rw [left_rd]; exact first_max _ _
theorem rd_at (x : Fin 1024 → EReal) (s : ℕ) : left x (rdA x) s (rdA x s) = rdM x s := by rw [left_rd]; rfl
theorem rd_min (x : Fin 1024 → EReal) (s : ℕ) (l : Fin 1024) (h : left x (rdA x) s l = rdM x s) : rdA x s ≤ l := by
  rw [left_rd] at h; exact first_min _ _ h

/-- Folding the maximum from the least value gives the greatest. -/
theorem fold_max (y : Fin 1024 → EReal) :
    Finset.univ.fold max (Ideal.ofBits .f32 0xFF800000#32) y = y (first y) := by
  rw [ofBits_bot_f32]
  apply le_antisymm
  · rw [Finset.fold_max_le]; exact ⟨bot_le, fun l _ => first_max y l⟩
  · rw [Finset.le_fold_max]; exact Or.inr ⟨_, Finset.mem_univ _, le_rfl⟩

theorem minsi_left (a b : BitVec 32) (h : a.toInt ≤ b.toInt) : IntOp.minsi a b = a := by
  unfold IntOp.minsi
  split
  · rfl
  · rename_i h'
    simp only [BitVec.slt, decide_eq_true_eq, not_lt] at h'
    exact (BitVec.eq_of_toInt_eq (le_antisymm h h')).symm

/-- Folding the signed minimum gives the least, where one is. -/
theorem fold_minsi {n : ℕ} (b : BitVec 32) (f : Fin n → BitVec 32) (a : Fin n) (ha : ∀ l, (f a).toInt ≤ (f l).toInt)
    (hb : (f a).toInt ≤ b.toInt) : Finset.univ.fold IntOp.minsi b f = f a := by
  classical
  have rest : ∀ s : Finset (Fin n), (f a).toInt ≤ (s.fold IntOp.minsi b f).toInt := by
    intro s
    induction s using Finset.induction_on with
    | empty => simpa using hb
    | insert c s hc ih =>
      rw [Finset.fold_insert hc]
      rcases le_total (f c).toInt (s.fold IntOp.minsi b f).toInt with h | h
      · rw [minsi_left _ _ h]; exact ha c
      · rw [Std.Commutative.comm (op := IntOp.minsi), minsi_left _ _ h]; exact ih
  rw [← Finset.insert_erase (Finset.mem_univ a), Finset.fold_insert (Finset.notMem_erase _ _)]
  exact minsi_left _ _ (rest _)

theorem toInt_ofNat_small (k : ℕ) (h : k < 2 ^ 31) : (BitVec.ofNat 32 k).toInt = k := by
  rw [BitVec.toInt_eq_toNat_cond, BitVec.toNat_ofNat, Nat.mod_eq_of_lt (by omega), if_pos (by omega)]

/-- The least position among those reaching the greatest is the first greatest's. -/
theorem fold_first (y : Fin 1024 → EReal) :
    Finset.univ.fold IntOp.minsi 2147483647#32 (fun l : Fin 1024 => if y l = y (first y) then BitVec.ofNat 32 l.val else 100352#32)
      = BitVec.ofNat 32 (first y).val := by
  have big : (100352#32 : BitVec 32).toInt = 100352 := by decide
  have e := fold_minsi 2147483647#32 (fun l : Fin 1024 => if y l = y (first y) then BitVec.ofNat 32 l.val else 100352#32) (first y)
    (by
      intro l
      simp only [if_true]
      split
      · rename_i h
        rw [toInt_ofNat_small _ (by omega), toInt_ofNat_small _ (by omega)]
        exact_mod_cast first_min y l h
      · rw [toInt_ofNat_small _ (by omega), big]; omega)
    (by
      simp only [if_true]
      rw [toInt_ofNat_small _ (by omega), show (2147483647#32 : BitVec 32).toInt = 2147483647 by decide]; omega)
  rw [e, if_pos rfl]

end Cert.Own

end
-- ==== Proof.KIExtVal.lean ====
/-
  What the extraction call's body leaves: each round's value and index of the row, and the greatest left after the last round.
-/
module

public import proofs.«01_k».proof.Proof.KIExtract
public import proofs.«01_k».proof.Proof.Rounds
public import Idealize.ShloMosaic.Lib.Pipeline.Value

@[expose] public section

set_option maxRecDepth 16384

noncomputable section

namespace Cert.KernelIdeal.Own

open Cert.KernelIdeal Cert.KernelIdeal.Gen Cert.Own
open Idealize.ShloMosaic

/-- The greatest of each row. -/
def mxv (v : FVec Ideal S512x1024 .f32) : FVec Ideal S512x1 .f32 :=
  shapeCast S512x1 (multiReduction .maximumf [1] S512 v 0xFF800000#32 reduces_S512x1024_S512 (.inl rfl) rfl) shapeCasts_S512_S512x1

/-- The first position of the greatest of each row. -/
def amv (v : FVec Ideal S512x1024 .f32) : IVec S512x1 32 :=
  shapeCast S512x1 (multiReductionI .minsi [1] S512 (select (cmpf .oeq v (broadcastTo S512x1024 (mxv v) broadcasts_S512x1_S512x1024))
    (iota .tc S512x1024 32 [1] iota_S512x1024_d1_w32) (broadcast S512x1024 100352#32)) 2147483647#32 reduces_S512x1024_S512 rfl) shapeCasts_S512_S512x1

/-- The rows with that position dropped. -/
def nxv (v : FVec Ideal S512x1024 .f32) : FVec Ideal S512x1024 .f32 :=
  select (cmpi .eq (iota .tc S512x1024 32 [1] iota_S512x1024_d1_w32) (broadcastTo S512x1024 (amv v) broadcasts_S512x1_S512x1024))
    (broadcast S512x1024 (Scalar.ofBits .f32 0xFF800000#32)) v

theorem mxv_apply (v : FVec Ideal S512x1024 .f32) (q : Fin 512) :
    (mxv v (ix2 q 0) : EReal) = v (ix2 q (first fun l => v (ix2 q l))) := by
  pointwise [mxv]
  exact fold_max _

theorem amv_apply (v : FVec Ideal S512x1024 .f32) (q : Fin 512) :
    amv v (ix2 q 0) = BitVec.ofNat 32 (first fun l => v (ix2 q l)).val := by
  have h := mxv_apply v q
  generalize hM : mxv v = M at h
  unfold amv
  rw [hM]
  pointwise []
  rw [h]
  exact fold_first fun l => v (ix2 q l)

theorem nxv_apply (v : FVec Ideal S512x1024 .f32) (q : Fin 512) (l : Fin 1024) :
    (nxv v (ix2 q l) : EReal) = if l = first (fun l => v (ix2 q l)) then ⊥ else v (ix2 q l) := by
  have h := amv_apply v q
  generalize hM : amv v = M at h
  unfold nxv
  rw [hM]
  pointwise []
  rw [h, ofBits_bot_f32]
  by_cases hl : l = first fun l => v (ix2 q l)
  · rw [if_pos hl, hl]
    simp [IntOp.cmpi, Scalar.select]
  · rw [if_neg hl]
    have : (BitVec.ofNat 32 l.val == BitVec.ofNat 32 (first fun l => v (ix2 q l)).val) = false :=
      beq_eq_false_iff_ne.mpr fun h => hl ((ofNat_inj (by norm_num) _ _).mp h)
    simp [IntOp.cmpi, Scalar.select, this]

/-- The rows after each round. -/
def rv (v : FVec Ideal S512x1024 .f32) : ℕ → FVec Ideal S512x1024 .f32
  | 0 => v
  | s + 1 => nxv (rv v s)

theorem rv_apply (v : FVec Ideal S512x1024 .f32) (s : ℕ) (q : Fin 512) :
    (fun l => (rv v s (ix2 q l) : EReal)) = rd (fun l => v (ix2 q l)) s := by
  induction s with
  | zero => rfl
  | succ s ih =>
    funext l
    show nxv (rv v s) (ix2 q l) = if l = first (rd (fun l => v (ix2 q l)) s) then ⊥ else rd (fun l => v (ix2 q l)) s l
    rw [nxv_apply, ih]
    exact congrArg (fun f : Fin 1024 → EReal => if l = first (rd (fun l => v (ix2 q l)) s) then ⊥ else f l) ih

theorem mxv_rv (v : FVec Ideal S512x1024 .f32) (s : ℕ) (q : Fin 512) :
    (mxv (rv v s) (ix2 q 0) : EReal) = rdM (fun l => v (ix2 q l)) s := by
  rw [mxv_apply, rv_apply]
  exact congrFun (rv_apply v s q) _

theorem amv_rv (v : FVec Ideal S512x1024 .f32) (s : ℕ) (q : Fin 512) :
    amv (rv v s) (ix2 q 0) = BitVec.ofNat 32 (rdA (fun l => v (ix2 q l)) s).val := by
  rw [amv_apply, rv_apply]; rfl

theorem pay8_eq (x : Vec Ideal S512x1024 .f32) : k2_pay8 (View.ld x r2_0) = x := by
  funext j
  idx_vars j
  pointwise [k2_pay8]

/-- The first output: the eight values taken. -/
theorem out2_1_apply (i : grid2.Coords) (x : Vec Ideal S512x1024 .f32) (q : Fin 512) (s : Fin 8) :
    (out2_1 i x (ix3 0 q s) : EReal) = rdM (fun l => x (ix2 q l)) s.val := by
  unfold out2_1
  rw [View.canon_unit_zero (by funext a; fin_cases a <;> rfl)]
  have e0 : b2_2 i x = mxv (rv (k2_pay8 (View.ld x r2_0)) 0) := rfl
  have e1 : b2_4 i x = mxv (rv (k2_pay8 (View.ld x r2_0)) 1) := rfl
  have e2 : b2_7 i x = mxv (rv (k2_pay8 (View.ld x r2_0)) 2) := rfl
  have e3 : b2_10 i x = mxv (rv (k2_pay8 (View.ld x r2_0)) 3) := rfl
  have e4 : b2_12 i x = mxv (rv (k2_pay8 (View.ld x r2_0)) 4) := rfl
  have e5 : b2_14 i x = mxv (rv (k2_pay8 (View.ld x r2_0)) 5) := rfl
  have e6 : b2_17 i x = mxv (rv (k2_pay8 (View.ld x r2_0)) 6) := rfl
  unfold k2_pay5
  have e7 : k2_pay3 (b2_0 i x) (b2_16 i x) (b2_17 i x) = mxv (rv (k2_pay8 (View.ld x r2_0)) 7) := rfl
  rw [e0, e1, e2, e3, e4, e5, e7, e6, pay8_eq]
  have h0 := mxv_rv x 0 q
  generalize mxv (rv x 0) = m0 at *
  have h1 := mxv_rv x 1 q
  generalize mxv (rv x 1) = m1 at *
  have h2 := mxv_rv x 2 q
  generalize mxv (rv x 2) = m2 at *
  have h3 := mxv_rv x 3 q
  generalize mxv (rv x 3) = m3 at *
  have h4 := mxv_rv x 4 q
  generalize mxv (rv x 4) = m4 at *
  have h5 := mxv_rv x 5 q
  generalize mxv (rv x 5) = m5 at *
  have h6 := mxv_rv x 6 q
  generalize mxv (rv x 6) = m6 at *
  have h7 := mxv_rv x 7 q
  generalize mxv (rv x 7) = m7 at *
  fin_cases s <;> pointwise [] <;> assumption

/-- The second output: their positions. -/
theorem out2_2_apply (i : grid2.Coords) (x : Vec Ideal S512x1024 .f32) (q : Fin 512) (s : Fin 8) :
    out2_2 i x (ix3 0 q s) = IntOp.addi (BitVec.ofNat 32 (rdA (fun l => x (ix2 q l)) s.val).val) (Scalar.muli (BitVec.ofNat 32 (i 1).val) 1024#32) := by
  unfold out2_2
  rw [View.canon_unit_zero (by funext a; fin_cases a <;> rfl)]
  have e0 : b2_3 i x = addi (amv (rv (k2_pay8 (View.ld x r2_0)) 0)) (broadcast S512x1 (b2_1 i x)) := rfl
  have e1 : b2_5 i x = addi (amv (rv (k2_pay8 (View.ld x r2_0)) 1)) (broadcast S512x1 (b2_1 i x)) := rfl
  have e2 : b2_8 i x = addi (amv (rv (k2_pay8 (View.ld x r2_0)) 2)) (broadcast S512x1 (b2_1 i x)) := rfl
  have e3 : b2_11 i x = addi (amv (rv (k2_pay8 (View.ld x r2_0)) 3)) (broadcast S512x1 (b2_1 i x)) := rfl
  have e4 : b2_13 i x = addi (amv (rv (k2_pay8 (View.ld x r2_0)) 4)) (broadcast S512x1 (b2_1 i x)) := rfl
  have e5 : b2_15 i x = addi (amv (rv (k2_pay8 (View.ld x r2_0)) 5)) (broadcast S512x1 (b2_1 i x)) := rfl
  unfold k2_pay6
  have e6 : k2_pay1 (b2_0 i x) (b2_16 i x) (b2_17 i x) = amv (rv (k2_pay8 (View.ld x r2_0)) 6) := rfl
  have e7 : k2_pay4 (b2_0 i x) (b2_16 i x) (b2_17 i x) = amv (rv (k2_pay8 (View.ld x r2_0)) 7) := rfl
  rw [e0, e1, e2, e3, e4, e5, e7, e6, pay8_eq]
  rw [show Scalar.muli (BitVec.ofNat 32 (i 1).val) 1024#32 = b2_1 i x from rfl]
  generalize b2_1 i x = o
  have h0 := amv_rv x 0 q
  generalize amv (rv x 0) = m0 at *
  have h1 := amv_rv x 1 q
  generalize amv (rv x 1) = m1 at *
  have h2 := amv_rv x 2 q
  generalize amv (rv x 2) = m2 at *
  have h3 := amv_rv x 3 q
  generalize amv (rv x 3) = m3 at *
  have h4 := amv_rv x 4 q
  generalize amv (rv x 4) = m4 at *
  have h5 := amv_rv x 5 q
  generalize amv (rv x 5) = m5 at *
  have h6 := amv_rv x 6 q
  generalize amv (rv x 6) = m6 at *
  have h7 := amv_rv x 7 q
  generalize amv (rv x 7) = m7 at *
  fin_cases s <;> pointwise []
  · rw [h0]
  · rw [h1]
  · rw [h2]
  · rw [h3]
  · rw [h4]
  · rw [h5]
  · rw [h6]
  · rw [h7]

/-- The third output: the greatest left. -/
theorem out2_3_apply (i : grid2.Coords) (x : Vec Ideal S512x1024 .f32) (q : Fin 512) :
    (out2_3 i x (ix3 0 q 0) : EReal) = rdM (fun l => x (ix2 q l)) 8 := by
  unfold out2_3
  rw [View.canon_unit_zero (by funext a; fin_cases a <;> rfl)]
  have e : k2_pay7 (b2_0 i x) (b2_16 i x) (b2_17 i x) = shapeCast S1x512x1 (mxv (rv (k2_pay8 (View.ld x r2_0)) 8)) shapeCasts_S512x1_S1x512x1 := rfl
  rw [e, pay8_eq]
  have h := mxv_rv x 8 q
  generalize mxv (rv x 8) = m at *
  pointwise []
  exact h

end Cert.KernelIdeal.Own

end
-- ==== Proof.TopK.lean ====
/-
  The two results of a row-wise top-k over the extended reals, read at an index.
-/
module

public import proofs.«01_k».proof.Proof.Rank
public import Idealize.ShloMosaic.Lib.Pointwise
public import Idealize.ShloMosaic.Lib.Pipeline.Value

@[expose] public section

noncomputable section

namespace Cert.Own

open Idealize.ShloMosaic

/-- A row's position `e`, its coordinates set along the second axis. -/
theorem along_ix2 {a b : ℕ} (j : (⟨2, ![a, b]⟩ : Shape).Idx) (e : Fin b) :
    j.along (1 : Fin 2) e = ix2 (j 0) e := by
  funext d
  match d with
  | ⟨0, _⟩ => rfl
  | ⟨1, _⟩ => rfl

/-- "Greater" at the ideal instance is the order of the extended reals. -/
theorem cmp_gt (x y : EReal) : (FloatOps.cmpfTotal (F := Ideal) (φ := .f32) .gt x y == 1#1) = decide (y < x) := by
  rw [Ideal.cmpfTotal_def]
  show (Ideal.cmp .ogt x y == 1#1) = _
  simp only [Ideal.cmp]
  by_cases h : y < x <;> simp [h]

section
variable {a b k : ℕ} (x : (⟨2, ![a, b]⟩ : Shape).Idx → Ideal .f32)
  (h : (⟨2, ![a, b]⟩ : Shape).Slices (fun _ => 0) ⟨2, ![a, k]⟩) (hk : k ≤ b) (q : Fin a) (j : Fin k)

/-- The greatest values of a row, greatest first. -/
theorem topK_val : (Host.topK ⟨2, ![a, k]⟩ 1 (FloatOps.cmpfTotal (F := Ideal) (φ := .f32) .gt) x h).1 (ix2 q j)
    = x (ix2 q (nth (fun e => x (ix2 q e)) ⟨j.val, j.isLt.trans_le hk⟩)) := by
  unfold Host.topK
  dsimp only
  rw [extractStridedSlice_apply _ _ h (ix2 q j) (ix2 q ⟨j.val, j.isLt.trans_le hk⟩)
    (by intro d; match d with | ⟨0, _⟩ => exact (Nat.zero_add _).symm | ⟨1, _⟩ => exact (Nat.zero_add _).symm)]
  unfold Host.sort2
  rw [dif_pos (by show 1 < 2; omega)]
  dsimp only
  erw [along_ix2]
  refine congrArg (fun p => x (ix2 q p)) (congrArg (fun B => sortedFrom B _) ?_)
  funext e e'
  erw [along_ix2, along_ix2]
  exact cmp_gt _ _

/-- Their positions, as words. -/
theorem topK_idx : (Host.topK ⟨2, ![a, k]⟩ 1 (FloatOps.cmpfTotal (F := Ideal) (φ := .f32) .gt) x h).2 (ix2 q j)
    = BitVec.ofNat 32 (nth (fun e => x (ix2 q e)) ⟨j.val, j.isLt.trans_le hk⟩).val := by
  unfold Host.topK
  dsimp only
  rw [extractStridedSlice_apply _ _ h (ix2 q j) (ix2 q ⟨j.val, j.isLt.trans_le hk⟩)
    (by intro d; match d with | ⟨0, _⟩ => exact (Nat.zero_add _).symm | ⟨1, _⟩ => exact (Nat.zero_add _).symm)]
  unfold Host.sort2
  rw [dif_pos (by show 1 < 2; omega)]
  dsimp only
  rw [dif_pos (by show 1 < 2; omega)]
  erw [along_ix2]
  unfold iotaInDim
  refine congrArg (fun p : Fin b => BitVec.ofNat 32 p.val) (congrArg (fun B => sortedFrom B _) ?_)
  funext e e'
  erw [along_ix2, along_ix2]
  exact cmp_gt _ _

end

end Cert.Own

end
-- ==== Proof.Gathers.lean ====
/-
  The programs' gathers read at an index, their start indices in range.
-/
module

public import proofs.«01_k».proof.Proof.KIVals
public import proofs.«01_k».proof.Proof.Gen.ReferenceIdeal.Read
public import proofs.«01_k».proof.Proof.Rounds
public import Idealize.ShloMosaic.Lib.Pointwise

@[expose] public section

namespace Cert.Own

open Idealize.ShloMosaic Cert.KernelIdeal.Gen Cert.ReferenceIdeal.Gen

/-- A start index in range is not moved by the clamp. -/
theorem clamp_eq {w : BitVec 32} {n k : ℕ} (hw : w = BitVec.ofNat 32 n) (hn : n ≤ k) (hk : k < 2 ^ 31) : min w.toInt.toNat k = n := by
  rw [hw, toInt_ofNat_small _ (by omega), Int.toNat_natCast, Nat.min_eq_left hn]

/-- Each row takes its own columns. -/
theorem gather_Ke232b1 {α : Type} (x : Cert.KernelIdeal.S1024x784.Idx → α) (idx : IVec Cert.KernelIdeal.S1024x100x1 32) (q : Fin 1024) (j : Fin 100) (n1 : Fin 784)
    (h1 : idx (ix3 q j 0) = BitVec.ofNat 32 n1.val) :
    Host.gather Cert.KernelIdeal.gather_S1024x784_S1024x100x1_S1024x100_n_1_0_0_1_2_11 x idx (ix2 q j) = x (ix2 q n1) := by
  have e1 : Cert.KernelIdeal.gather_S1024x784_S1024x100x1_S1024x100_n_1_0_0_1_2_11.siIdx (ix2 q j) ⟨0, by decide⟩ = ix3 q j 0 := by
    funext b; fin_cases b <;> rfl
  have m1 : Cert.KernelIdeal.gather_S1024x784_S1024x100x1_S1024x100_n_1_0_0_1_2_11.start (ix2 q j) idx 1 = n1.val := by
    show min (idx (Cert.KernelIdeal.gather_S1024x784_S1024x100x1_S1024x100_n_1_0_0_1_2_11.siIdx (ix2 q j) ⟨0, by decide⟩)).toInt.toNat 783 = _
    rw [e1]
    exact clamp_eq h1 (by omega) (by norm_num)
  unfold Host.gather
  refine congrArg x ?_
  funext a
  refine Fin.ext ?_
  fin_cases a
  · show 0 + q.val + 0 = q.val
    omega
  · show Cert.KernelIdeal.gather_S1024x784_S1024x100x1_S1024x100_n_1_0_0_1_2_11.start (ix2 q j) idx 1 + 0 + 0 = n1.val
    rw [m1]; rfl

/-- Every row takes the same columns. -/
theorem gather_Re2221 {α : Type} (x : Cert.ReferenceIdeal.S1024x1024.Idx → α) (idx : IVec Cert.ReferenceIdeal.S100000x1 32) (q : Fin 1024) (j : Fin 100000) (n1 : Fin 1024)
    (h1 : idx (ix2 j 0) = BitVec.ofNat 32 n1.val) :
    Host.gather Cert.ReferenceIdeal.gather_S1024x1024_S100000x1_S1024x100000_0_1_n_n_1_1_10241 x idx (ix2 q j) = x (ix2 q n1) := by
  have e1 : Cert.ReferenceIdeal.gather_S1024x1024_S100000x1_S1024x100000_0_1_n_n_1_1_10241.siIdx (ix2 q j) ⟨0, by decide⟩ = ix2 j 0 := by
    funext b; fin_cases b <;> rfl
  have m1 : Cert.ReferenceIdeal.gather_S1024x1024_S100000x1_S1024x100000_0_1_n_n_1_1_10241.start (ix2 q j) idx 1 = n1.val := by
    show min (idx (Cert.ReferenceIdeal.gather_S1024x1024_S100000x1_S1024x100000_0_1_n_n_1_1_10241.siIdx (ix2 q j) ⟨0, by decide⟩)).toInt.toNat 1023 = _
    rw [e1]
    exact clamp_eq h1 (by omega) (by norm_num)
  unfold Host.gather
  refine congrArg x ?_
  funext a
  refine Fin.ext ?_
  fin_cases a
  · show 0 + 0 + q.val = q.val
    omega
  · show Cert.ReferenceIdeal.gather_S1024x1024_S100000x1_S1024x100000_0_1_n_n_1_1_10241.start (ix2 q j) idx 1 + 0 + 0 = n1.val
    rw [m1]; rfl

/-- Single entries of a rank-3 table. -/
theorem gather_Re3323 {α : Type} (x : Cert.ReferenceIdeal.S1024x16x256.Idx → α) (idx : IVec Cert.ReferenceIdeal.S100000x16x3 32) (q : Fin 100000) (j : Fin 16) (n0 : Fin 1024) (n1 : Fin 16) (n2 : Fin 256)
    (h0 : idx (ix3 q j 0) = BitVec.ofNat 32 n0.val) (h1 : idx (ix3 q j 1) = BitVec.ofNat 32 n1.val) (h2 : idx (ix3 q j 2) = BitVec.ofNat 32 n2.val) :
    Host.gather Cert.ReferenceIdeal.gather_S1024x16x256_S100000x16x3_S100000x16_n_012_n_n_012_2_111 x idx (ix2 q j) = x (ix3 n0 n1 n2) := by
  have e0 : Cert.ReferenceIdeal.gather_S1024x16x256_S100000x16x3_S100000x16_n_012_n_n_012_2_111.siIdx (ix2 q j) ⟨0, by decide⟩ = ix3 q j 0 := by
    funext b; fin_cases b <;> rfl
  have m0 : Cert.ReferenceIdeal.gather_S1024x16x256_S100000x16x3_S100000x16_n_012_n_n_012_2_111.start (ix2 q j) idx 0 = n0.val := by
    show min (idx (Cert.ReferenceIdeal.gather_S1024x16x256_S100000x16x3_S100000x16_n_012_n_n_012_2_111.siIdx (ix2 q j) ⟨0, by decide⟩)).toInt.toNat 1023 = _
    rw [e0]
    exact clamp_eq h0 (by omega) (by norm_num)
  have e1 : Cert.ReferenceIdeal.gather_S1024x16x256_S100000x16x3_S100000x16_n_012_n_n_012_2_111.siIdx (ix2 q j) ⟨1, by decide⟩ = ix3 q j 1 := by
    funext b; fin_cases b <;> rfl
  have m1 : Cert.ReferenceIdeal.gather_S1024x16x256_S100000x16x3_S100000x16_n_012_n_n_012_2_111.start (ix2 q j) idx 1 = n1.val := by
    show min (idx (Cert.ReferenceIdeal.gather_S1024x16x256_S100000x16x3_S100000x16_n_012_n_n_012_2_111.siIdx (ix2 q j) ⟨1, by decide⟩)).toInt.toNat 15 = _
    rw [e1]
    exact clamp_eq h1 (by omega) (by norm_num)
  have e2 : Cert.ReferenceIdeal.gather_S1024x16x256_S100000x16x3_S100000x16_n_012_n_n_012_2_111.siIdx (ix2 q j) ⟨2, by decide⟩ = ix3 q j 2 := by
    funext b; fin_cases b <;> rfl
  have m2 : Cert.ReferenceIdeal.gather_S1024x16x256_S100000x16x3_S100000x16_n_012_n_n_012_2_111.start (ix2 q j) idx 2 = n2.val := by
    show min (idx (Cert.ReferenceIdeal.gather_S1024x16x256_S100000x16x3_S100000x16_n_012_n_n_012_2_111.siIdx (ix2 q j) ⟨2, by decide⟩)).toInt.toNat 255 = _
    rw [e2]
    exact clamp_eq h2 (by omega) (by norm_num)
  unfold Host.gather
  refine congrArg x ?_
  funext a
  refine Fin.ext ?_
  fin_cases a
  · show Cert.ReferenceIdeal.gather_S1024x16x256_S100000x16x3_S100000x16_n_012_n_n_012_2_111.start (ix2 q j) idx 0 + 0 + 0 = n0.val
    rw [m0]; rfl
  · show Cert.ReferenceIdeal.gather_S1024x16x256_S100000x16x3_S100000x16_n_012_n_n_012_2_111.start (ix2 q j) idx 1 + 0 + 0 = n1.val
    rw [m1]; rfl
  · show Cert.ReferenceIdeal.gather_S1024x16x256_S100000x16x3_S100000x16_n_012_n_n_012_2_111.start (ix2 q j) idx 2 + 0 + 0 = n2.val
    rw [m2]; rfl

/-- Single entries of a rank-2 table. -/
theorem gather_Re2322 {α : Type} (x : Cert.ReferenceIdeal.S16x256.Idx → α) (idx : IVec Cert.ReferenceIdeal.S100000x16x2 32) (q : Fin 100000) (j : Fin 16) (n0 : Fin 16) (n1 : Fin 256)
    (h0 : idx (ix3 q j 0) = BitVec.ofNat 32 n0.val) (h1 : idx (ix3 q j 1) = BitVec.ofNat 32 n1.val) :
    Host.gather Cert.ReferenceIdeal.gather_S16x256_S100000x16x2_S100000x16_n_01_n_n_01_2_11 x idx (ix2 q j) = x (ix2 n0 n1) := by
  have e0 : Cert.ReferenceIdeal.gather_S16x256_S100000x16x2_S100000x16_n_01_n_n_01_2_11.siIdx (ix2 q j) ⟨0, by decide⟩ = ix3 q j 0 := by
    funext b; fin_cases b <;> rfl
  have m0 : Cert.ReferenceIdeal.gather_S16x256_S100000x16x2_S100000x16_n_01_n_n_01_2_11.start (ix2 q j) idx 0 = n0.val := by
    show min (idx (Cert.ReferenceIdeal.gather_S16x256_S100000x16x2_S100000x16_n_01_n_n_01_2_11.siIdx (ix2 q j) ⟨0, by decide⟩)).toInt.toNat 15 = _
    rw [e0]
    exact clamp_eq h0 (by omega) (by norm_num)
  have e1 : Cert.ReferenceIdeal.gather_S16x256_S100000x16x2_S100000x16_n_01_n_n_01_2_11.siIdx (ix2 q j) ⟨1, by decide⟩ = ix3 q j 1 := by
    funext b; fin_cases b <;> rfl
  have m1 : Cert.ReferenceIdeal.gather_S16x256_S100000x16x2_S100000x16_n_01_n_n_01_2_11.start (ix2 q j) idx 1 = n1.val := by
    show min (idx (Cert.ReferenceIdeal.gather_S16x256_S100000x16x2_S100000x16_n_01_n_n_01_2_11.siIdx (ix2 q j) ⟨1, by decide⟩)).toInt.toNat 255 = _
    rw [e1]
    exact clamp_eq h1 (by omega) (by norm_num)
  unfold Host.gather
  refine congrArg x ?_
  funext a
  refine Fin.ext ?_
  fin_cases a
  · show Cert.ReferenceIdeal.gather_S16x256_S100000x16x2_S100000x16_n_01_n_n_01_2_11.start (ix2 q j) idx 0 + 0 + 0 = n0.val
    rw [m0]; rfl
  · show Cert.ReferenceIdeal.gather_S16x256_S100000x16x2_S100000x16_n_01_n_n_01_2_11.start (ix2 q j) idx 1 + 0 + 0 = n1.val
    rw [m1]; rfl

/-- Every row takes the same entries. -/
theorem gather_Re3332 {α : Type} (x : Cert.ReferenceIdeal.S1024x16x256.Idx → α) (idx : IVec Cert.ReferenceIdeal.S100000x16x2 32) (q : Fin 1024) (j : Fin 100000) (k : Fin 16) (n1 : Fin 16) (n2 : Fin 256)
    (h1 : idx (ix3 j k 0) = BitVec.ofNat 32 n1.val) (h2 : idx (ix3 j k 1) = BitVec.ofNat 32 n2.val) :
    Host.gather Cert.ReferenceIdeal.gather_S1024x16x256_S100000x16x2_S1024x100000x16_0_12_n_n_12_2_102411 x idx (ix3 q j k) = x (ix3 q n1 n2) := by
  have e1 : Cert.ReferenceIdeal.gather_S1024x16x256_S100000x16x2_S1024x100000x16_0_12_n_n_12_2_102411.siIdx (ix3 q j k) ⟨0, by decide⟩ = ix3 j k 0 := by
    funext b; fin_cases b <;> rfl
  have m1 : Cert.ReferenceIdeal.gather_S1024x16x256_S100000x16x2_S1024x100000x16_0_12_n_n_12_2_102411.start (ix3 q j k) idx 1 = n1.val := by
    show min (idx (Cert.ReferenceIdeal.gather_S1024x16x256_S100000x16x2_S1024x100000x16_0_12_n_n_12_2_102411.siIdx (ix3 q j k) ⟨0, by decide⟩)).toInt.toNat 15 = _
    rw [e1]
    exact clamp_eq h1 (by omega) (by norm_num)
  have e2 : Cert.ReferenceIdeal.gather_S1024x16x256_S100000x16x2_S1024x100000x16_0_12_n_n_12_2_102411.siIdx (ix3 q j k) ⟨1, by decide⟩ = ix3 j k 1 := by
    funext b; fin_cases b <;> rfl
  have m2 : Cert.ReferenceIdeal.gather_S1024x16x256_S100000x16x2_S1024x100000x16_0_12_n_n_12_2_102411.start (ix3 q j k) idx 2 = n2.val := by
    show min (idx (Cert.ReferenceIdeal.gather_S1024x16x256_S100000x16x2_S1024x100000x16_0_12_n_n_12_2_102411.siIdx (ix3 q j k) ⟨1, by decide⟩)).toInt.toNat 255 = _
    rw [e2]
    exact clamp_eq h2 (by omega) (by norm_num)
  unfold Host.gather
  refine congrArg x ?_
  funext a
  refine Fin.ext ?_
  fin_cases a
  · show 0 + 0 + q.val = q.val
    omega
  · show Cert.ReferenceIdeal.gather_S1024x16x256_S100000x16x2_S1024x100000x16_0_12_n_n_12_2_102411.start (ix3 q j k) idx 1 + 0 + 0 = n1.val
    rw [m1]; rfl
  · show Cert.ReferenceIdeal.gather_S1024x16x256_S100000x16x2_S1024x100000x16_0_12_n_n_12_2_102411.start (ix3 q j k) idx 2 + 0 + 0 = n2.val
    rw [m2]; rfl

end Cert.Own
-- ==== Proof.KIRes.lean ====
/-
  The result: what the block selections and the branch leave is the selection over each query's whole row.
-/
module

public import proofs.«01_k».proof.Proof.KIArr
public import proofs.«01_k».proof.Proof.KIExtVal
public import proofs.«01_k».proof.Proof.Rank
public import proofs.«01_k».proof.Proof.TopK
public import proofs.«01_k».proof.Proof.Gathers
public import Idealize.ShloMosaic.Lib.StableHlo.RunRead

@[expose] public section

set_option maxRecDepth 16384

noncomputable section

namespace Cert.KernelIdeal.Own

open Cert.KernelIdeal Cert.KernelIdeal.Gen Cert.Own
open Idealize.ShloMosaic Idealize.ShloMosaic.TcCoe
open Idealize.SL Idealize.SL.RA Idealize.SL.BI Idealize.SL.Sem

/-- The slice of a query's row in one block. -/
def slice (x : Fin 100352 → EReal) (j : Fin 98) : Fin 1024 → EReal := fun l => x ⟨j.val * 1024 + l.val, by omega⟩

section

variable (V : Dev nD → Valuation τ sig (Elt Ideal)) (c : Dev nD)

/-- A query's row of the table. -/
def row (q : Fin 1024) : Fin 100352 → EReal := fun e => V c main_v70 (ix2 q e)

/-- The point of the third call that holds a query's slice. -/
def pt (q : Fin 1024) (j : Fin 98) : Fin cfg2.N := ⟨98 * (q.val / 512) + j.val, by have := N_2; have : cfg2.N = grid2.N := rfl; omega⟩

theorem blk_row (q : Fin 1024) (j : Fin 98) :
    (fun l => iblk2 V c 0 (pt q j) (ix2 ⟨q.val % 512, Nat.mod_lt _ (by norm_num)⟩ l)) = slice (row V c q) j := by
  funext l
  have h1 : (pt q j).val = 98 * (q.val / 512) + j.val := rfl
  generalize pt q j = t at h1
  rw [iblk2_0_apply]
  unfold slice row
  congr 2
  · exact Fin.ext (by dsimp only; omega)
  · exact Fin.ext (by dsimp only; omega)

/-- The values each block's rounds take. -/
theorem vals_at (j : Fin 98) (q : Fin 1024) (s : Fin 8) :
    (dat2 V c).arrAt 1 cfg2.N (ix3 j q s) = rdM (slice (row V c q) j) s.val := by
  rw [arr2_1]
  have h : pt2_1 (ix3 j q s) = pt q j := Fin.ext rfl
  dsimp only
  rw [h, ← blk_row, ← out2_1_apply (grid2.coords (pt q j))]
  congr 1
  funext a
  fin_cases a
  · exact Subsingleton.elim (α := Fin 1) _ _
  · rfl
  · exact Fin.ext (Nat.mod_eq_of_lt s.isLt)

theorem coords_val : ∀ t : Fin grid2.N, (grid2.coords t 1).val = t.val % 98 := by decide +kernel

/-- Where each block's rounds take them. -/
theorem idxs_at (j : Fin 98) (q : Fin 1024) (s : Fin 8) :
    (dat2 V c).arrAt 2 cfg2.N (ix3 j q s) = BitVec.ofNat 32 (j.val * 1024 + (rdA (slice (row V c q) j) s.val).val) := by
  rw [arr2_2]
  have h : pt2_2 (ix3 j q s) = pt q j := Fin.ext rfl
  have hc : (grid2.coords (pt q j) 1).val = j.val := by
    rw [coords_val]
    show (98 * (q.val / 512) + j.val) % 98 = _
    omega
  dsimp only
  rw [h]
  refine (congrArg _ ?_).trans ((out2_2_apply (grid2.coords (pt q j)) (iblk2 V c 0 (pt q j)) ⟨q.val % 512, Nat.mod_lt _ (by norm_num)⟩ s).trans ?_)
  · funext a
    fin_cases a
    · exact Subsingleton.elim (α := Fin 1) _ _
    · rfl
    · exact Fin.ext (Nat.mod_eq_of_lt s.isLt)
  · rw [blk_row, hc]
    generalize rdA _ _ = p
    show BitVec.ofNat 32 _ + BitVec.ofNat 32 _ * BitVec.ofNat 32 1024 = _
    rw [← BitVec.ofNat_mul, ← BitVec.ofNat_add, Nat.add_comm]

/-- What is left after the rounds. -/
theorem ninth_at (j : Fin 98) (q : Fin 1024) :
    (dat2 V c).arrAt 3 cfg2.N (ix3 j q 0) = rdM (slice (row V c q) j) 8 := by
  rw [arr2_3]
  have h : pt2_3 (ix3 j q 0) = pt q j := Fin.ext rfl
  dsimp only
  rw [h, ← blk_row, ← out2_3_apply (grid2.coords (pt q j))]
  congr 1
  funext a
  fin_cases a
  · exact Subsingleton.elim (α := Fin 1) _ _
  · rfl
  · exact Subsingleton.elim (α := Fin 1) _ _

end

/-! ## The candidates -/

section

variable (x : Fin 100352 → EReal)

/-- A candidate's value and place: block by block, round by round. -/
def cval (p : Fin 784) : EReal := rdM (slice x ⟨p.val / 8, by omega⟩) (p.val % 8)
def cidx (p : Fin 784) : Fin 100352 := ⟨p.val / 8 * 1024 + (rdA (slice x ⟨p.val / 8, by omega⟩) (p.val % 8)).val, by omega⟩

/-- The candidates' selection is the row's, while its values are above what every block left. -/
theorem pick (b : EReal) (hb : ∀ j, rdM (slice x j) 8 ≤ b) (k : Fin 784) (hk : b < cval x (nth (cval x) k)) :
    cidx x (nth (cval x) k) = nth x ⟨k.val, by omega⟩ := by
  refine nth_candidates x (cval x) (cidx x) b ?_ ?_ ?_ k hk (by omega)
  · intro p hp
    exact round_val (slice x ⟨p.val / 8, by omega⟩) (rdA _) (rdM _) (rd_at _) (p.val % 8) hp
  · intro p p' hp he hlt
    by_cases h : p.val / 8 = p'.val / 8
    · have hm : p.val % 8 < p'.val % 8 := by have := Fin.lt_def.mp hlt; omega
      have e : (⟨p.val / 8, by omega⟩ : Fin 98) = ⟨p'.val / 8, by omega⟩ := Fin.ext h
      unfold cval at hp he
      unfold cidx
      rw [Fin.lt_def]
      dsimp only
      rw [← e] at he ⊢
      have := round_ord (slice x ⟨p.val / 8, by omega⟩) (rdA _) (rdM _) (rd_le _) (rd_at _) (rd_min _) _ _ hm hp he
      have := Fin.lt_def.mp this
      omega
    · rw [Fin.lt_def]
      unfold cidx
      dsimp only
      have := Fin.lt_def.mp hlt
      omega
  · intro e he
    have e1 : slice x ⟨e.val / 1024, by omega⟩ ⟨e.val % 1024, Nat.mod_lt _ (by norm_num)⟩ = x e := by
      unfold slice
      congr 1
      exact Fin.ext (by dsimp only; omega)
    obtain ⟨s, hs, h1, h2⟩ := round_all (slice x ⟨e.val / 1024, by omega⟩) (rdA _) (rdM _) (rd_le _) (rd_at _) 8
      ⟨e.val % 1024, Nat.mod_lt _ (by norm_num)⟩ ((hb _).trans_lt (by rw [e1]; exact he))
    have d1 : (8 * (e.val / 1024) + s) / 8 = e.val / 1024 := by omega
    have d2 : (8 * (e.val / 1024) + s) % 8 = s := by omega
    refine ⟨⟨8 * (e.val / 1024) + s, by omega⟩, ?_, ?_⟩
    · unfold cval
      simp only [d1, d2]
      exact h1
    · unfold cidx
      simp only [d1, d2, h2]
      exact Fin.ext (by dsimp only; omega)

end

/-! ## The candidates' selection as the host leaves it -/

theorem cand_val (Y : Vec Ideal S98x1024x8 .f32) (q : Fin 1024) (p : Fin 784) :
    shapeCast S1024x784 (transpose S1024x98x8 [1, 0, 2] Y transposes_S98x1024x8_S1024x98x8_1_0_2) shapeCasts_S1024x98x8_S1024x784 (ix2 q p)
      = Y (ix3 ⟨p.val / 8, by omega⟩ q ⟨p.val % 8, Nat.mod_lt _ (by norm_num)⟩) := by
  pointwise

theorem cand_idx (Y : Vec Ideal S98x1024x8 .i32) (q : Fin 1024) (p : Fin 784) :
    shapeCast S1024x784 (transpose S1024x98x8 [1, 0, 2] Y transposes_S98x1024x8_S1024x98x8_1_0_2) shapeCasts_S1024x98x8_S1024x784 (ix2 q p)
      = Y (ix3 ⟨p.val / 8, by omega⟩ q ⟨p.val % 8, Nat.mod_lt _ (by norm_num)⟩) := by
  pointwise

/-- The greatest of what the blocks left bounds each. -/
theorem ninth_le (Y : Vec Ideal S98x1024x1 .f32) (q : Fin 1024) (j : Fin 98) :
    (Y (ix3 j q 0) : EReal) ≤ (Host.reduce (FloatOps.maximumf (F := Ideal) (φ := .f32)) (shapeCast S98x1024 Y shapeCasts_S98x1024x1_S98x1024) (constant (F := Ideal) S_ .f32 0xFF800000#32) reducesTo_S98x1024_S1024_d0 h_S_) (ix1 q) := by
  have e : (Host.reduce (FloatOps.maximumf (F := Ideal) (φ := .f32)) (shapeCast S98x1024 Y shapeCasts_S98x1024x1_S98x1024) (constant (F := Ideal) S_ .f32 0xFF800000#32) reducesTo_S98x1024_S1024_d0 h_S_) (ix1 q)
      = Finset.fold max (Ideal.ofBits .f32 0xFF800000#32) (fun x => (Y (ix3 x q 0) : EReal)) Finset.univ := by
    pointwise
  rw [e, Finset.le_fold_max]
  exact Or.inr ⟨j, Finset.mem_univ _, le_refl _⟩

/-- A conjunction of bits is one only if each is. -/
theorem fold_andi {n : ℕ} (f : Fin n → BitVec 1) : Finset.fold IntOp.andi 1#1 f Finset.univ = 1#1 ↔ ∀ i, f i = 1#1 := by
  have key : ∀ s : Finset (Fin n), Finset.fold IntOp.andi 1#1 f s = 1#1 ↔ ∀ i ∈ s, f i = 1#1 := by
    intro s
    induction s using Finset.induction_on with
    | empty => simp
    | insert a s ha ih =>
      rw [Finset.fold_insert ha]
      simp only [Finset.mem_insert, forall_eq_or_imp, ← ih]
      generalize Finset.fold IntOp.andi 1#1 f s = w
      generalize f a = v
      revert v w; decide
  rw [key]; simp

/-- The columns named are taken where they are in range. -/
theorem take_at (x : Vec Ideal S1024x784 .i32) (idx : Vec Ideal S1024x100 .i32) (q : Fin 1024) (k : Fin 100) (p : Fin 784)
    (h : idx (ix2 q k) = BitVec.ofNat 32 p.val) :
    select
      (Host.reduce IntOp.andi
        (andi
          (cmpi .sge (shapeCast S1024x100x1 (select (cmpi .slt idx (broadcastInDim S1024x100 ![] bcast_S_S1024x100 (constantI S_ 32 0#32))) (addi idx (broadcastInDim S1024x100 ![] bcast_S_S1024x100 (constantI S_ 32 784#32))) idx) shapeCasts_S1024x100_S1024x100x1)
            (broadcastInDim S1024x100x1 ![] bcast_S_S1024x100x1 (constantI S_ 32 0#32)))
          (cmpi .sle (shapeCast S1024x100x1 (select (cmpi .slt idx (broadcastInDim S1024x100 ![] bcast_S_S1024x100 (constantI S_ 32 0#32))) (addi idx (broadcastInDim S1024x100 ![] bcast_S_S1024x100 (constantI S_ 32 784#32))) idx) shapeCasts_S1024x100_S1024x100x1)
            (broadcastInDim S1024x100x1 ![0, 1, 2] bcast_S1x1x1_S1024x100x1_0_1_2 (broadcastInDim S1x1x1 ![2] bcast_S1_S1x1x1_2 (constantI S1 32 783#32)))))
        (constantI S_ 1 1#1) reducesTo_S1024x100x1_S1024x100_d2 h_S_)
      (Host.gather gather_S1024x784_S1024x100x1_S1024x100_n_1_0_0_1_2_11 x
        (shapeCast S1024x100x1 (select (cmpi .slt idx (broadcastInDim S1024x100 ![] bcast_S_S1024x100 (constantI S_ 32 0#32))) (addi idx (broadcastInDim S1024x100 ![] bcast_S_S1024x100 (constantI S_ 32 784#32))) idx) shapeCasts_S1024x100_S1024x100x1))
      (broadcastInDim S1024x100 ![] bcast_S_S1024x100 (constantI S_ 32 2147483648#32)) (ix2 q k)
    = x (ix2 q p) := by
  have hi : (BitVec.ofNat 32 p.val).toInt = (p.val : ℤ) := toInt_ofNat_small _ (by omega)
  generalize hw : (shapeCast S1024x100x1 (select (cmpi .slt idx (broadcastInDim S1024x100 ![] bcast_S_S1024x100 (constantI S_ 32 0#32))) (addi idx (broadcastInDim S1024x100 ![] bcast_S_S1024x100 (constantI S_ 32 784#32))) idx) shapeCasts_S1024x100_S1024x100x1) = w
  have hwk : w (ix3 q k 0) = BitVec.ofNat 32 p.val := by
    rw [← hw]
    have e : shapeCast S1024x100x1 (select (cmpi .slt idx (broadcastInDim S1024x100 ![] bcast_S_S1024x100 (constantI S_ 32 0#32))) (addi idx (broadcastInDim S1024x100 ![] bcast_S_S1024x100 (constantI S_ 32 784#32))) idx) shapeCasts_S1024x100_S1024x100x1 (ix3 q k 0)
        = Scalar.select (IntOp.cmpi .slt (idx (ix2 q k)) 0#32) (IntOp.addi (idx (ix2 q k)) 784#32) (idx (ix2 q k)) := by
      pointwise
    rw [e, h]
    have : IntOp.cmpi .slt (BitVec.ofNat 32 p.val) 0#32 = 0#1 := by
      unfold IntOp.cmpi
      simp only [BitVec.slt, hi]
      have : ¬ (p.val : ℤ) < (0#32 : BitVec 32).toInt := by simp
      rw [decide_eq_false this]; rfl
    rw [this]; rfl
  have e : ∀ z : IVec S1024x100 32, select
      (Host.reduce IntOp.andi
        (andi
          (cmpi .sge w (broadcastInDim S1024x100x1 ![] bcast_S_S1024x100x1 (constantI S_ 32 0#32)))
          (cmpi .sle w (broadcastInDim S1024x100x1 ![0, 1, 2] bcast_S1x1x1_S1024x100x1_0_1_2 (broadcastInDim S1x1x1 ![2] bcast_S1_S1x1x1_2 (constantI S1 32 783#32)))))
        (constantI S_ 1 1#1) reducesTo_S1024x100x1_S1024x100_d2 h_S_) z
      (broadcastInDim S1024x100 ![] bcast_S_S1024x100 (constantI S_ 32 2147483648#32)) (ix2 q k)
      = Scalar.select (Finset.fold IntOp.andi 1#1 (fun i : Fin 1 => IntOp.andi (IntOp.cmpi .sge (w (ix3 q k i)) 0#32) (IntOp.cmpi .sle (w (ix3 q k i)) 783#32)) Finset.univ) (z (ix2 q k)) 2147483648#32 := by
    intro z
    pointwise
  rw [e]
  have hf : Finset.fold IntOp.andi 1#1 (fun i : Fin 1 => IntOp.andi (IntOp.cmpi .sge (w (ix3 q k i)) 0#32) (IntOp.cmpi .sle (w (ix3 q k i)) 783#32)) Finset.univ = 1#1 := by
    rw [fold_andi]
    intro i
    rw [Subsingleton.elim i 0, hwk]
    unfold IntOp.cmpi
    simp only [BitVec.sle, BitVec.slt, hi]
    have h1 : (0#32 : BitVec 32).toInt ≤ (p.val : ℤ) := by simp
    have h2 : (p.val : ℤ) ≤ (783#32 : BitVec 32).toInt := by
      rw [show (783#32 : BitVec 32).toInt = 783 by decide]; omega
    rw [decide_eq_true h1, decide_eq_true h2]; rfl
  rw [hf]
  exact gather_Ke232b1 x w q k p hwk

section

variable (m : (ℓ : Loc nD τ sig) → Buf (Elt Ideal) ℓ) (c : Dev nD)

theorem V8_v73 (q : Fin 1024) (p : Fin 784) : V8 m c main_v73 (ix2 q p) = cval (row (V6 m) c q) p := by
  have h : V8 m c main_v73 = shapeCast S1024x784 (transpose S1024x98x8 [1, 0, 2] (V7 m c main_v71_0) transposes_S98x1024x8_S1024x98x8_1_0_2) shapeCasts_S1024x98x8_S1024x784 := by
    unfold V8; after_reads_simp; rfl
  rw [h, V7_main_v71_0]
  exact (cand_val _ q p).trans (vals_at (V6 m) c _ q _)

theorem V8_v75 (q : Fin 1024) (p : Fin 784) : V8 m c main_v75 (ix2 q p) = BitVec.ofNat 32 (cidx (row (V6 m) c q) p).val := by
  have h : V8 m c main_v75 = shapeCast S1024x784 (transpose S1024x98x8 [1, 0, 2] (V7 m c main_v71_1) transposes_S98x1024x8_S1024x98x8_1_0_2) shapeCasts_S1024x98x8_S1024x784 := by
    unfold V8; after_reads_simp; rfl
  rw [h, V7_main_v71_1]
  exact (cand_idx _ q p).trans (idxs_at (V6 m) c _ q _)

theorem V8_row (q : Fin 1024) : (fun e => V8 m c main_v73 (ix2 q e)) = cval (row (V6 m) c q) := funext fun p => V8_v73 m c q p

theorem V8_values (q : Fin 1024) (k : Fin 100) : V8 m c main_values_8 (ix2 q k)
    = cval (row (V6 m) c q) (nth (cval (row (V6 m) c q)) ⟨k.val, by omega⟩) := by
  have h : V8 m c main_values_8 = (Host.topK S1024x100 1 (FloatOps.cmpfTotal (F := Ideal) (φ := .f32) .gt) (V8 m c main_v73 : Vec Ideal S1024x784 .f32) sliceFits_S1024x784_S1024x100).1 := by
    unfold V8; after_reads_simp
  rw [h]
  refine (topK_val _ _ (by norm_num) q k).trans ?_
  rw [V8_row]
  exact V8_v73 m c q _

theorem V8_indices (q : Fin 1024) (k : Fin 100) : V8 m c main_indices_9 (ix2 q k)
    = BitVec.ofNat 32 (nth (cval (row (V6 m) c q)) ⟨k.val, by omega⟩).val := by
  have h : V8 m c main_indices_9 = (Host.topK S1024x100 1 (FloatOps.cmpfTotal (F := Ideal) (φ := .f32) .gt) (V8 m c main_v73 : Vec Ideal S1024x784 .f32) sliceFits_S1024x784_S1024x100).2 := by
    unfold V8; after_reads_simp
  rw [h]
  refine (topK_idx _ _ (by norm_num) q k).trans ?_
  rw [V8_row]

/-- The fast result: the candidates' places. -/
theorem V9_v76 (q : Fin 1024) (k : Fin 100) : V9 m c main_v76 (ix2 q k)
    = BitVec.ofNat 32 (cidx (row (V6 m) c q) (nth (cval (row (V6 m) c q)) ⟨k.val, by omega⟩)).val := by
  have h := take_at (V8 m c main_v75) (V8 m c main_indices_9) q k _ (V8_indices m c q k)
  rw [V8_v75] at h
  rw [← h]
  refine congrFun ?_ _
  unfold V9
  simp only [hostOps3_1, StableHlo.TRef.binary, StableHlo.TRef.nullary, StableHlo.TRef.ternary, StableHlo.TRef.unary, StableHlo.TRef.reshape, StableHlo.TRef.toBuf, StableHlo.TRef.ofBuf, cast_eq]
  after_results_simp
  rfl

/-- A strict comparison that holds. -/
theorem olt_lt (a b : EReal) (h : FloatOps.cmpf (F := Ideal) (φ := .f32) .olt a b = 1#1) : a < b := by
  by_contra hn
  have e : FloatOps.cmpf (F := Ideal) (φ := .f32) .olt a b = BitVec.ofBool (decide (a < b)) := rfl
  rw [e, decide_eq_false hn] at h
  exact absurd h (by decide)

/-- The test of the fast result: every query's 100th candidate is above what every block left. -/
theorem v82_at (i : S_.Idx) (h : V10 m c main_v82 i = 1#1) (q : Fin 1024) (j : Fin 98) :
    rdM (slice (row (V6 m) c q) j) 8 ≤ (Host.reduce (FloatOps.maximumf (F := Ideal) (φ := .f32)) (shapeCast S98x1024 (V7 m c main_v71_2) shapeCasts_S98x1024x1_S98x1024) (constant (F := Ideal) S_ .f32 0xFF800000#32) reducesTo_S98x1024_S1024_d0 h_S_) (ix1 q)
    ∧ (Host.reduce (FloatOps.maximumf (F := Ideal) (φ := .f32)) (shapeCast S98x1024 (V7 m c main_v71_2) shapeCasts_S98x1024x1_S98x1024) (constant (F := Ideal) S_ .f32 0xFF800000#32) reducesTo_S98x1024_S1024_d0 h_S_) (ix1 q)
      < cval (row (V6 m) c q) (nth (cval (row (V6 m) c q)) ⟨99, by norm_num⟩) := by
  constructor
  · refine le_trans (le_of_eq ?_) (ninth_le (V7 m c main_v71_2) q j)
    rw [V7_main_v71_2]
    exact (ninth_at (V6 m) c j q).symm
  · have e82 : V10 m c main_v82 = Host.reduce IntOp.andi (cmpf (F := Ideal) (φ := .f32) .olt
        (Host.reduce (FloatOps.maximumf (F := Ideal) (φ := .f32)) (shapeCast S98x1024 (V9 m c main_v71_2) shapeCasts_S98x1024x1_S98x1024) (constant (F := Ideal) S_ .f32 0xFF800000#32) reducesTo_S98x1024_S1024_d0 h_S_)
        (shapeCast S1024 (extractStridedSlice S1024x1 ![0, 99] (V9 m c main_values_8) slices_S1024x100_S1024x1_0_99) shapeCasts_S1024x1_S1024)) (constantI S_ 1 1#1) reducesTo_S1024_S_d0 h_S_ := by
      unfold V10; after_reads_simp; rfl
    have e71 : V9 m c main_v71_2 = V7 m c main_v71_2 := by
      rw [V9_of m c main_v71_2 (by decide), V8_of m c main_v71_2 (by decide)]
    have e8 : V9 m c main_values_8 = V8 m c main_values_8 := V9_of m c main_values_8 (by decide)
    rw [e82, e71, e8] at h
    generalize (Host.reduce (FloatOps.maximumf (F := Ideal) (φ := .f32)) (shapeCast S98x1024 (V7 m c main_v71_2) shapeCasts_S98x1024x1_S98x1024) (constant (F := Ideal) S_ .f32 0xFF800000#32) reducesTo_S98x1024_S1024_d0 h_S_) = B at h ⊢
    have hv := V8_values m c q 99
    generalize V8 m c main_values_8 = X at h hv
    have hf : Host.reduce IntOp.andi (cmpf (F := Ideal) (φ := .f32) .olt B
        (shapeCast S1024 (extractStridedSlice S1024x1 ![0, 99] X slices_S1024x100_S1024x1_0_99) shapeCasts_S1024x1_S1024)) (constantI S_ 1 1#1) reducesTo_S1024_S_d0 h_S_ i
        = Finset.fold IntOp.andi 1#1 (fun k : Fin 1024 => FloatOps.cmpf (F := Ideal) (φ := .f32) .olt (B (ix1 k)) (X (ix2 k 99))) Finset.univ := by
      pointwise
    have h := (fold_andi _).mp (hf.symm.trans h)
    have hq := h q
    rw [hv] at hq
    exact olt_lt _ _ hq

/-- The result: at each place the vector the selection over the query's whole row names. -/
theorem result_at (q : Fin 1024) (k : Fin 100) : V11 m c main_v84 (ix2 q k)
    = BitVec.ofNat 32 (nth (row (V6 m) c q) ⟨k.val, by omega⟩).val := by
  have e83 : word m c = (V10 m c main_v82 HostLoop.idx0).setWidth 32 := by
    unfold word Vr; after_results_simp; rfl
  by_cases h : V10 m c main_v82 HostLoop.idx0 = 1#1
  · have hb : HostLoop.branch (word m c) 1 = 1 := by rw [e83, h]; decide
    have e : V11 m c main_v84 = V9 m c main_v76 := by
      unfold V11
      rw [hb]
      have : StableHlo.after (armOps 1) (Vr m c) main_v84 = Vr m c main_v76 := by
        dsimp only [armOps]; after_results_simp; rfl
      rw [this, Vr_of m c main_v76 (by decide), V10_of m c main_v76 (by decide)]
    rw [e, V9_v76]
    rw [pick (row (V6 m) c q) _ (fun j => (v82_at m c _ h q j).1) ⟨k.val, by omega⟩
      (lt_of_lt_of_le (v82_at m c _ h q 0).2 (nth_anti _ _ _ (Fin.mk_le_mk.mpr (by omega))))]
  · have h0 : V10 m c main_v82 HostLoop.idx0 = 0#1 := by
      have two : ∀ v : BitVec 1, ¬ v = 1#1 → v = 0#1 := by decide
      exact two _ h
    have hb : HostLoop.branch (word m c) 1 = 0 := by rw [e83, h0]; decide
    have e : V11 m c main_v84 = (Host.topK S1024x100 1 (FloatOps.cmpfTotal (F := Ideal) (φ := .f32) .gt) (V6 m c main_v70 : Vec Ideal S1024x100352 .f32) sliceFits_S1024x100352_S1024x100).2 := by
      unfold V11
      rw [hb]
      have : StableHlo.after (armOps 0) (Vr m c) main_v84 = (Host.topK S1024x100 1 (FloatOps.cmpfTotal (F := Ideal) (φ := .f32) .gt) (Vr m c main_v70 : Vec Ideal S1024x100352 .f32) sliceFits_S1024x100352_S1024x100).2 := by
        dsimp only [armOps]; after_results_simp; rfl
      rw [this, Vr_of m c main_v70 (by decide), V10_of m c main_v70 (by decide), V9_of m c main_v70 (by decide), V8_of m c main_v70 (by decide), V7_of m c main_v70 (by decide)]
    rw [e]
    exact topK_idx _ _ (by norm_num) q k

end

end Cert.KernelIdeal.Own

end
-- ==== Proof.KIHost.lean ====
/-
  The host operations before the first two calls, read at an index: the distance tables, the keys and the threshold.
-/
module

public import proofs.«01_k».proof.Proof.KIVals
public import proofs.«01_k».proof.Proof.Reals
public import proofs.«01_k».proof.Proof.Rank
public import proofs.«01_k».proof.Proof.Rounds
public import proofs.«01_k».proof.Proof.TopK
public import proofs.«01_k».proof.Proof.Gen.ReferenceIdeal.Read
public import Idealize.ShloMosaic.Lib.Pointwise
public import Idealize.ShloMosaic.Lib.StableHlo.RunRead

@[expose] public section

set_option maxRecDepth 16384

noncomputable section

namespace Cert.KernelIdeal.Own

open Cert.KernelIdeal Cert.KernelIdeal.Gen Cert.Own
open Idealize.ShloMosaic Idealize.ShloMosaic.TcCoe
open Idealize.SL Idealize.SL.RA Idealize.SL.BI Idealize.SL.Sem
open Cert.ReferenceIdeal.Read (val_main_v13 val_main_v21 val_main_v24 val_main_v26)

/-- The concatenated table's first columns are the coarse distances. -/
theorem table_coarse (A : Vec Ideal S1024x1024 .f32) (B : Vec Ideal S1024x16x256 .f32) (q k : Fin 1024) :
    concatenate S1024x5120 1 [⟨S1024x1024, A⟩, ⟨S1024x4096, shapeCast S1024x4096 B shapeCasts_S1024x16x256_S1024x4096⟩]
      concatenates_S1024x1024_S1024x4096_S1024x5120_d1 (ix2 q ⟨k.val, by omega⟩) = A (ix2 q k) := by
  pointwise

/-- The later columns are the query products, subspace by subspace. -/
theorem table_dot (A : Vec Ideal S1024x1024 .f32) (B : Vec Ideal S1024x16x256 .f32) (q : Fin 1024) (s : Fin 16) (k : Fin 256) :
    concatenate S1024x5120 1 [⟨S1024x1024, A⟩, ⟨S1024x4096, shapeCast S1024x4096 B shapeCasts_S1024x16x256_S1024x4096⟩]
      concatenates_S1024x1024_S1024x4096_S1024x5120_d1 (ix2 q ⟨1024 + 256 * s.val + k.val, by omega⟩) = B (ix3 q s k) := by
  have e1 : (1024 + 256 * s.val + k.val - 1024) / 256 = s.val := by omega
  have e2 : (1024 + 256 * s.val + k.val - 1024) % 256 = k.val := by omega
  pointwise
  rw [dif_neg (by omega)]
  simp only [e1, e2]

/-- Every entry of the table is finite when the two parts are. -/
theorem table_fin (A : Vec Ideal S1024x1024 .f32) (B : Vec Ideal S1024x16x256 .f32) (hA : ∀ i, Fin' (A i)) (hB : ∀ i, Fin' (B i)) (i : S1024x5120.Idx) :
    Fin' (concatenate S1024x5120 1 [⟨S1024x1024, A⟩, ⟨S1024x4096, shapeCast S1024x4096 B shapeCasts_S1024x16x256_S1024x4096⟩]
      concatenates_S1024x1024_S1024x4096_S1024x5120_d1 i) := by
  idx_vars i
  by_cases h : i1.val < 1024
  · have := table_coarse A B i0 ⟨i1.val, h⟩
    exact this ▸ hA _
  · have := table_dot A B i0 ⟨(i1.val - 1024) / 256, by omega⟩ ⟨(i1.val - 1024) % 256, by omega⟩
    have e : (⟨1024 + 256 * ((i1.val - 1024) / 256) + (i1.val - 1024) % 256, by omega⟩ : Fin 5120) = i1 := Fin.ext (by dsimp only; omega)
    dsimp only at this
    rw [e] at this
    exact this ▸ hB _

/-- The transposed centroid products: row `256 s + k`, column a list. -/
theorem cdot_at (B : Vec Ideal S1024x16x256 .f32) (s : Fin 16) (k : Fin 256) (a : Fin 1024) :
    transpose S4096x1024 [1, 0] (shapeCast S1024x4096 B shapeCasts_S1024x16x256_S1024x4096) transposes_S1024x4096_S4096x1024_1_0
      (ix2 ⟨256 * s.val + k.val, by omega⟩ a) = B (ix3 a s k) := by
  pointwise

theorem rnorm_at (B : Vec Ideal S16x256 .f32) (s : Fin 16) (k : Fin 256) :
    shapeCast S4096x1 B shapeCasts_S16x256_S4096x1 (ix2 ⟨256 * s.val + k.val, by omega⟩ 0) = B (ix2 s k) := by
  pointwise

/-- The first key row is the padded list. -/
theorem keys_list (A : Vec Ideal S100000 .i32) (B : Vec Ideal S16x100352 .i32) (e : Fin 100352) :
    concatenate S17x100352 0 [⟨S1x100352, broadcastInDim S1x100352 ![1] bcast_S100352_S1x100352_1
        (concatenate S100352 0 [⟨S100000, A⟩, ⟨S352, broadcastInDim S352 ![] bcast_S_S352 (constantI S_ 32 0#32)⟩] concatenates_S100000_S352_S100352_d0)⟩,
      ⟨S16x100352, B⟩] concatenates_S1x100352_S16x100352_S17x100352_d0 (ix2 0 e) = if h : e.val < 100000 then A (ix1 ⟨e.val, h⟩) else 0#32 := by
  pointwise

/-- The other key rows are the padded codes, each past its subspace's offset. -/
theorem keys_code (A : Vec Ideal S1x100352 .i32) (B : Vec Ideal S100000x16 .i32) (s : Fin 16) (e : Fin 100352) :
    concatenate S17x100352 0 [⟨S1x100352, A⟩,
      ⟨S16x100352, transpose S16x100352 [1, 0] (addi
        (concatenate S100352x16 0 [⟨S100000x16, B⟩, ⟨S352x16, broadcastInDim S352x16 ![] bcast_S_S352x16 (constantI S_ 32 0#32)⟩] concatenates_S100000x16_S352x16_S100352x16_d0)
        (broadcastInDim S100352x16 ![0, 1] bcast_S1x16_S100352x16_0_1 (broadcastInDim S1x16 ![1] bcast_S16_S1x16_1
          (addi (broadcastInDim S16 ![] bcast_S_S16 (constantI S_ 32 1024#32)) (muli (broadcastInDim S16 ![] bcast_S_S16 (constantI S_ 32 256#32)) (iotaInDim S16 32 0))))))
        transposes_S100352x16_S16x100352_1_0⟩] concatenates_S1x100352_S16x100352_S17x100352_d0 (ix2 s.succ e)
      = (if h : e.val < 100000 then B (ix2 ⟨e.val, h⟩ s) else 0#32) + BitVec.ofNat 32 (1024 + 256 * s.val) := by
  have e1 : (⟨s.succ.val - 1, by simp⟩ : Fin 16) = s := Fin.ext (by simp)
  have e2 : IntOp.addi (1024#32) (IntOp.muli (256#32) (BitVec.ofNat 32 (s.succ.val - 1))) = BitVec.ofNat 32 (1024 + 256 * s.val) := by
    fin_cases s <;> rfl
  pointwise
  rw [dif_neg (by simp), e2]
  simp only [e1]
  rfl

/-- A difference of extended reals. -/
abbrev esub (a b : EReal) : EReal := a - b
/-- A negation of extended reals. -/
abbrev eneg (a : EReal) : EReal := -a

/-- Past the last vector the term is infinite. -/
theorem mask_pad (X : Vec Ideal S98x1x1024 .f32) (j : Fin 98) (l : Fin 1024) :
    shapeCast S98x1x1024 (select (cmpi .sge (iotaInDim S100352 32 0) (broadcastInDim S100352 ![] bcast_S_S100352 (constantI S_ 32 100000#32)))
      (broadcastInDim S100352 ![] bcast_S_S100352 (constant (F := Ideal) S_ .f32 0x7F800000#32)) (shapeCast S100352 X shapeCasts_S98x1x1024_S100352)) shapeCasts_S100352_S98x1x1024
      (ix3 j 0 l) = if 1024 * j.val + l.val < 100000 then X (ix3 j 0 l) else (⊤ : EReal) := by
  pointwise
  have hi : (BitVec.ofNat 32 (j.val * 1024 + l.val)).toInt = ((j.val * 1024 + l.val : ℕ) : ℤ) := toInt_ofNat_small _ (by omega)
  have hn : (100000#32 : BitVec 32).toInt = 100000 := by decide
  rw [ofBits_top_f32]
  unfold Scalar.select IntOp.cmpi
  simp only [BitVec.slt, BitVec.sle, hi, hn]
  by_cases h : 1024 * j.val + l.val < 100000
  · rw [if_pos h]
    have : ¬ (100000 : ℤ) ≤ ((j.val * 1024 + l.val : ℕ) : ℤ) := by omega
    rw [decide_eq_false this]; exact if_neg (by decide)
  · rw [if_neg h]
    have : (100000 : ℤ) ≤ ((j.val * 1024 + l.val : ℕ) : ℤ) := by omega
    rw [decide_eq_true this]; exact if_pos (by decide)

variable (m : (ℓ : Loc nD τ sig) → Buf (Elt Ideal) ℓ) (c : Dev nD)

/-- The coarse distances. -/
theorem V1_v13 : V1 m c main_v13 = val_main_v13 (F := Ideal) (V0 m c main_arg0) (V0 m c main_arg1) := by
  unfold V1; after_reads_simp; rfl

/-- The query products. -/
theorem V1_v20 : V1 m c main_v20 = val_main_v21 (F := Ideal) (V0 m c main_arg0) (V0 m c main_arg2) := by
  unfold V1; after_reads_simp; rfl

/-- The centroid products. -/
theorem V1_v22 : V1 m c main_v22 = val_main_v24 (F := Ideal) (V0 m c main_arg1) (V0 m c main_arg2) := by
  unfold V1; after_reads_simp; rfl

/-- The squared lengths of the codewords. -/
theorem V1_v24 : V1 m c main_v24 = val_main_v26 (F := Ideal) (V0 m c main_arg2) := by
  unfold V1; after_reads_simp; rfl

theorem V1_v26 : V1 m c main_v26 = concatenate S1024x5120 1 [⟨S1024x1024, V1 m c main_v13⟩, ⟨S1024x4096, shapeCast S1024x4096 (V1 m c main_v20) shapeCasts_S1024x16x256_S1024x4096⟩] concatenates_S1024x1024_S1024x4096_S1024x5120_d1 := by
  unfold V1; after_reads_simp; rfl

/-- The first table of the split is the table itself. -/
theorem V1_v33 (q : Fin 1024) (k : Fin 5120) : V1 m c main_v33 (ix2 q k) = V1 m c main_v26 (ix2 q k) := by
  have h : V1 m c main_v33 = truncf (F := Ideal) .bf16 (extf (F := Ideal) .f32 (truncf (F := Ideal) .bf16 (V1 m c main_v26 : Vec Ideal S1024x5120 .f32) bitsLt_bf16_f32) bitsLt_bf16_f32) bitsLt_bf16_f32 := by
    unfold V1; after_reads_simp
  rw [h]; rfl

/-- The second table is the table less itself. -/
theorem V1_v34 (q : Fin 1024) (k : Fin 5120) (h : Fin' (V1 m c main_v26 (ix2 q k))) : V1 m c main_v34 (ix2 q k) = (0 : EReal) := by
  have e : V1 m c main_v34 (ix2 q k) = esub (V1 m c main_v26 (ix2 q k)) (V1 m c main_v26 (ix2 q k)) := by
    unfold V1; after_reads_simp; rfl
  rw [e]; exact h.sub_self

/-- The third table is what is left of the second. -/
theorem V1_v35 (q : Fin 1024) (k : Fin 5120) (h : Fin' (V1 m c main_v26 (ix2 q k))) : V1 m c main_v35 (ix2 q k) = (0 : EReal) := by
  have e : V1 m c main_v35 (ix2 q k) = esub (esub (V1 m c main_v26 (ix2 q k)) (V1 m c main_v26 (ix2 q k))) (esub (V1 m c main_v26 (ix2 q k)) (V1 m c main_v26 (ix2 q k))) := by
    unfold V1; after_reads_simp; rfl
  have h' := h.sub_self
  rw [e]; unfold esub; rw [h', Fin'.zero.sub_self]

theorem V1_v52 : V1 m c main_v52 = transpose S4096x1024 [1, 0] (shapeCast S1024x4096 (V1 m c main_v22) shapeCasts_S1024x16x256_S1024x4096) transposes_S1024x4096_S4096x1024_1_0 := by
  unfold V1; after_reads_simp; rfl

theorem V1_v59 (q : Fin 4096) (k : Fin 1024) : V1 m c main_v59 (ix2 q k) = V1 m c main_v52 (ix2 q k) := by
  unfold V1; after_reads_simp; rfl

theorem V1_v60 (q : Fin 4096) (k : Fin 1024) (h : Fin' (V1 m c main_v52 (ix2 q k))) : V1 m c main_v60 (ix2 q k) = (0 : EReal) := by
  have e : V1 m c main_v60 (ix2 q k) = esub (V1 m c main_v52 (ix2 q k)) (V1 m c main_v52 (ix2 q k)) := by
    unfold V1; after_reads_simp; rfl
  rw [e]; exact h.sub_self

theorem V1_v61 (q : Fin 4096) (k : Fin 1024) (h : Fin' (V1 m c main_v52 (ix2 q k))) : V1 m c main_v61 (ix2 q k) = (0 : EReal) := by
  have e : V1 m c main_v61 (ix2 q k) = esub (esub (V1 m c main_v52 (ix2 q k)) (V1 m c main_v52 (ix2 q k))) (esub (V1 m c main_v52 (ix2 q k)) (V1 m c main_v52 (ix2 q k))) := by
    unfold V1; after_reads_simp; rfl
  have h' := h.sub_self
  rw [e]; unfold esub; rw [h', Fin'.zero.sub_self]

/-- The column of squared lengths. -/
theorem V1_v62 (s : Fin 16) (k : Fin 256) : V1 m c main_v62 (ix2 ⟨256 * s.val + k.val, by omega⟩ 0) = val_main_v26 (F := Ideal) (V0 m c main_arg2) (ix2 s k) := by
  have h : V1 m c main_v62 = shapeCast S4096x1 (V1 m c main_v24) shapeCasts_S16x256_S4096x1 := by
    unfold V1; after_reads_simp; rfl
  rw [h, V1_v24]
  exact rnorm_at _ s k

/-- The list of a vector, the padding's 0. -/
def lst (x3 : Vec Ideal S100000 .i32) (e : ℕ) : BitVec 32 := if h : e < 100000 then x3 (ix1 ⟨e, h⟩) else 0#32

/-- The codes of a vector, the padding's 0. -/
def code (x4 : Vec Ideal S100000x16 .i32) (e : ℕ) (s : Fin 16) : BitVec 32 := if h : e < 100000 then x4 (ix2 ⟨e, h⟩ s) else 0#32

theorem V1_keys_list (e : Fin 100352) : V1 m c main_v50 (ix2 0 e) = lst (V0 m c main_arg3) e.val := by
  have h : V1 m c main_v50 = concatenate S17x100352 0 [⟨S1x100352, broadcastInDim S1x100352 ![1] bcast_S100352_S1x100352_1
        (concatenate S100352 0 [⟨S100000, V0 m c main_arg3⟩, ⟨S352, broadcastInDim S352 ![] bcast_S_S352 (constantI S_ 32 0#32)⟩] concatenates_S100000_S352_S100352_d0)⟩,
      ⟨S16x100352, V1 m c main_v49⟩] concatenates_S1x100352_S16x100352_S17x100352_d0 := by
    unfold V1; after_reads_simp; rfl
  rw [h]
  exact keys_list _ _ e

theorem V1_keys_code (s : Fin 16) (e : Fin 100352) : V1 m c main_v50 (ix2 s.succ e) = code (V0 m c main_arg4) e.val s + BitVec.ofNat 32 (1024 + 256 * s.val) := by
  have h : V1 m c main_v50 = concatenate S17x100352 0 [⟨S1x100352, V1 m c main_v45⟩,
      ⟨S16x100352, transpose S16x100352 [1, 0] (addi
        (concatenate S100352x16 0 [⟨S100000x16, V0 m c main_arg4⟩, ⟨S352x16, broadcastInDim S352x16 ![] bcast_S_S352x16 (constantI S_ 32 0#32)⟩] concatenates_S100000x16_S352x16_S100352x16_d0)
        (broadcastInDim S100352x16 ![0, 1] bcast_S1x16_S100352x16_0_1 (broadcastInDim S1x16 ![1] bcast_S16_S1x16_1
          (addi (broadcastInDim S16 ![] bcast_S_S16 (constantI S_ 32 1024#32)) (muli (broadcastInDim S16 ![] bcast_S_S16 (constantI S_ 32 256#32)) (iotaInDim S16 32 0))))))
        transposes_S100352x16_S16x100352_1_0⟩] concatenates_S1x100352_S16x100352_S17x100352_d0 := by
    unfold V1; after_reads_simp; rfl
  rw [h]
  exact keys_code _ _ s e

/-- The threshold is the query's 32nd coarse distance, in the order the selection takes. -/
theorem V1_v16 (q : Fin 1024) : V1 m c main_v16 (ix2 q 0)
    = V1 m c main_v13 (ix2 q (nth (fun e => eneg (V1 m c main_v13 (ix2 q e))) ⟨31, by norm_num⟩)) := by
  have h : V1 m c main_v16 = Host.negf (F := Ideal) (φ := .f32) (extractStridedSlice S1024x1 ![0, 31]
      (Host.topK S1024x32 1 (FloatOps.cmpfTotal (F := Ideal) (φ := .f32) .gt) (Host.negf (F := Ideal) (φ := .f32) (V1 m c main_v13 : Vec Ideal S1024x1024 .f32)) sliceFits_S1024x1024_S1024x32).1 slices_S1024x32_S1024x1_0_31) := by
    unfold V1; after_reads_simp
  rw [h]
  show -((Host.topK S1024x32 1 (FloatOps.cmpfTotal (F := Ideal) (φ := .f32) .gt) _ _).1 _ : EReal) = _
  have e : (Host.topK S1024x32 1 (FloatOps.cmpfTotal (F := Ideal) (φ := .f32) .gt) (Host.negf (F := Ideal) (φ := .f32) (V1 m c main_v13 : Vec Ideal S1024x1024 .f32)) sliceFits_S1024x1024_S1024x32).1 (ix2 q ⟨31, by norm_num⟩)
      = eneg (V1 m c main_v13 (ix2 q (nth (fun e => eneg (V1 m c main_v13 (ix2 q e))) ⟨31, by norm_num⟩))) :=
    topK_val _ _ (by norm_num) q ⟨31, by norm_num⟩
  refine (congrArg Neg.neg ?_).trans ((congrArg Neg.neg e).trans (neg_neg _))
  refine congrArg _ ?_
  funext a
  fin_cases a
  · exact Fin.ext (Nat.zero_add _)
  · rfl

/-- The vectors' terms, with the padding's infinite. -/
theorem V5_v69 (j : Fin 98) (l : Fin 1024) : V5 m c main_v69 (ix3 j 0 l)
    = if 1024 * j.val + l.val < 100000 then V2 m c main_v63 (ix3 j 0 l) else (⊤ : EReal) := by
  have h : V5 m c main_v69 = shapeCast S98x1x1024 (select (cmpi .sge (iotaInDim S100352 32 0) (broadcastInDim S100352 ![] bcast_S_S100352 (constantI S_ 32 100000#32)))
      (broadcastInDim S100352 ![] bcast_S_S100352 (constant (F := Ideal) S_ .f32 0x7F800000#32)) (shapeCast S100352 (V2 m c main_v63) shapeCasts_S98x1x1024_S100352)) shapeCasts_S100352_S98x1x1024 := by
    unfold V5 V4 V3
    simp only [hostOps1_1, StableHlo.TRef.binary, StableHlo.TRef.nullary, StableHlo.TRef.ternary, StableHlo.TRef.unary, StableHlo.TRef.toBuf, StableHlo.TRef.ofBuf, cast_eq]
    after_results_simp
    rfl
  rw [h]
  generalize V2 m c main_v63 = X
  exact mask_pad X j l

end Cert.KernelIdeal.Own

end
-- ==== Proof.KIAdcVal.lean ====
/-
  What the distance call's body leaves at one index: the masked negated distance.
-/
module

public import proofs.«01_k».proof.Proof.KIAdc
public import proofs.«01_k».proof.Proof.Reals
public import Idealize.ShloMosaic.Lib.Pointwise
public import Idealize.ShloMosaic.Lib.Pipeline.Value

@[expose] public section

set_option maxRecDepth 16384

noncomputable section

namespace Cert.KernelIdeal.Own

open Cert.KernelIdeal Cert.KernelIdeal.Gen Cert.Own
open Idealize.ShloMosaic

/-- A key less its offset is the code. -/
theorem key_sub (b c : ℕ) (h : b + c < 2 ^ 32) {w : BitVec 32} (hw : w = BitVec.ofNat 32 b) :
    IntOp.subi (BitVec.ofNat 32 (b + c)) w = BitVec.ofNat 32 c := by
  subst hw
  show BitVec.ofNat 32 (b + c) - BitVec.ofNat 32 b = _
  apply BitVec.eq_of_toNat_eq
  simp only [BitVec.toNat_sub, BitVec.toNat_ofNat]
  omega

set_option maxHeartbeats 4000000 in
/-- The body's output: where the list's distance is within the threshold, minus the sum of the list's distance and the
    vector's term less twice each subspace's product; elsewhere the least value. The first table is read; the other two are zero. -/
theorem out1_apply (x0 x1 x2 : Vec Ideal S512x5120 .bf16) (x3 : Vec Ideal S17x1024 .i32) (x4 : Vec Ideal S1x1x1024 .f32)
    (x5 : Vec Ideal S512x1 .f32) (h1 : ∀ i, x1 i = (0 : EReal)) (h2 : ∀ i, x2 i = (0 : EReal)) (q : Fin 512) (l : Fin 1024)
    (a : Fin 1024) (c : Fin 16 → Fin 256) (ha : x3 (ix2 0 l) = BitVec.ofNat 32 a.val)
    (hc : ∀ m : Fin 16, x3 (ix2 m.succ l) = BitVec.ofNat 32 (1024 + 256 * m.val + (c m).val))
    (T : Fin 1024 → EReal) (hT : ∀ k : Fin 1024, x0 (ix2 q ⟨k.val, by omega⟩) = T k)
    (G : Fin 16 → Fin 256 → EReal) (hG : ∀ (m : Fin 16) (k : Fin 256), x0 (ix2 q ⟨1024 + 256 * m.val + k.val, by omega⟩) = G m k) :
    (out1_6 x0 x1 x2 x3 x4 x5 (ix2 q l) : EReal) = if T a ≤ x5 (ix2 q 0)
      then 0 - down (T a + x4 (ix3 0 0 l)) (fun m => G (Fin.ofNat 16 m) (c (Fin.ofNat 16 m))) 16 else ⊥ := by
  have k0 : IntOp.subi (x3 (ix2 1 l)) 1024#32 = BitVec.ofNat 32 (c 0).val := by
    rw [show x3 (ix2 1 l) = _ from hc 0]; exact key_sub _ _ (by omega) rfl
  have k1 : IntOp.subi (x3 (ix2 2 l)) 1280#32 = BitVec.ofNat 32 (c 1).val := by
    rw [show x3 (ix2 2 l) = _ from hc 1]; exact key_sub _ _ (by omega) rfl
  have k2 : IntOp.subi (x3 (ix2 3 l)) 1536#32 = BitVec.ofNat 32 (c 2).val := by
    rw [show x3 (ix2 3 l) = _ from hc 2]; exact key_sub _ _ (by omega) rfl
  have k3 : IntOp.subi (x3 (ix2 4 l)) 1792#32 = BitVec.ofNat 32 (c 3).val := by
    rw [show x3 (ix2 4 l) = _ from hc 3]; exact key_sub _ _ (by omega) rfl
  have k4 : IntOp.subi (x3 (ix2 5 l)) 2048#32 = BitVec.ofNat 32 (c 4).val := by
    rw [show x3 (ix2 5 l) = _ from hc 4]; exact key_sub _ _ (by omega) rfl
  have k5 : IntOp.subi (x3 (ix2 6 l)) 2304#32 = BitVec.ofNat 32 (c 5).val := by
    rw [show x3 (ix2 6 l) = _ from hc 5]; exact key_sub _ _ (by omega) rfl
  have k6 : IntOp.subi (x3 (ix2 7 l)) 2560#32 = BitVec.ofNat 32 (c 6).val := by
    rw [show x3 (ix2 7 l) = _ from hc 6]; exact key_sub _ _ (by omega) rfl
  have k7 : IntOp.subi (x3 (ix2 8 l)) 2816#32 = BitVec.ofNat 32 (c 7).val := by
    rw [show x3 (ix2 8 l) = _ from hc 7]; exact key_sub _ _ (by omega) rfl
  have k8 : IntOp.subi (x3 (ix2 9 l)) 3072#32 = BitVec.ofNat 32 (c 8).val := by
    rw [show x3 (ix2 9 l) = _ from hc 8]; exact key_sub _ _ (by omega) rfl
  have k9 : IntOp.subi (x3 (ix2 10 l)) 3328#32 = BitVec.ofNat 32 (c 9).val := by
    rw [show x3 (ix2 10 l) = _ from hc 9]; exact key_sub _ _ (by omega) rfl
  have k10 : IntOp.subi (x3 (ix2 11 l)) 3584#32 = BitVec.ofNat 32 (c 10).val := by
    rw [show x3 (ix2 11 l) = _ from hc 10]; exact key_sub _ _ (by omega) rfl
  have k11 : IntOp.subi (x3 (ix2 12 l)) 3840#32 = BitVec.ofNat 32 (c 11).val := by
    rw [show x3 (ix2 12 l) = _ from hc 11]; exact key_sub _ _ (by omega) rfl
  have k12 : IntOp.subi (x3 (ix2 13 l)) 4096#32 = BitVec.ofNat 32 (c 12).val := by
    rw [show x3 (ix2 13 l) = _ from hc 12]; exact key_sub _ _ (by omega) rfl
  have k13 : IntOp.subi (x3 (ix2 14 l)) 4352#32 = BitVec.ofNat 32 (c 13).val := by
    rw [show x3 (ix2 14 l) = _ from hc 13]; exact key_sub _ _ (by omega) rfl
  have k14 : IntOp.subi (x3 (ix2 15 l)) 4608#32 = BitVec.ofNat 32 (c 14).val := by
    rw [show x3 (ix2 15 l) = _ from hc 14]; exact key_sub _ _ (by omega) rfl
  have k15 : IntOp.subi (x3 (ix2 16 l)) 4864#32 = BitVec.ofNat 32 (c 15).val := by
    rw [show x3 (ix2 16 l) = _ from hc 15]; exact key_sub _ _ (by omega) rfl
  unfold out1_6
  rw [View.canon_unit_zero (by funext a; fin_cases a <;> rfl)]
  pointwise [b1_0, b1_1, b1_2, b1_3, b1_4, b1_5, b1_6, b1_7, b1_8, b1_9, b1_10, b1_11, b1_12, b1_13, b1_14, b1_15, b1_16, b1_17, b1_18, b1_19, b1_20, b1_21, b1_22, b1_23, b1_24, b1_25, b1_26, b1_27, k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29]
  simp only [h1, h2, zero_mul, Finset.sum_const_zero, add_zero, ha, k0, k1, k2, k3, k4, k5, k6, k7, k8, k9, k10, k11, k12, k13, k14, k15]
  have P := fun t c => sum_pick (n := 256) (by norm_num) t c
  have P' := fun t c => sum_pick (n := 1024) (by norm_num) t c
  simp only [P, P', ofBits_two_f32]
  have g0 : x0 (ix2 q ⟨1024 + (c 0).val, by omega⟩) = G 0 (c 0) := hG 0 (c 0)
  have g1 : x0 (ix2 q ⟨1280 + (c 1).val, by omega⟩) = G 1 (c 1) := hG 1 (c 1)
  have g2 : x0 (ix2 q ⟨1536 + (c 2).val, by omega⟩) = G 2 (c 2) := hG 2 (c 2)
  have g3 : x0 (ix2 q ⟨1792 + (c 3).val, by omega⟩) = G 3 (c 3) := hG 3 (c 3)
  have g4 : x0 (ix2 q ⟨2048 + (c 4).val, by omega⟩) = G 4 (c 4) := hG 4 (c 4)
  have g5 : x0 (ix2 q ⟨2304 + (c 5).val, by omega⟩) = G 5 (c 5) := hG 5 (c 5)
  have g6 : x0 (ix2 q ⟨2560 + (c 6).val, by omega⟩) = G 6 (c 6) := hG 6 (c 6)
  have g7 : x0 (ix2 q ⟨2816 + (c 7).val, by omega⟩) = G 7 (c 7) := hG 7 (c 7)
  have g8 : x0 (ix2 q ⟨3072 + (c 8).val, by omega⟩) = G 8 (c 8) := hG 8 (c 8)
  have g9 : x0 (ix2 q ⟨3328 + (c 9).val, by omega⟩) = G 9 (c 9) := hG 9 (c 9)
  have g10 : x0 (ix2 q ⟨3584 + (c 10).val, by omega⟩) = G 10 (c 10) := hG 10 (c 10)
  have g11 : x0 (ix2 q ⟨3840 + (c 11).val, by omega⟩) = G 11 (c 11) := hG 11 (c 11)
  have g12 : x0 (ix2 q ⟨4096 + (c 12).val, by omega⟩) = G 12 (c 12) := hG 12 (c 12)
  have g13 : x0 (ix2 q ⟨4352 + (c 13).val, by omega⟩) = G 13 (c 13) := hG 13 (c 13)
  have g14 : x0 (ix2 q ⟨4608 + (c 14).val, by omega⟩) = G 14 (c 14) := hG 14 (c 14)
  have g15 : x0 (ix2 q ⟨4864 + (c 15).val, by omega⟩) = G 15 (c 15) := hG 15 (c 15)
  have ht : x0 (ix2 q ⟨a.val, by omega⟩) = T a := hT a
  simp only [ht, g0, g1, g2, g3, g4, g5, g6, g7, g8, g9, g10, g11, g12, g13, g14, g15]
  have hn : (Named.named κ "unprobed" 4048155338#32 : Ideal .f32) = (⊥ : EReal) := rfl
  rw [hn]
  rfl

end Cert.KernelIdeal.Own

end
-- ==== Proof.KITermVal.lean ====
/-
  What the term call's body leaves at one index: the sum over the subspaces of the picked entries.
-/
module

public import proofs.«01_k».proof.Proof.KITerm
public import proofs.«01_k».proof.Proof.KIAdcVal

@[expose] public section

set_option maxRecDepth 16384

noncomputable section

namespace Cert.KernelIdeal.Own

open Cert.KernelIdeal Cert.KernelIdeal.Gen Cert.Own
open Idealize.ShloMosaic

/-- The sixteen one-hot columns of the codes, one above the other. -/
def hot (x0 x1 x2 : Vec Ideal S4096x1024 .bf16) (x3 : Vec Ideal S4096x1 .f32) (x4 : Vec Ideal S17x1024 .i32) : FVec Ideal S4096x1024 .f32 :=
  k0_pay20 (b0_1 x0 x1 x2 x3 x4) (b0_0 x0 x1 x2 x3 x4) (b0_3 x0 x1 x2 x3 x4) (b0_4 x0 x1 x2 x3 x4) (b0_5 x0 x1 x2 x3 x4) (b0_6 x0 x1 x2 x3 x4) (b0_7 x0 x1 x2 x3 x4) (b0_9 x0 x1 x2 x3 x4) (b0_10 x0 x1 x2 x3 x4) (b0_11 x0 x1 x2 x3 x4) (b0_12 x0 x1 x2 x3 x4) (b0_13 x0 x1 x2 x3 x4) (b0_14 x0 x1 x2 x3 x4) (b0_15 x0 x1 x2 x3 x4) (b0_16 x0 x1 x2 x3 x4) (b0_17 x0 x1 x2 x3 x4) (b0_18 x0 x1 x2 x3 x4)

/-- Sixteen pieces of 256 rows one above the other, read at a row. -/
theorem cat16 (f : Fin 16 → S256x1024.Idx → EReal)
    (h : Shape.Concatenates ((List.ofFn fun n : Fin 16 => (⟨S256x1024, f n⟩ : (s : Shape) × (s.Idx → EReal))).map (·.1)) S4096x1024 0)
    (m : Fin 16) (k : Fin 256) (l : Fin 1024) (p : Fin 4096) (hp : p.val = 256 * m.val + k.val) :
    concatenate S4096x1024 0 (List.ofFn fun n : Fin 16 => (⟨S256x1024, f n⟩ : (s : Shape) × (s.Idx → EReal))) h (ix2 p l) = f m (ix2 k l) :=
  concatenate_ofFn_apply (t := S4096x1024) 0 f h rfl 256 rfl (ix2 p l) m (by show p.val / 256 = _; omega) (ix2 k l)
    (by show k.val = p.val % 256; omega) (by intro b hb; fin_cases b; exact absurd rfl hb; rfl)

/-- Rows of piece 0 of the sixteen. -/
theorem pay20_0 (v1 : IVec S17x1024 32) (v9 : IVec S256x1024 32) (v16 v23 v30 v37 v44 v51 v58 v65 v72 v79 v86 v93 v100 : FVec Ideal S256x1024 .f32) (v101 v102 : IVec S1x1024 32) (k : Fin 256) (l : Fin 1024) :
    k0_pay20 v1 v9 v16 v23 v30 v37 v44 v51 v58 v65 v72 v79 v86 v93 v100 v101 v102 (ix2 ⟨0 + k.val, by omega⟩ l) = v16 (ix2 k l) := by
  unfold k0_pay20
  refine (cat16 ![v16, v23, v30, v37, v44, v51, v58, v65, v72, v79, v86, v93, v100, _, _, _] _ 0 k l _ rfl).trans ?_
  rfl

/-- Rows of piece 1 of the sixteen. -/
theorem pay20_1 (v1 : IVec S17x1024 32) (v9 : IVec S256x1024 32) (v16 v23 v30 v37 v44 v51 v58 v65 v72 v79 v86 v93 v100 : FVec Ideal S256x1024 .f32) (v101 v102 : IVec S1x1024 32) (k : Fin 256) (l : Fin 1024) :
    k0_pay20 v1 v9 v16 v23 v30 v37 v44 v51 v58 v65 v72 v79 v86 v93 v100 v101 v102 (ix2 ⟨256 + k.val, by omega⟩ l) = v23 (ix2 k l) := by
  unfold k0_pay20
  refine (cat16 ![v16, v23, v30, v37, v44, v51, v58, v65, v72, v79, v86, v93, v100, _, _, _] _ 1 k l _ rfl).trans ?_
  rfl

/-- Rows of piece 2 of the sixteen. -/
theorem pay20_2 (v1 : IVec S17x1024 32) (v9 : IVec S256x1024 32) (v16 v23 v30 v37 v44 v51 v58 v65 v72 v79 v86 v93 v100 : FVec Ideal S256x1024 .f32) (v101 v102 : IVec S1x1024 32) (k : Fin 256) (l : Fin 1024) :
    k0_pay20 v1 v9 v16 v23 v30 v37 v44 v51 v58 v65 v72 v79 v86 v93 v100 v101 v102 (ix2 ⟨512 + k.val, by omega⟩ l) = v30 (ix2 k l) := by
  unfold k0_pay20
  refine (cat16 ![v16, v23, v30, v37, v44, v51, v58, v65, v72, v79, v86, v93, v100, _, _, _] _ 2 k l _ rfl).trans ?_
  rfl

/-- Rows of piece 3 of the sixteen. -/
theorem pay20_3 (v1 : IVec S17x1024 32) (v9 : IVec S256x1024 32) (v16 v23 v30 v37 v44 v51 v58 v65 v72 v79 v86 v93 v100 : FVec Ideal S256x1024 .f32) (v101 v102 : IVec S1x1024 32) (k : Fin 256) (l : Fin 1024) :
    k0_pay20 v1 v9 v16 v23 v30 v37 v44 v51 v58 v65 v72 v79 v86 v93 v100 v101 v102 (ix2 ⟨768 + k.val, by omega⟩ l) = v37 (ix2 k l) := by
  unfold k0_pay20
  refine (cat16 ![v16, v23, v30, v37, v44, v51, v58, v65, v72, v79, v86, v93, v100, _, _, _] _ 3 k l _ rfl).trans ?_
  rfl

/-- Rows of piece 4 of the sixteen. -/
theorem pay20_4 (v1 : IVec S17x1024 32) (v9 : IVec S256x1024 32) (v16 v23 v30 v37 v44 v51 v58 v65 v72 v79 v86 v93 v100 : FVec Ideal S256x1024 .f32) (v101 v102 : IVec S1x1024 32) (k : Fin 256) (l : Fin 1024) :
    k0_pay20 v1 v9 v16 v23 v30 v37 v44 v51 v58 v65 v72 v79 v86 v93 v100 v101 v102 (ix2 ⟨1024 + k.val, by omega⟩ l) = v44 (ix2 k l) := by
  unfold k0_pay20
  refine (cat16 ![v16, v23, v30, v37, v44, v51, v58, v65, v72, v79, v86, v93, v100, _, _, _] _ 4 k l _ rfl).trans ?_
  rfl

/-- Rows of piece 5 of the sixteen. -/
theorem pay20_5 (v1 : IVec S17x1024 32) (v9 : IVec S256x1024 32) (v16 v23 v30 v37 v44 v51 v58 v65 v72 v79 v86 v93 v100 : FVec Ideal S256x1024 .f32) (v101 v102 : IVec S1x1024 32) (k : Fin 256) (l : Fin 1024) :
    k0_pay20 v1 v9 v16 v23 v30 v37 v44 v51 v58 v65 v72 v79 v86 v93 v100 v101 v102 (ix2 ⟨1280 + k.val, by omega⟩ l) = v51 (ix2 k l) := by
  unfold k0_pay20
  refine (cat16 ![v16, v23, v30, v37, v44, v51, v58, v65, v72, v79, v86, v93, v100, _, _, _] _ 5 k l _ rfl).trans ?_
  rfl

/-- Rows of piece 6 of the sixteen. -/
theorem pay20_6 (v1 : IVec S17x1024 32) (v9 : IVec S256x1024 32) (v16 v23 v30 v37 v44 v51 v58 v65 v72 v79 v86 v93 v100 : FVec Ideal S256x1024 .f32) (v101 v102 : IVec S1x1024 32) (k : Fin 256) (l : Fin 1024) :
    k0_pay20 v1 v9 v16 v23 v30 v37 v44 v51 v58 v65 v72 v79 v86 v93 v100 v101 v102 (ix2 ⟨1536 + k.val, by omega⟩ l) = v58 (ix2 k l) := by
  unfold k0_pay20
  refine (cat16 ![v16, v23, v30, v37, v44, v51, v58, v65, v72, v79, v86, v93, v100, _, _, _] _ 6 k l _ rfl).trans ?_
  rfl

/-- Rows of piece 7 of the sixteen. -/
theorem pay20_7 (v1 : IVec S17x1024 32) (v9 : IVec S256x1024 32) (v16 v23 v30 v37 v44 v51 v58 v65 v72 v79 v86 v93 v100 : FVec Ideal S256x1024 .f32) (v101 v102 : IVec S1x1024 32) (k : Fin 256) (l : Fin 1024) :
    k0_pay20 v1 v9 v16 v23 v30 v37 v44 v51 v58 v65 v72 v79 v86 v93 v100 v101 v102 (ix2 ⟨1792 + k.val, by omega⟩ l) = v65 (ix2 k l) := by
  unfold k0_pay20
  refine (cat16 ![v16, v23, v30, v37, v44, v51, v58, v65, v72, v79, v86, v93, v100, _, _, _] _ 7 k l _ rfl).trans ?_
  rfl

/-- Rows of piece 8 of the sixteen. -/
theorem pay20_8 (v1 : IVec S17x1024 32) (v9 : IVec S256x1024 32) (v16 v23 v30 v37 v44 v51 v58 v65 v72 v79 v86 v93 v100 : FVec Ideal S256x1024 .f32) (v101 v102 : IVec S1x1024 32) (k : Fin 256) (l : Fin 1024) :
    k0_pay20 v1 v9 v16 v23 v30 v37 v44 v51 v58 v65 v72 v79 v86 v93 v100 v101 v102 (ix2 ⟨2048 + k.val, by omega⟩ l) = v72 (ix2 k l) := by
  unfold k0_pay20
  refine (cat16 ![v16, v23, v30, v37, v44, v51, v58, v65, v72, v79, v86, v93, v100, _, _, _] _ 8 k l _ rfl).trans ?_
  rfl

/-- Rows of piece 9 of the sixteen. -/
theorem pay20_9 (v1 : IVec S17x1024 32) (v9 : IVec S256x1024 32) (v16 v23 v30 v37 v44 v51 v58 v65 v72 v79 v86 v93 v100 : FVec Ideal S256x1024 .f32) (v101 v102 : IVec S1x1024 32) (k : Fin 256) (l : Fin 1024) :
    k0_pay20 v1 v9 v16 v23 v30 v37 v44 v51 v58 v65 v72 v79 v86 v93 v100 v101 v102 (ix2 ⟨2304 + k.val, by omega⟩ l) = v79 (ix2 k l) := by
  unfold k0_pay20
  refine (cat16 ![v16, v23, v30, v37, v44, v51, v58, v65, v72, v79, v86, v93, v100, _, _, _] _ 9 k l _ rfl).trans ?_
  rfl

/-- Rows of piece 10 of the sixteen. -/
theorem pay20_10 (v1 : IVec S17x1024 32) (v9 : IVec S256x1024 32) (v16 v23 v30 v37 v44 v51 v58 v65 v72 v79 v86 v93 v100 : FVec Ideal S256x1024 .f32) (v101 v102 : IVec S1x1024 32) (k : Fin 256) (l : Fin 1024) :
    k0_pay20 v1 v9 v16 v23 v30 v37 v44 v51 v58 v65 v72 v79 v86 v93 v100 v101 v102 (ix2 ⟨2560 + k.val, by omega⟩ l) = v86 (ix2 k l) := by
  unfold k0_pay20
  refine (cat16 ![v16, v23, v30, v37, v44, v51, v58, v65, v72, v79, v86, v93, v100, _, _, _] _ 10 k l _ rfl).trans ?_
  rfl

/-- Rows of piece 11 of the sixteen. -/
theorem pay20_11 (v1 : IVec S17x1024 32) (v9 : IVec S256x1024 32) (v16 v23 v30 v37 v44 v51 v58 v65 v72 v79 v86 v93 v100 : FVec Ideal S256x1024 .f32) (v101 v102 : IVec S1x1024 32) (k : Fin 256) (l : Fin 1024) :
    k0_pay20 v1 v9 v16 v23 v30 v37 v44 v51 v58 v65 v72 v79 v86 v93 v100 v101 v102 (ix2 ⟨2816 + k.val, by omega⟩ l) = v93 (ix2 k l) := by
  unfold k0_pay20
  refine (cat16 ![v16, v23, v30, v37, v44, v51, v58, v65, v72, v79, v86, v93, v100, _, _, _] _ 11 k l _ rfl).trans ?_
  rfl

/-- Rows of piece 12 of the sixteen. -/
theorem pay20_12 (v1 : IVec S17x1024 32) (v9 : IVec S256x1024 32) (v16 v23 v30 v37 v44 v51 v58 v65 v72 v79 v86 v93 v100 : FVec Ideal S256x1024 .f32) (v101 v102 : IVec S1x1024 32) (k : Fin 256) (l : Fin 1024) :
    k0_pay20 v1 v9 v16 v23 v30 v37 v44 v51 v58 v65 v72 v79 v86 v93 v100 v101 v102 (ix2 ⟨3072 + k.val, by omega⟩ l) = v100 (ix2 k l) := by
  unfold k0_pay20
  refine (cat16 ![v16, v23, v30, v37, v44, v51, v58, v65, v72, v79, v86, v93, v100, _, _, _] _ 12 k l _ rfl).trans ?_
  rfl

/-- Rows of piece 13 of the sixteen. -/
theorem pay20_13 (v1 : IVec S17x1024 32) (v9 : IVec S256x1024 32) (v16 v23 v30 v37 v44 v51 v58 v65 v72 v79 v86 v93 v100 : FVec Ideal S256x1024 .f32) (v101 v102 : IVec S1x1024 32) (k : Fin 256) (l : Fin 1024) :
    k0_pay20 v1 v9 v16 v23 v30 v37 v44 v51 v58 v65 v72 v79 v86 v93 v100 v101 v102 (ix2 ⟨3328 + k.val, by omega⟩ l) = FloatOps.sitofp (F := Ideal) .f32 (BitVec.setWidth 32 (IntOp.cmpi .eq (v9 (ix2 k l)) (IntOp.subi (v101 (ix2 0 l)) (v102 (ix2 0 l))))) := by
  unfold k0_pay20
  refine (cat16 ![v16, v23, v30, v37, v44, v51, v58, v65, v72, v79, v86, v93, v100, _, _, _] _ 13 k l _ rfl).trans ?_
  show sitofp .f32 _ (ix2 k l) = _; pointwise []

/-- Rows of piece 14 of the sixteen. -/
theorem pay20_14 (v1 : IVec S17x1024 32) (v9 : IVec S256x1024 32) (v16 v23 v30 v37 v44 v51 v58 v65 v72 v79 v86 v93 v100 : FVec Ideal S256x1024 .f32) (v101 v102 : IVec S1x1024 32) (k : Fin 256) (l : Fin 1024) :
    k0_pay20 v1 v9 v16 v23 v30 v37 v44 v51 v58 v65 v72 v79 v86 v93 v100 v101 v102 (ix2 ⟨3584 + k.val, by omega⟩ l) = FloatOps.sitofp (F := Ideal) .f32 (BitVec.setWidth 32 (IntOp.cmpi .eq (v9 (ix2 k l)) (IntOp.subi (v1 (ix2 15 l)) 4608#32))) := by
  unfold k0_pay20
  refine (cat16 ![v16, v23, v30, v37, v44, v51, v58, v65, v72, v79, v86, v93, v100, _, _, _] _ 14 k l _ rfl).trans ?_
  show sitofp .f32 _ (ix2 k l) = _; pointwise []

/-- Rows of piece 15 of the sixteen. -/
theorem pay20_15 (v1 : IVec S17x1024 32) (v9 : IVec S256x1024 32) (v16 v23 v30 v37 v44 v51 v58 v65 v72 v79 v86 v93 v100 : FVec Ideal S256x1024 .f32) (v101 v102 : IVec S1x1024 32) (k : Fin 256) (l : Fin 1024) :
    k0_pay20 v1 v9 v16 v23 v30 v37 v44 v51 v58 v65 v72 v79 v86 v93 v100 v101 v102 (ix2 ⟨3840 + k.val, by omega⟩ l) = FloatOps.sitofp (F := Ideal) .f32 (BitVec.setWidth 32 (IntOp.cmpi .eq (v9 (ix2 k l)) (IntOp.subi (v1 (ix2 16 l)) 4864#32))) := by
  unfold k0_pay20
  refine (cat16 ![v16, v23, v30, v37, v44, v51, v58, v65, v72, v79, v86, v93, v100, _, _, _] _ 15 k l _ rfl).trans ?_
  show sitofp .f32 _ (ix2 k l) = _; pointwise []

set_option maxHeartbeats 1000000 in
/-- The one-hot columns of subspace 0. -/
theorem hot_0 (x0 x1 x2 : Vec Ideal S4096x1024 .bf16) (x3 : Vec Ideal S4096x1 .f32) (x4 : Vec Ideal S17x1024 .i32) (l : Fin 1024) (c : Fin 256)
    (hc : x4 (ix2 1 l) = BitVec.ofNat 32 (1024 + c.val)) (k : Fin 256) :
    hot x0 x1 x2 x3 x4 (ix2 ⟨0 + k.val, by omega⟩ l)
      = FloatOps.sitofp (F := Ideal) .f32 (BitVec.setWidth 32 (IntOp.cmpi .eq (BitVec.ofNat 32 k.val) (BitVec.ofNat 32 c.val))) := by
  have hk : IntOp.subi (x4 (ix2 1 l)) 1024#32 = BitVec.ofNat 32 c.val := by
    rw [hc]; exact key_sub _ _ (by omega) rfl
  unfold hot
  rw [pay20_0]
  pointwise [b0_0, b0_1, b0_2, b0_3, b0_4, b0_5, b0_6, b0_7, b0_8, b0_9, b0_10, b0_11, b0_12, b0_13, b0_14, b0_15, b0_16, b0_17, b0_18, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rw [hk]

set_option maxHeartbeats 1000000 in
/-- The one-hot columns of subspace 1. -/
theorem hot_1 (x0 x1 x2 : Vec Ideal S4096x1024 .bf16) (x3 : Vec Ideal S4096x1 .f32) (x4 : Vec Ideal S17x1024 .i32) (l : Fin 1024) (c : Fin 256)
    (hc : x4 (ix2 2 l) = BitVec.ofNat 32 (1280 + c.val)) (k : Fin 256) :
    hot x0 x1 x2 x3 x4 (ix2 ⟨256 + k.val, by omega⟩ l)
      = FloatOps.sitofp (F := Ideal) .f32 (BitVec.setWidth 32 (IntOp.cmpi .eq (BitVec.ofNat 32 k.val) (BitVec.ofNat 32 c.val))) := by
  have hk : IntOp.subi (x4 (ix2 2 l)) 1280#32 = BitVec.ofNat 32 c.val := by
    rw [hc]; exact key_sub _ _ (by omega) rfl
  unfold hot
  rw [pay20_1]
  pointwise [b0_0, b0_1, b0_2, b0_3, b0_4, b0_5, b0_6, b0_7, b0_8, b0_9, b0_10, b0_11, b0_12, b0_13, b0_14, b0_15, b0_16, b0_17, b0_18, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rw [hk]

set_option maxHeartbeats 1000000 in
/-- The one-hot columns of subspace 2. -/
theorem hot_2 (x0 x1 x2 : Vec Ideal S4096x1024 .bf16) (x3 : Vec Ideal S4096x1 .f32) (x4 : Vec Ideal S17x1024 .i32) (l : Fin 1024) (c : Fin 256)
    (hc : x4 (ix2 3 l) = BitVec.ofNat 32 (1536 + c.val)) (k : Fin 256) :
    hot x0 x1 x2 x3 x4 (ix2 ⟨512 + k.val, by omega⟩ l)
      = FloatOps.sitofp (F := Ideal) .f32 (BitVec.setWidth 32 (IntOp.cmpi .eq (BitVec.ofNat 32 k.val) (BitVec.ofNat 32 c.val))) := by
  have hk : IntOp.subi (x4 (ix2 3 l)) 1536#32 = BitVec.ofNat 32 c.val := by
    rw [hc]; exact key_sub _ _ (by omega) rfl
  unfold hot
  rw [pay20_2]
  pointwise [b0_0, b0_1, b0_2, b0_3, b0_4, b0_5, b0_6, b0_7, b0_8, b0_9, b0_10, b0_11, b0_12, b0_13, b0_14, b0_15, b0_16, b0_17, b0_18, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rw [hk]

set_option maxHeartbeats 1000000 in
/-- The one-hot columns of subspace 3. -/
theorem hot_3 (x0 x1 x2 : Vec Ideal S4096x1024 .bf16) (x3 : Vec Ideal S4096x1 .f32) (x4 : Vec Ideal S17x1024 .i32) (l : Fin 1024) (c : Fin 256)
    (hc : x4 (ix2 4 l) = BitVec.ofNat 32 (1792 + c.val)) (k : Fin 256) :
    hot x0 x1 x2 x3 x4 (ix2 ⟨768 + k.val, by omega⟩ l)
      = FloatOps.sitofp (F := Ideal) .f32 (BitVec.setWidth 32 (IntOp.cmpi .eq (BitVec.ofNat 32 k.val) (BitVec.ofNat 32 c.val))) := by
  have hk : IntOp.subi (x4 (ix2 4 l)) 1792#32 = BitVec.ofNat 32 c.val := by
    rw [hc]; exact key_sub _ _ (by omega) rfl
  unfold hot
  rw [pay20_3]
  pointwise [b0_0, b0_1, b0_2, b0_3, b0_4, b0_5, b0_6, b0_7, b0_8, b0_9, b0_10, b0_11, b0_12, b0_13, b0_14, b0_15, b0_16, b0_17, b0_18, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rw [hk]

set_option maxHeartbeats 1000000 in
/-- The one-hot columns of subspace 4. -/
theorem hot_4 (x0 x1 x2 : Vec Ideal S4096x1024 .bf16) (x3 : Vec Ideal S4096x1 .f32) (x4 : Vec Ideal S17x1024 .i32) (l : Fin 1024) (c : Fin 256)
    (hc : x4 (ix2 5 l) = BitVec.ofNat 32 (2048 + c.val)) (k : Fin 256) :
    hot x0 x1 x2 x3 x4 (ix2 ⟨1024 + k.val, by omega⟩ l)
      = FloatOps.sitofp (F := Ideal) .f32 (BitVec.setWidth 32 (IntOp.cmpi .eq (BitVec.ofNat 32 k.val) (BitVec.ofNat 32 c.val))) := by
  have hk : IntOp.subi (x4 (ix2 5 l)) 2048#32 = BitVec.ofNat 32 c.val := by
    rw [hc]; exact key_sub _ _ (by omega) rfl
  unfold hot
  rw [pay20_4]
  pointwise [b0_0, b0_1, b0_2, b0_3, b0_4, b0_5, b0_6, b0_7, b0_8, b0_9, b0_10, b0_11, b0_12, b0_13, b0_14, b0_15, b0_16, b0_17, b0_18, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rw [hk]

set_option maxHeartbeats 1000000 in
/-- The one-hot columns of subspace 5. -/
theorem hot_5 (x0 x1 x2 : Vec Ideal S4096x1024 .bf16) (x3 : Vec Ideal S4096x1 .f32) (x4 : Vec Ideal S17x1024 .i32) (l : Fin 1024) (c : Fin 256)
    (hc : x4 (ix2 6 l) = BitVec.ofNat 32 (2304 + c.val)) (k : Fin 256) :
    hot x0 x1 x2 x3 x4 (ix2 ⟨1280 + k.val, by omega⟩ l)
      = FloatOps.sitofp (F := Ideal) .f32 (BitVec.setWidth 32 (IntOp.cmpi .eq (BitVec.ofNat 32 k.val) (BitVec.ofNat 32 c.val))) := by
  have hk : IntOp.subi (x4 (ix2 6 l)) 2304#32 = BitVec.ofNat 32 c.val := by
    rw [hc]; exact key_sub _ _ (by omega) rfl
  unfold hot
  rw [pay20_5]
  pointwise [b0_0, b0_1, b0_2, b0_3, b0_4, b0_5, b0_6, b0_7, b0_8, b0_9, b0_10, b0_11, b0_12, b0_13, b0_14, b0_15, b0_16, b0_17, b0_18, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rw [hk]

set_option maxHeartbeats 1000000 in
/-- The one-hot columns of subspace 6. -/
theorem hot_6 (x0 x1 x2 : Vec Ideal S4096x1024 .bf16) (x3 : Vec Ideal S4096x1 .f32) (x4 : Vec Ideal S17x1024 .i32) (l : Fin 1024) (c : Fin 256)
    (hc : x4 (ix2 7 l) = BitVec.ofNat 32 (2560 + c.val)) (k : Fin 256) :
    hot x0 x1 x2 x3 x4 (ix2 ⟨1536 + k.val, by omega⟩ l)
      = FloatOps.sitofp (F := Ideal) .f32 (BitVec.setWidth 32 (IntOp.cmpi .eq (BitVec.ofNat 32 k.val) (BitVec.ofNat 32 c.val))) := by
  have hk : IntOp.subi (x4 (ix2 7 l)) 2560#32 = BitVec.ofNat 32 c.val := by
    rw [hc]; exact key_sub _ _ (by omega) rfl
  unfold hot
  rw [pay20_6]
  pointwise [b0_0, b0_1, b0_2, b0_3, b0_4, b0_5, b0_6, b0_7, b0_8, b0_9, b0_10, b0_11, b0_12, b0_13, b0_14, b0_15, b0_16, b0_17, b0_18, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rw [hk]

set_option maxHeartbeats 1000000 in
/-- The one-hot columns of subspace 7. -/
theorem hot_7 (x0 x1 x2 : Vec Ideal S4096x1024 .bf16) (x3 : Vec Ideal S4096x1 .f32) (x4 : Vec Ideal S17x1024 .i32) (l : Fin 1024) (c : Fin 256)
    (hc : x4 (ix2 8 l) = BitVec.ofNat 32 (2816 + c.val)) (k : Fin 256) :
    hot x0 x1 x2 x3 x4 (ix2 ⟨1792 + k.val, by omega⟩ l)
      = FloatOps.sitofp (F := Ideal) .f32 (BitVec.setWidth 32 (IntOp.cmpi .eq (BitVec.ofNat 32 k.val) (BitVec.ofNat 32 c.val))) := by
  have hk : IntOp.subi (x4 (ix2 8 l)) 2816#32 = BitVec.ofNat 32 c.val := by
    rw [hc]; exact key_sub _ _ (by omega) rfl
  unfold hot
  rw [pay20_7]
  pointwise [b0_0, b0_1, b0_2, b0_3, b0_4, b0_5, b0_6, b0_7, b0_8, b0_9, b0_10, b0_11, b0_12, b0_13, b0_14, b0_15, b0_16, b0_17, b0_18, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rw [hk]

set_option maxHeartbeats 1000000 in
/-- The one-hot columns of subspace 8. -/
theorem hot_8 (x0 x1 x2 : Vec Ideal S4096x1024 .bf16) (x3 : Vec Ideal S4096x1 .f32) (x4 : Vec Ideal S17x1024 .i32) (l : Fin 1024) (c : Fin 256)
    (hc : x4 (ix2 9 l) = BitVec.ofNat 32 (3072 + c.val)) (k : Fin 256) :
    hot x0 x1 x2 x3 x4 (ix2 ⟨2048 + k.val, by omega⟩ l)
      = FloatOps.sitofp (F := Ideal) .f32 (BitVec.setWidth 32 (IntOp.cmpi .eq (BitVec.ofNat 32 k.val) (BitVec.ofNat 32 c.val))) := by
  have hk : IntOp.subi (x4 (ix2 9 l)) 3072#32 = BitVec.ofNat 32 c.val := by
    rw [hc]; exact key_sub _ _ (by omega) rfl
  unfold hot
  rw [pay20_8]
  pointwise [b0_0, b0_1, b0_2, b0_3, b0_4, b0_5, b0_6, b0_7, b0_8, b0_9, b0_10, b0_11, b0_12, b0_13, b0_14, b0_15, b0_16, b0_17, b0_18, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rw [hk]

set_option maxHeartbeats 1000000 in
/-- The one-hot columns of subspace 9. -/
theorem hot_9 (x0 x1 x2 : Vec Ideal S4096x1024 .bf16) (x3 : Vec Ideal S4096x1 .f32) (x4 : Vec Ideal S17x1024 .i32) (l : Fin 1024) (c : Fin 256)
    (hc : x4 (ix2 10 l) = BitVec.ofNat 32 (3328 + c.val)) (k : Fin 256) :
    hot x0 x1 x2 x3 x4 (ix2 ⟨2304 + k.val, by omega⟩ l)
      = FloatOps.sitofp (F := Ideal) .f32 (BitVec.setWidth 32 (IntOp.cmpi .eq (BitVec.ofNat 32 k.val) (BitVec.ofNat 32 c.val))) := by
  have hk : IntOp.subi (x4 (ix2 10 l)) 3328#32 = BitVec.ofNat 32 c.val := by
    rw [hc]; exact key_sub _ _ (by omega) rfl
  unfold hot
  rw [pay20_9]
  pointwise [b0_0, b0_1, b0_2, b0_3, b0_4, b0_5, b0_6, b0_7, b0_8, b0_9, b0_10, b0_11, b0_12, b0_13, b0_14, b0_15, b0_16, b0_17, b0_18, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rw [hk]

set_option maxHeartbeats 1000000 in
/-- The one-hot columns of subspace 10. -/
theorem hot_10 (x0 x1 x2 : Vec Ideal S4096x1024 .bf16) (x3 : Vec Ideal S4096x1 .f32) (x4 : Vec Ideal S17x1024 .i32) (l : Fin 1024) (c : Fin 256)
    (hc : x4 (ix2 11 l) = BitVec.ofNat 32 (3584 + c.val)) (k : Fin 256) :
    hot x0 x1 x2 x3 x4 (ix2 ⟨2560 + k.val, by omega⟩ l)
      = FloatOps.sitofp (F := Ideal) .f32 (BitVec.setWidth 32 (IntOp.cmpi .eq (BitVec.ofNat 32 k.val) (BitVec.ofNat 32 c.val))) := by
  have hk : IntOp.subi (x4 (ix2 11 l)) 3584#32 = BitVec.ofNat 32 c.val := by
    rw [hc]; exact key_sub _ _ (by omega) rfl
  unfold hot
  rw [pay20_10]
  pointwise [b0_0, b0_1, b0_2, b0_3, b0_4, b0_5, b0_6, b0_7, b0_8, b0_9, b0_10, b0_11, b0_12, b0_13, b0_14, b0_15, b0_16, b0_17, b0_18, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rw [hk]

set_option maxHeartbeats 1000000 in
/-- The one-hot columns of subspace 11. -/
theorem hot_11 (x0 x1 x2 : Vec Ideal S4096x1024 .bf16) (x3 : Vec Ideal S4096x1 .f32) (x4 : Vec Ideal S17x1024 .i32) (l : Fin 1024) (c : Fin 256)
    (hc : x4 (ix2 12 l) = BitVec.ofNat 32 (3840 + c.val)) (k : Fin 256) :
    hot x0 x1 x2 x3 x4 (ix2 ⟨2816 + k.val, by omega⟩ l)
      = FloatOps.sitofp (F := Ideal) .f32 (BitVec.setWidth 32 (IntOp.cmpi .eq (BitVec.ofNat 32 k.val) (BitVec.ofNat 32 c.val))) := by
  have hk : IntOp.subi (x4 (ix2 12 l)) 3840#32 = BitVec.ofNat 32 c.val := by
    rw [hc]; exact key_sub _ _ (by omega) rfl
  unfold hot
  rw [pay20_11]
  pointwise [b0_0, b0_1, b0_2, b0_3, b0_4, b0_5, b0_6, b0_7, b0_8, b0_9, b0_10, b0_11, b0_12, b0_13, b0_14, b0_15, b0_16, b0_17, b0_18, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rw [hk]

set_option maxHeartbeats 1000000 in
/-- The one-hot columns of subspace 12. -/
theorem hot_12 (x0 x1 x2 : Vec Ideal S4096x1024 .bf16) (x3 : Vec Ideal S4096x1 .f32) (x4 : Vec Ideal S17x1024 .i32) (l : Fin 1024) (c : Fin 256)
    (hc : x4 (ix2 13 l) = BitVec.ofNat 32 (4096 + c.val)) (k : Fin 256) :
    hot x0 x1 x2 x3 x4 (ix2 ⟨3072 + k.val, by omega⟩ l)
      = FloatOps.sitofp (F := Ideal) .f32 (BitVec.setWidth 32 (IntOp.cmpi .eq (BitVec.ofNat 32 k.val) (BitVec.ofNat 32 c.val))) := by
  have hk : IntOp.subi (x4 (ix2 13 l)) 4096#32 = BitVec.ofNat 32 c.val := by
    rw [hc]; exact key_sub _ _ (by omega) rfl
  unfold hot
  rw [pay20_12]
  pointwise [b0_0, b0_1, b0_2, b0_3, b0_4, b0_5, b0_6, b0_7, b0_8, b0_9, b0_10, b0_11, b0_12, b0_13, b0_14, b0_15, b0_16, b0_17, b0_18, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rw [hk]

set_option maxHeartbeats 1000000 in
/-- The one-hot columns of subspace 13. -/
theorem hot_13 (x0 x1 x2 : Vec Ideal S4096x1024 .bf16) (x3 : Vec Ideal S4096x1 .f32) (x4 : Vec Ideal S17x1024 .i32) (l : Fin 1024) (c : Fin 256)
    (hc : x4 (ix2 14 l) = BitVec.ofNat 32 (4352 + c.val)) (k : Fin 256) :
    hot x0 x1 x2 x3 x4 (ix2 ⟨3328 + k.val, by omega⟩ l)
      = FloatOps.sitofp (F := Ideal) .f32 (BitVec.setWidth 32 (IntOp.cmpi .eq (BitVec.ofNat 32 k.val) (BitVec.ofNat 32 c.val))) := by
  have hk : IntOp.subi (x4 (ix2 14 l)) 4352#32 = BitVec.ofNat 32 c.val := by
    rw [hc]; exact key_sub _ _ (by omega) rfl
  unfold hot
  rw [pay20_13]
  pointwise [b0_0, b0_1, b0_2, b0_3, b0_4, b0_5, b0_6, b0_7, b0_8, b0_9, b0_10, b0_11, b0_12, b0_13, b0_14, b0_15, b0_16, b0_17, b0_18, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rw [hk]

set_option maxHeartbeats 1000000 in
/-- The one-hot columns of subspace 14. -/
theorem hot_14 (x0 x1 x2 : Vec Ideal S4096x1024 .bf16) (x3 : Vec Ideal S4096x1 .f32) (x4 : Vec Ideal S17x1024 .i32) (l : Fin 1024) (c : Fin 256)
    (hc : x4 (ix2 15 l) = BitVec.ofNat 32 (4608 + c.val)) (k : Fin 256) :
    hot x0 x1 x2 x3 x4 (ix2 ⟨3584 + k.val, by omega⟩ l)
      = FloatOps.sitofp (F := Ideal) .f32 (BitVec.setWidth 32 (IntOp.cmpi .eq (BitVec.ofNat 32 k.val) (BitVec.ofNat 32 c.val))) := by
  have hk : IntOp.subi (x4 (ix2 15 l)) 4608#32 = BitVec.ofNat 32 c.val := by
    rw [hc]; exact key_sub _ _ (by omega) rfl
  unfold hot
  rw [pay20_14]
  pointwise [b0_0, b0_1, b0_2, b0_3, b0_4, b0_5, b0_6, b0_7, b0_8, b0_9, b0_10, b0_11, b0_12, b0_13, b0_14, b0_15, b0_16, b0_17, b0_18, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rw [hk]

set_option maxHeartbeats 1000000 in
/-- The one-hot columns of subspace 15. -/
theorem hot_15 (x0 x1 x2 : Vec Ideal S4096x1024 .bf16) (x3 : Vec Ideal S4096x1 .f32) (x4 : Vec Ideal S17x1024 .i32) (l : Fin 1024) (c : Fin 256)
    (hc : x4 (ix2 16 l) = BitVec.ofNat 32 (4864 + c.val)) (k : Fin 256) :
    hot x0 x1 x2 x3 x4 (ix2 ⟨3840 + k.val, by omega⟩ l)
      = FloatOps.sitofp (F := Ideal) .f32 (BitVec.setWidth 32 (IntOp.cmpi .eq (BitVec.ofNat 32 k.val) (BitVec.ofNat 32 c.val))) := by
  have hk : IntOp.subi (x4 (ix2 16 l)) 4864#32 = BitVec.ofNat 32 c.val := by
    rw [hc]; exact key_sub _ _ (by omega) rfl
  unfold hot
  rw [pay20_15]
  pointwise [b0_0, b0_1, b0_2, b0_3, b0_4, b0_5, b0_6, b0_7, b0_8, b0_9, b0_10, b0_11, b0_12, b0_13, b0_14, b0_15, b0_16, b0_17, b0_18, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rw [hk]

/-- The sixteen turns of the body. -/
theorem turns (P N : FVec Ideal S16x1024 .f32) (l : Fin 1024) :
    (k0_pay1 P N (k0_pay26 P N k0_pay23 (extractStridedSlice S1x1024 ![0, 0] P slices_S16x1024_o0_0_S1x1024) k0_pay25) (ix3 0 0 l) : EReal)
      = 2 * P (ix2 0 l) + N (ix2 0 l) + 2 * P (ix2 1 l) + N (ix2 1 l) + 2 * P (ix2 2 l) + N (ix2 2 l) + 2 * P (ix2 3 l) + N (ix2 3 l) + 2 * P (ix2 4 l) + N (ix2 4 l) + 2 * P (ix2 5 l) + N (ix2 5 l) + 2 * P (ix2 6 l) + N (ix2 6 l) + 2 * P (ix2 7 l) + N (ix2 7 l) + 2 * P (ix2 8 l) + N (ix2 8 l) + 2 * P (ix2 9 l) + N (ix2 9 l) + 2 * P (ix2 10 l) + N (ix2 10 l) + 2 * P (ix2 11 l) + N (ix2 11 l) + 2 * P (ix2 12 l) + N (ix2 12 l) + 2 * P (ix2 13 l) + N (ix2 13 l) + 2 * P (ix2 14 l) + N (ix2 14 l) + 2 * P (ix2 15 l) + N (ix2 15 l) := by
  generalize hR : 2 * P (ix2 0 l) + N (ix2 0 l) + 2 * P (ix2 1 l) + N (ix2 1 l) + 2 * P (ix2 2 l) + N (ix2 2 l) + 2 * P (ix2 3 l) + N (ix2 3 l) + 2 * P (ix2 4 l) + N (ix2 4 l) + 2 * P (ix2 5 l) + N (ix2 5 l) + 2 * P (ix2 6 l) + N (ix2 6 l) + 2 * P (ix2 7 l) + N (ix2 7 l) + 2 * P (ix2 8 l) + N (ix2 8 l) + 2 * P (ix2 9 l) + N (ix2 9 l) + 2 * P (ix2 10 l) + N (ix2 10 l) + 2 * P (ix2 11 l) + N (ix2 11 l) + 2 * P (ix2 12 l) + N (ix2 12 l) + 2 * P (ix2 13 l) + N (ix2 13 l) + 2 * P (ix2 14 l) + N (ix2 14 l) + 2 * P (ix2 15 l) + N (ix2 15 l) = R
  pointwise [k0_pay1, k0_pay23, k0_pay25, k0_pay26]
  simp only [ofBits_two_f32]
  exact hR

/-- Sixteen turns written out. -/
theorem up16 (g h : Fin 16 → EReal) : up (fun m => g (Fin.ofNat 16 m)) (fun m => h (Fin.ofNat 16 m)) 16
    = 2 * g 0 + h 0 + 2 * g 1 + h 1 + 2 * g 2 + h 2 + 2 * g 3 + h 3 + 2 * g 4 + h 4 + 2 * g 5 + h 5 + 2 * g 6 + h 6 + 2 * g 7 + h 7 + 2 * g 8 + h 8 + 2 * g 9 + h 9 + 2 * g 10 + h 10 + 2 * g 11 + h 11 + 2 * g 12 + h 12 + 2 * g 13 + h 13 + 2 * g 14 + h 14 + 2 * g 15 + h 15 := by
  show 0 + 2 * g 0 + h 0 + 2 * g 1 + h 1 + 2 * g 2 + h 2 + 2 * g 3 + h 3 + 2 * g 4 + h 4 + 2 * g 5 + h 5 + 2 * g 6 + h 6 + 2 * g 7 + h 7 + 2 * g 8 + h 8 + 2 * g 9 + h 9 + 2 * g 10 + h 10 + 2 * g 11 + h 11 + 2 * g 12 + h 12 + 2 * g 13 + h 13 + 2 * g 14 + h 14 + 2 * g 15 + h 15 = _
  rw [zero_add]

/-- The one-hot columns at any subspace. -/
theorem hot_apply (x0 x1 x2 : Vec Ideal S4096x1024 .bf16) (x3 : Vec Ideal S4096x1 .f32) (x4 : Vec Ideal S17x1024 .i32) (l : Fin 1024) (c : Fin 16 → Fin 256)
    (hc : ∀ m : Fin 16, x4 (ix2 m.succ l) = BitVec.ofNat 32 (1024 + 256 * m.val + (c m).val)) (m : Fin 16) (k : Fin 256) (p : Fin 4096)
    (hp : p.val = 256 * m.val + k.val) :
    hot x0 x1 x2 x3 x4 (ix2 p l)
      = FloatOps.sitofp (F := Ideal) .f32 (BitVec.setWidth 32 (IntOp.cmpi .eq (BitVec.ofNat 32 k.val) (BitVec.ofNat 32 (c m).val))) := by
  have hq : 256 * m.val + k.val < 4096 := by omega
  have hp' : p = ⟨256 * m.val + k.val, hq⟩ := Fin.ext hp
  rw [hp']
  clear hp' hp p
  fin_cases m
  · exact hot_0 x0 x1 x2 x3 x4 l (c 0) (hc 0) k
  · exact hot_1 x0 x1 x2 x3 x4 l (c 1) (hc 1) k
  · exact hot_2 x0 x1 x2 x3 x4 l (c 2) (hc 2) k
  · exact hot_3 x0 x1 x2 x3 x4 l (c 3) (hc 3) k
  · exact hot_4 x0 x1 x2 x3 x4 l (c 4) (hc 4) k
  · exact hot_5 x0 x1 x2 x3 x4 l (c 5) (hc 5) k
  · exact hot_6 x0 x1 x2 x3 x4 l (c 6) (hc 6) k
  · exact hot_7 x0 x1 x2 x3 x4 l (c 7) (hc 7) k
  · exact hot_8 x0 x1 x2 x3 x4 l (c 8) (hc 8) k
  · exact hot_9 x0 x1 x2 x3 x4 l (c 9) (hc 9) k
  · exact hot_10 x0 x1 x2 x3 x4 l (c 10) (hc 10) k
  · exact hot_11 x0 x1 x2 x3 x4 l (c 11) (hc 11) k
  · exact hot_12 x0 x1 x2 x3 x4 l (c 12) (hc 12) k
  · exact hot_13 x0 x1 x2 x3 x4 l (c 13) (hc 13) k
  · exact hot_14 x0 x1 x2 x3 x4 l (c 14) (hc 14) k
  · exact hot_15 x0 x1 x2 x3 x4 l (c 15) (hc 15) k

/-- The picked product of a subspace. -/
theorem b0_19_apply (x0 x1 x2 : Vec Ideal S4096x1024 .bf16) (x3 : Vec Ideal S4096x1 .f32) (x4 : Vec Ideal S17x1024 .i32) (h1 : ∀ i, x1 i = (0 : EReal)) (h2 : ∀ i, x2 i = (0 : EReal)) (l : Fin 1024)
    (a : Fin 1024) (c : Fin 16 → Fin 256) (ha : x4 (ix2 0 l) = BitVec.ofNat 32 a.val)
    (hc : ∀ m : Fin 16, x4 (ix2 m.succ l) = BitVec.ofNat 32 (1024 + 256 * m.val + (c m).val)) (m : Fin 16) :
    (b0_19 x0 x1 x2 x3 x4 (ix2 m l) : EReal) = x0 (ix2 ⟨256 * m.val + (c m).val, by omega⟩ a) := by
  unfold b0_19 k0_pay21
  rw [show k0_pay20 (b0_1 x0 x1 x2 x3 x4) (b0_0 x0 x1 x2 x3 x4) (b0_3 x0 x1 x2 x3 x4) (b0_4 x0 x1 x2 x3 x4) (b0_5 x0 x1 x2 x3 x4) (b0_6 x0 x1 x2 x3 x4) (b0_7 x0 x1 x2 x3 x4) (b0_9 x0 x1 x2 x3 x4) (b0_10 x0 x1 x2 x3 x4) (b0_11 x0 x1 x2 x3 x4) (b0_12 x0 x1 x2 x3 x4) (b0_13 x0 x1 x2 x3 x4) (b0_14 x0 x1 x2 x3 x4) (b0_15 x0 x1 x2 x3 x4) (b0_16 x0 x1 x2 x3 x4) (b0_17 x0 x1 x2 x3 x4) (b0_18 x0 x1 x2 x3 x4) = hot x0 x1 x2 x3 x4 from rfl]
  pointwise [b0_2, k0_pay3, k0_pay2]
  simp only [h1, h2, zero_mul, Finset.sum_const_zero, add_zero, ha]
  have P' := fun t c => sum_pick (n := 1024) (by norm_num) t c
  simp only [P']
  have H := fun (k : Fin 256) (p : Fin 4096) (hp : p.val = 256 * m.val + k.val) => hot_apply x0 x1 x2 x3 x4 l c hc m k p hp
  have S := sum_pick (n := 256) (by norm_num) (fun k => x0 (ix2 ⟨256 * m.val + k.val, by omega⟩ a)) (c m)
  rw [← S]
  refine Finset.sum_congr rfl fun k _ => ?_
  rw [H k _ (by simp only; omega)]
  congr 3
  simp only [Fin.mk.injEq]; omega

/-- The picked norm of a subspace. -/
theorem b0_20_apply (x0 x1 x2 : Vec Ideal S4096x1024 .bf16) (x3 : Vec Ideal S4096x1 .f32) (x4 : Vec Ideal S17x1024 .i32) (l : Fin 1024) (c : Fin 16 → Fin 256)
    (hc : ∀ m : Fin 16, x4 (ix2 m.succ l) = BitVec.ofNat 32 (1024 + 256 * m.val + (c m).val)) (m : Fin 16) :
    (b0_20 x0 x1 x2 x3 x4 (ix2 m l) : EReal) = x3 (ix2 ⟨256 * m.val + (c m).val, by omega⟩ 0) := by
  unfold b0_20 k0_pay22
  rw [show k0_pay20 (b0_1 x0 x1 x2 x3 x4) (b0_0 x0 x1 x2 x3 x4) (b0_3 x0 x1 x2 x3 x4) (b0_4 x0 x1 x2 x3 x4) (b0_5 x0 x1 x2 x3 x4) (b0_6 x0 x1 x2 x3 x4) (b0_7 x0 x1 x2 x3 x4) (b0_9 x0 x1 x2 x3 x4) (b0_10 x0 x1 x2 x3 x4) (b0_11 x0 x1 x2 x3 x4) (b0_12 x0 x1 x2 x3 x4) (b0_13 x0 x1 x2 x3 x4) (b0_14 x0 x1 x2 x3 x4) (b0_15 x0 x1 x2 x3 x4) (b0_16 x0 x1 x2 x3 x4) (b0_17 x0 x1 x2 x3 x4) (b0_18 x0 x1 x2 x3 x4) = hot x0 x1 x2 x3 x4 from rfl]
  pointwise []
  have H := fun (k : Fin 256) (p : Fin 4096) (hp : p.val = 256 * m.val + k.val) => hot_apply x0 x1 x2 x3 x4 l c hc m k p hp
  have S := sum_pick (n := 256) (by norm_num) (fun k => x3 (ix2 ⟨256 * m.val + k.val, by omega⟩ 0)) (c m)
  rw [← S]
  refine Finset.sum_congr rfl fun k _ => ?_
  rw [H k _ (by simp only; omega)]
  congr 3
  simp only [Fin.mk.injEq]; omega

/-- The body's output: over the sixteen subspaces in turn, twice the picked product and the picked norm. The first table
    is read; the other two are zero. -/
theorem out0_apply (x0 x1 x2 : Vec Ideal S4096x1024 .bf16) (x3 : Vec Ideal S4096x1 .f32) (x4 : Vec Ideal S17x1024 .i32) (h1 : ∀ i, x1 i = (0 : EReal)) (h2 : ∀ i, x2 i = (0 : EReal)) (l : Fin 1024)
    (a : Fin 1024) (c : Fin 16 → Fin 256) (ha : x4 (ix2 0 l) = BitVec.ofNat 32 a.val)
    (hc : ∀ m : Fin 16, x4 (ix2 m.succ l) = BitVec.ofNat 32 (1024 + 256 * m.val + (c m).val)) :
    (out0_5 x0 x1 x2 x3 x4 (ix3 0 0 l) : EReal) = up (fun m => x0 (ix2 ⟨256 * (Fin.ofNat 16 m).val + (c (Fin.ofNat 16 m)).val, by omega⟩ a))
      (fun m => x3 (ix2 ⟨256 * (Fin.ofNat 16 m).val + (c (Fin.ofNat 16 m)).val, by omega⟩ 0)) 16 := by
  have p := fun m => b0_19_apply x0 x1 x2 x3 x4 h1 h2 l a c ha hc m
  have n := fun m => b0_20_apply x0 x1 x2 x3 x4 l c hc m
  unfold out0_5
  rw [View.canon_unit_zero (by funext a; fin_cases a <;> rfl)]
  refine (turns (b0_19 x0 x1 x2 x3 x4) (b0_20 x0 x1 x2 x3 x4) l).trans ?_
  simp only [p, n]
  exact (up16 (fun m => x0 (ix2 ⟨256 * m.val + (c m).val, by omega⟩ a)) (fun m => x3 (ix2 ⟨256 * m.val + (c m).val, by omega⟩ 0))).symm

end Cert.KernelIdeal.Own

end
-- ==== Proof.KIDist.lean ====
/-
  The table of masked negated distances the first two calls leave, at an index, in terms of the arguments' products.
-/
module

public import proofs.«01_k».proof.Proof.KIHost
public import proofs.«01_k».proof.Proof.KIArr
public import proofs.«01_k».proof.Proof.KIAdcVal
public import proofs.«01_k».proof.Proof.KITermVal

@[expose] public section

set_option maxRecDepth 16384

noncomputable section

namespace Cert.KernelIdeal.Own

open Cert.KernelIdeal Cert.KernelIdeal.Gen Cert.Own
open Idealize.ShloMosaic Idealize.ShloMosaic.TcCoe
open Idealize.SL Idealize.SL.RA Idealize.SL.BI Idealize.SL.Sem
open Cert.ReferenceIdeal.Read (val_main_v13 val_main_v21 val_main_v24 val_main_v26)

/-- The first call's array at an index. -/
theorem arr0_5_at (V : Dev nD → Valuation τ sig (Elt Ideal)) (c : Dev nD) (j : Fin 98) (l : Fin 1024) (t : Fin cfg0.N) (ht : t.val = j.val) :
    (dat0 V c).arrAt 5 cfg0.N (ix3 j 0 l) = out0_5 (iblk0 V c 0 t) (iblk0 V c 1 t) (iblk0 V c 2 t) (iblk0 V c 3 t) (iblk0 V c 4 t) (ix3 0 0 l) := by
  rw [arr0_5]
  have h : pt0_5 (ix3 j 0 l) = t := Fin.ext ht.symm
  dsimp only
  rw [h]
  congr 1
  funext a
  fin_cases a
  · exact Subsingleton.elim (α := Fin 1) _ _
  · exact Subsingleton.elim (α := Fin 1) _ _
  · exact Fin.ext (Nat.mod_eq_of_lt l.isLt)

/-- The second call's array at an index. -/
theorem arr1_6_at (V : Dev nD → Valuation τ sig (Elt Ideal)) (c : Dev nD) (i : Fin 2) (q : Fin 512) (j : Fin 98) (l : Fin 1024) (t : Fin cfg1.N)
    (ht : t.val = 98 * i.val + j.val) :
    (dat1 V c).arrAt 6 cfg1.N (ix2 ⟨i.val * 512 + q.val, by omega⟩ ⟨j.val * 1024 + l.val, by omega⟩)
      = out1_6 (iblk1 V c 0 t) (iblk1 V c 1 t) (iblk1 V c 2 t) (iblk1 V c 3 t) (iblk1 V c 4 t) (iblk1 V c 5 t) (ix2 q l) := by
  rw [arr1_6]
  have h : pt1_6 (ix2 ⟨i.val * 512 + q.val, by omega⟩ ⟨j.val * 1024 + l.val, by omega⟩) = t := Fin.ext (by
    rw [ht]
    show 98 * ((i.val * 512 + q.val) / 512) + (j.val * 1024 + l.val) / 1024 = _
    omega)
  dsimp only
  rw [h]
  congr 1
  funext a
  fin_cases a
  · exact Fin.ext (by show (i.val * 512 + q.val) % 512 = q.val; omega)
  · exact Fin.ext (by show (j.val * 1024 + l.val) % 1024 = l.val; omega)

variable (m : (ℓ : Loc nD τ sig) → Buf (Elt Ideal) ℓ) (c : Dev nD)

/-- The coarse distance of a query to a list. -/
def coarse (q k : Fin 1024) : EReal := val_main_v13 (F := Ideal) (V0 m c main_arg0) (V0 m c main_arg1) (ix2 q k)

/-- The product of a query's subvector with a codeword. -/
def qdot (q : Fin 1024) (s : Fin 16) (k : Fin 256) : EReal := val_main_v21 (F := Ideal) (V0 m c main_arg0) (V0 m c main_arg2) (ix3 q s k)

/-- The product of a list's subvector with a codeword. -/
def cdot (a : Fin 1024) (s : Fin 16) (k : Fin 256) : EReal := val_main_v24 (F := Ideal) (V0 m c main_arg1) (V0 m c main_arg2) (ix3 a s k)

/-- A codeword's squared length. -/
def rnorm (s : Fin 16) (k : Fin 256) : EReal := val_main_v26 (F := Ideal) (V0 m c main_arg2) (ix2 s k)

/-- The threshold of a query: its 32nd smallest coarse distance. -/
def tau (q : Fin 1024) : EReal := coarse m c q (nth (fun e => -(coarse m c q e)) ⟨31, by norm_num⟩)

/-- The vector's term: twice the centroid's products plus the codewords' squared lengths; the padding's is infinite. -/
def term (a : Fin 1024) (k : Fin 16 → Fin 256) : EReal :=
  up (fun s => cdot m c a (Fin.ofNat 16 s) (k (Fin.ofNat 16 s))) (fun s => rnorm m c (Fin.ofNat 16 s) (k (Fin.ofNat 16 s))) 16

theorem V1_tau (q : Fin 1024) : V1 m c main_v16 (ix2 q 0) = tau m c q := by
  rw [V1_v16, V1_v13]; rfl

section

variable (hA : ∀ i, Fin' (val_main_v13 (F := Ideal) (V0 m c main_arg0) (V0 m c main_arg1) i))
  (hG : ∀ i, Fin' (val_main_v21 (F := Ideal) (V0 m c main_arg0) (V0 m c main_arg2) i))
  (hC : ∀ i, Fin' (val_main_v24 (F := Ideal) (V0 m c main_arg1) (V0 m c main_arg2) i))
  (a : ℕ → Fin 1024) (k : ℕ → Fin 16 → Fin 256)
  (ha : ∀ e < 100352, lst (V0 m c main_arg3) e = BitVec.ofNat 32 (a e).val)
  (hk : ∀ e < 100352, ∀ s, code (V0 m c main_arg4) e s = BitVec.ofNat 32 (k e s).val)

include hA hG in
theorem V26_fin (i : S1024x5120.Idx) : Fin' (V1 m c main_v26 i) := by
  rw [V1_v26, V1_v13, V1_v20]
  exact table_fin _ _ hA hG i

include hC in
theorem V52_fin (r : Fin 4096) (l : Fin 1024) : Fin' (V1 m c main_v52 (ix2 r l)) := by
  have h := cdot_at (val_main_v24 (F := Ideal) (V0 m c main_arg1) (V0 m c main_arg2)) ⟨r.val / 256, by omega⟩ ⟨r.val % 256, by omega⟩ l
  have e : (⟨256 * (r.val / 256) + r.val % 256, by omega⟩ : Fin 4096) = r := Fin.ext (by dsimp only; omega)
  dsimp only at h
  rw [e] at h
  rw [V1_v52, V1_v22]
  exact h ▸ hC _

theorem V1_33_coarse (q l : Fin 1024) : V1 m c main_v33 (ix2 q ⟨l.val, by omega⟩) = coarse m c q l := by
  rw [V1_v33, V1_v26, V1_v13, V1_v20]
  exact table_coarse _ _ q l

theorem V1_33_dot (q : Fin 1024) (s : Fin 16) (l : Fin 256) : V1 m c main_v33 (ix2 q ⟨1024 + 256 * s.val + l.val, by omega⟩) = qdot m c q s l := by
  rw [V1_v33, V1_v26, V1_v13, V1_v20]
  exact table_dot _ _ q s l

theorem V1_59_dot (s : Fin 16) (l : Fin 256) (b : Fin 1024) : V1 m c main_v59 (ix2 ⟨256 * s.val + l.val, by omega⟩ b) = cdot m c b s l := by
  rw [V1_v59, V1_v52, V1_v22]
  exact cdot_at _ s l b

include ha in
theorem key_list (e : Fin 100352) : V1 m c main_v50 (ix2 0 e) = BitVec.ofNat 32 (a e.val).val := by
  rw [V1_keys_list]; exact ha _ e.isLt

include hk in
theorem key_code (s : Fin 16) (e : Fin 100352) : V1 m c main_v50 (ix2 s.succ e) = BitVec.ofNat 32 (1024 + 256 * s.val + (k e.val s).val) := by
  rw [V1_keys_code, hk _ e.isLt, ← BitVec.ofNat_add, Nat.add_comm]

include hC ha hk in
/-- The term of every vector, padding included, as the first call leaves it. -/
theorem term_at (j : Fin 98) (l : Fin 1024) : V2 m c main_v63 (ix3 j 0 l) = term m c (a (j.val * 1024 + l.val)) (k (j.val * 1024 + l.val)) := by
  have ht : (⟨j.val, by have := N_0; have : cfg0.N = grid0.N := rfl; omega⟩ : Fin cfg0.N).val = j.val := rfl
  generalize (⟨j.val, by have := N_0; have : cfg0.N = grid0.N := rfl; omega⟩ : Fin cfg0.N) = t at ht
  rw [V2_main_v63, arr0_5_at _ c j l t ht]
  refine (out0_apply _ _ _ _ _ ?_ ?_ l (a (j.val * 1024 + l.val)) (k (j.val * 1024 + l.val)) ?_ ?_).trans ?_
  · intro i
    idx_vars i
    rw [iblk0_1_apply]
    exact V1_v60 m c _ _ (V52_fin m c hC _ _)
  · intro i
    idx_vars i
    rw [iblk0_2_apply]
    exact V1_v61 m c _ _ (V52_fin m c hC _ _)
  · rw [iblk0_4_apply, key_list m c a ha]
    simp only [ht]
  · intro s
    rw [iblk0_4_apply, key_code m c k hk]
    simp only [ht]
  · refine congrArg₂ (fun g h => up g h 16) (funext fun s => ?_) (funext fun s => ?_)
    · exact (iblk0_0_apply (V1 m) c t _ _).trans (V1_59_dot m c _ _ _)
    · exact (iblk0_3_apply (V1 m) c t _ _).trans (V1_v62 m c _ _)

include hA hG hC ha hk in
/-- The table of masked negated distances the second call leaves. -/
theorem dist_at (i : Fin 2) (q : Fin 512) (j : Fin 98) (l : Fin 1024) (p : Fin 1024) (hp : p.val = i.val * 512 + q.val) (e : ℕ) (he : e = j.val * 1024 + l.val) :
    V6 m c main_v70 (ix2 ⟨i.val * 512 + q.val, by omega⟩ ⟨j.val * 1024 + l.val, by omega⟩)
      = if coarse m c p (a e) ≤ tau m c p then
          0 - down (coarse m c p (a e) + if e < 100000 then term m c (a e) (k e) else ⊤) (fun s => qdot m c p (Fin.ofNat 16 s) (k e (Fin.ofNat 16 s))) 16
        else ⊥ := by
  subst he
  have ht : (⟨98 * i.val + j.val, by have := N_1; have : cfg1.N = grid1.N := rfl; omega⟩ : Fin cfg1.N).val = 98 * i.val + j.val := rfl
  generalize (⟨98 * i.val + j.val, by have := N_1; have : cfg1.N = grid1.N := rfl; omega⟩ : Fin cfg1.N) = t at ht
  have hi : t.val / 98 = i.val := by omega
  have hj : t.val % 98 = j.val := by omega
  have h33 : V5 m c main_v33 = V1 m c main_v33 := by
    rw [V5_of m c main_v33 (by decide), V4_of m c main_v33 (by decide), V3_of m c main_v33 (by decide), V2_of m c main_v33 (by decide)]
  have h34 : V5 m c main_v34 = V1 m c main_v34 := by
    rw [V5_of m c main_v34 (by decide), V4_of m c main_v34 (by decide), V3_of m c main_v34 (by decide), V2_of m c main_v34 (by decide)]
  have h35 : V5 m c main_v35 = V1 m c main_v35 := by
    rw [V5_of m c main_v35 (by decide), V4_of m c main_v35 (by decide), V3_of m c main_v35 (by decide), V2_of m c main_v35 (by decide)]
  have h50 : V5 m c main_v50 = V1 m c main_v50 := by
    rw [V5_of m c main_v50 (by decide), V4_of m c main_v50 (by decide), V3_of m c main_v50 (by decide), V2_of m c main_v50 (by decide)]
  have h16 : V5 m c main_v16 = V1 m c main_v16 := by
    rw [V5_of m c main_v16 (by decide), V4_of m c main_v16 (by decide), V3_of m c main_v16 (by decide), V2_of m c main_v16 (by decide)]
  have hp' : ∀ h, (⟨t.val / 98 * 512 + q.val, h⟩ : Fin 1024) = p := fun h => Fin.ext (by dsimp only; omega)
  rw [V6_main_v70, arr1_6_at _ c i q j l t ht]
  refine (out1_apply _ _ _ _ _ _ ?_ ?_ q l (a (j.val * 1024 + l.val)) (k (j.val * 1024 + l.val)) ?_ ?_ (coarse m c p) ?_ (qdot m c p) ?_).trans ?_
  · intro x
    idx_vars x
    rw [iblk1_1_apply, h34]
    exact V1_v34 m c _ _ (V26_fin m c hA hG _)
  · intro x
    idx_vars x
    rw [iblk1_2_apply, h35]
    exact V1_v35 m c _ _ (V26_fin m c hA hG _)
  · rw [iblk1_3_apply, h50, key_list m c a ha]
    simp only [hj]
  · intro s
    rw [iblk1_3_apply, h50, key_code m c k hk]
    simp only [hj]
  · intro x
    rw [iblk1_0_apply, h33, hp']
    exact V1_33_coarse m c p x
  · intro s x
    rw [iblk1_0_apply, h33, hp']
    exact V1_33_dot m c p s x
  · rw [iblk1_4_apply, iblk1_5_apply, h16, hp', V1_tau, V5_v69, term_at m c hC a k ha hk]
    simp only [hj, Nat.mul_comm 1024, Nat.mul_one, Fin.val_zero, Nat.add_zero]

end

end Cert.KernelIdeal.Own

end
-- ==== Proof.RefIdx.lean ====
/-
  The reference's integer side: the ranks of the lists and the positions its gathers read.
-/
module

public import proofs.«01_k».proof.Proof.TopK
public import proofs.«01_k».proof.Proof.Gathers
public import proofs.«01_k».proof.Proof.Reals

@[expose] public section

set_option maxRecDepth 16384

noncomputable section

namespace Cert.ReferenceIdeal.Own

open Cert.ReferenceIdeal Cert.ReferenceIdeal.Gen Cert.Own Cert.ReferenceIdeal.Read
open Idealize.ShloMosaic

/-- A word that is not negative is not wrapped. -/
theorem no_wrap (n : ℕ) (hn : n < 2 ^ 31) (w : BitVec 32) :
    Scalar.select (IntOp.cmpi .slt (BitVec.ofNat 32 n) 0#32) w (BitVec.ofNat 32 n) = BitVec.ofNat 32 n := by
  have hi := toInt_ofNat_small n hn
  have : IntOp.cmpi .slt (BitVec.ofNat 32 n) 0#32 = 0#1 := by
    unfold IntOp.cmpi
    simp only [BitVec.slt, hi]
    rw [decide_eq_false (by show ¬ ((n : ℤ) < 0); omega)]; rfl
  rw [this]; rfl

/-- A word in a range passes its two tests. -/
theorem in_range (n N : ℕ) (hn : n ≤ N) (hN : N < 2 ^ 31) :
    IntOp.andi (IntOp.cmpi .sge (BitVec.ofNat 32 n) 0#32) (IntOp.cmpi .sle (BitVec.ofNat 32 n) (BitVec.ofNat 32 N)) = 1#1 := by
  have hi := toInt_ofNat_small n (by omega)
  have hI := toInt_ofNat_small N hN
  have h1 : IntOp.cmpi .sge (BitVec.ofNat 32 n) 0#32 = 1#1 := by
    unfold IntOp.cmpi
    simp only [BitVec.sle, hi]
    rw [decide_eq_true (by show (0 : ℤ) ≤ n; omega)]; rfl
  have h2 : IntOp.cmpi .sle (BitVec.ofNat 32 n) (BitVec.ofNat 32 N) = 1#1 := by
    unfold IntOp.cmpi
    simp only [BitVec.sle, hi, hI]
    rw [decide_eq_true (by omega)]; rfl
  rw [h1, h2]; rfl

section
variable (x0 x1 : (⟨S1024x128, .f32⟩ : BufTy).Contents (Elt Ideal)) (x2 : (⟨S16x256x8, .f32⟩ : BufTy).Contents (Elt Ideal))
  (x3 : (⟨S100000, .i32⟩ : BufTy).Contents (Elt Ideal)) (x4 : (⟨S100000x16, .i32⟩ : BufTy).Contents (Elt Ideal))
  (a : Fin 100000 → Fin 1024) (ha : ∀ e, x3 (ix1 e) = BitVec.ofNat 32 (a e).val)
  (b : Fin 100000 → Fin 16 → Fin 256) (hb : ∀ e s, x4 (ix2 e s) = BitVec.ofNat 32 (b e s).val)

include ha in
theorem lists2 (e : Fin 100000) (u : Fin 1) : val_main_call2_v5 (F := Ideal) x3 (ix2 e u) = BitVec.ofNat 32 (a e).val := by
  have h : val_main_call2_v5 (F := Ideal) x3 (ix2 e u)
      = Scalar.select (IntOp.cmpi .slt (x3 (ix1 e)) 0#32) (IntOp.addi (x3 (ix1 e)) 1024#32) (x3 (ix1 e)) := by
    pointwise [val_main_call2_v5, val_main_call2_v4, val_main_call2_v3, val_main_call2_v2, val_main_call2_v1, val_main_call2_v0, val_main_call2_c, val_main_call2_c_0]
  rw [h, ha, no_wrap _ (by omega)]

include ha in
theorem lists3 (e : Fin 100000) (u : Fin 1) : val_main_call3_v5 (F := Ideal) x3 (ix2 e u) = BitVec.ofNat 32 (a e).val := by
  have h : val_main_call3_v5 (F := Ideal) x3 (ix2 e u)
      = Scalar.select (IntOp.cmpi .slt (x3 (ix1 e)) 0#32) (IntOp.addi (x3 (ix1 e)) 1024#32) (x3 (ix1 e)) := by
    pointwise [val_main_call3_v5, val_main_call3_v4, val_main_call3_v3, val_main_call3_v2, val_main_call3_v1, val_main_call3_v0, val_main_call3_c, val_main_call3_c_0]
  rw [h, ha, no_wrap _ (by omega)]

/-- A conjunction over one column. -/
theorem and_col (X : IVec S100000x1 1) (e : Fin 100000) (h : X (ix2 e 0) = 1#1) :
    Host.reduce IntOp.andi X (constantI S_ 1 1#1) reducesTo_S100000x1_S100000_d1 h_S_ (ix1 e) = 1#1 := by
  have : Host.reduce IntOp.andi X (constantI S_ 1 1#1) reducesTo_S100000x1_S100000_d1 h_S_ (ix1 e)
      = Finset.fold IntOp.andi 1#1 (fun k : Fin 1 => X (ix2 e k)) Finset.univ := by pointwise
  rw [this, Finset.univ_unique, Finset.fold_singleton]
  show IntOp.andi (X (ix2 e 0)) 1#1 = 1#1
  rw [h]; rfl

include ha in
theorem mask2 (q : Fin 1024) (e : Fin 100000) : val_main_call2_v14 (F := Ideal) x3 (ix2 q e) = 1#1 := by
  have h : val_main_call2_v14 (F := Ideal) x3 (ix2 q e) = val_main_call2_v12 (F := Ideal) x3 (ix1 e) := by
    pointwise [val_main_call2_v14]
  rw [h]
  refine and_col _ e ?_
  have h' : val_main_call2_v11 (F := Ideal) x3 (ix2 e 0) = IntOp.andi (IntOp.cmpi .sge (val_main_call2_v5 (F := Ideal) x3 (ix2 e 0)) 0#32)
      (IntOp.cmpi .sle (val_main_call2_v5 (F := Ideal) x3 (ix2 e 0)) 1023#32) := by
    pointwise [val_main_call2_v11, val_main_call2_v10, val_main_call2_v9, val_main_call2_v8, val_main_call2_v7, val_main_call2_v6, val_main_call2_c_1, val_main_call2_c_2]
  rw [h', lists2 x3 a ha]
  exact in_range _ 1023 (by omega) (by norm_num)

include ha in
theorem mask3 (q : Fin 1024) (e : Fin 100000) : val_main_call3_v14 (F := Ideal) x3 (ix2 q e) = 1#1 := by
  have h : val_main_call3_v14 (F := Ideal) x3 (ix2 q e) = val_main_call3_v12 (F := Ideal) x3 (ix1 e) := by
    pointwise [val_main_call3_v14]
  rw [h]
  refine and_col _ e ?_
  have h' : val_main_call3_v11 (F := Ideal) x3 (ix2 e 0) = IntOp.andi (IntOp.cmpi .sge (val_main_call3_v5 (F := Ideal) x3 (ix2 e 0)) 0#32)
      (IntOp.cmpi .sle (val_main_call3_v5 (F := Ideal) x3 (ix2 e 0)) 1023#32) := by
    pointwise [val_main_call3_v11, val_main_call3_v10, val_main_call3_v9, val_main_call3_v8, val_main_call3_v7, val_main_call3_v6, val_main_call3_c_1, val_main_call3_c_2]
  rw [h', lists3 x3 a ha]
  exact in_range _ 1023 (by omega) (by norm_num)

include ha in
/-- The rank looked up for a vector's list. -/
theorem v16_at (q : Fin 1024) (e : Fin 100000) : val_main_v16 (F := Ideal) x0 x1 x3 (ix2 q e) = val_main_v15 (F := Ideal) x0 x1 (ix2 q (a e)) := by
  rw [val_main_v16_apply, mask2 x3 a ha]
  unfold val_main_call2_v13
  rw [gather_Re2221 _ _ q e (a e) (lists2 x3 a ha e 0)]; rfl

include ha in
/-- The coarse distance looked up for a vector's list. -/
theorem v87_at (q : Fin 1024) (e : Fin 100000) : val_main_v87 (F := Ideal) x0 x1 x3 (ix2 q e) = val_main_v13 (F := Ideal) x0 x1 (ix2 q (a e)) := by
  have h : val_main_v87 (F := Ideal) x0 x1 x3 (ix2 q e) = Scalar.select (val_main_call3_v14 (F := Ideal) x3 (ix2 q e)) (val_main_call3_v13 (F := Ideal) x0 x1 x3 (ix2 q e)) (val_main_call3_v15 (F := Ideal) (ix2 q e)) := rfl
  rw [h, mask3 x3 a ha]
  unfold val_main_call3_v13
  rw [gather_Re2221 _ _ q e (a e) (lists3 x3 a ha e 0)]; rfl

/-! ## The three index columns -/

/-- Three columns side by side. -/
theorem cat3 (A B C : IVec S100000x16x1 32) (e : Fin 100000) (s : Fin 16) :
    concatenate S100000x16x3 2 [⟨S100000x16x1, A⟩, ⟨S100000x16x1, B⟩, ⟨S100000x16x1, C⟩] concatenates_S100000x16x1_S100000x16x1_S100000x16x1_S100000x16x3_d2 (ix3 e s 0) = A (ix3 e s 0)
    ∧ concatenate S100000x16x3 2 [⟨S100000x16x1, A⟩, ⟨S100000x16x1, B⟩, ⟨S100000x16x1, C⟩] concatenates_S100000x16x1_S100000x16x1_S100000x16x1_S100000x16x3_d2 (ix3 e s 1) = B (ix3 e s 0)
    ∧ concatenate S100000x16x3 2 [⟨S100000x16x1, A⟩, ⟨S100000x16x1, B⟩, ⟨S100000x16x1, C⟩] concatenates_S100000x16x1_S100000x16x1_S100000x16x1_S100000x16x3_d2 (ix3 e s 2) = C (ix3 e s 0) := by
  refine ⟨?_, ?_, ?_⟩ <;> pointwise

/-- Two columns side by side. -/
theorem cat2 (A B : IVec S100000x16x1 32) (e : Fin 100000) (s : Fin 16) :
    concatenate S100000x16x2 2 [⟨S100000x16x1, A⟩, ⟨S100000x16x1, B⟩] concatenates_S100000x16x1_S100000x16x1_S100000x16x2_d2 (ix3 e s 0) = A (ix3 e s 0)
    ∧ concatenate S100000x16x2 2 [⟨S100000x16x1, A⟩, ⟨S100000x16x1, B⟩] concatenates_S100000x16x1_S100000x16x1_S100000x16x2_d2 (ix3 e s 1) = B (ix3 e s 0) := by
  refine ⟨?_, ?_⟩ <;> pointwise

include ha in
theorem v47_at (e : Fin 100000) (s : Fin 16) : val_main_v47 (F := Ideal) x3 (ix3 e s 0) = BitVec.ofNat 32 (a e).val := by
  have h : val_main_v47 (F := Ideal) x3 (ix3 e s 0) = Scalar.select (IntOp.cmpi .slt (x3 (ix1 e)) 0#32) (IntOp.addi (x3 (ix1 e)) 1024#32) (x3 (ix1 e)) := by
    pointwise [val_main_v47, val_main_v45, val_main_v34, val_main_v33, val_main_v32, val_main_v31, val_main_v30, val_main_v29, val_main_c_3, val_main_c_4]
  rw [h, ha, no_wrap _ (by omega)]

theorem v48_at (e : Fin 100000) (s : Fin 16) : val_main_v48 (F := Ideal) (ix3 e s 0) = BitVec.ofNat 32 s.val := by
  have h : val_main_v48 (F := Ideal) (ix3 e s 0) = Scalar.select (IntOp.cmpi .slt (BitVec.ofNat 32 s.val) 0#32) (IntOp.addi (BitVec.ofNat 32 s.val) 16#32) (BitVec.ofNat 32 s.val) := by
    pointwise [val_main_v48, val_main_v46, val_main_v39, val_main_v38, val_main_v37, val_main_v36, val_main_v35, val_main_v28, val_main_v27, val_main_c_5, val_main_c_6]
  rw [h, no_wrap _ (by omega)]

include hb in
theorem v49_at (e : Fin 100000) (s : Fin 16) : val_main_v49 (F := Ideal) x4 (ix3 e s 0) = BitVec.ofNat 32 (b e s).val := by
  have h : val_main_v49 (F := Ideal) x4 (ix3 e s 0) = Scalar.select (IntOp.cmpi .slt (x4 (ix2 e s)) 0#32) (IntOp.addi (x4 (ix2 e s)) 256#32) (x4 (ix2 e s)) := by
    pointwise [val_main_v49, val_main_v44, val_main_v43, val_main_v42, val_main_v41, val_main_v40, val_main_c_7, val_main_c_8]
  rw [h, hb, no_wrap _ (by omega)]

theorem v65_at (e : Fin 100000) (s : Fin 16) : val_main_v65 (F := Ideal) (ix3 e s 0) = BitVec.ofNat 32 s.val := by
  have h : val_main_v65 (F := Ideal) (ix3 e s 0) = Scalar.select (IntOp.cmpi .slt (BitVec.ofNat 32 s.val) 0#32) (IntOp.addi (BitVec.ofNat 32 s.val) 16#32) (BitVec.ofNat 32 s.val) := by
    pointwise [val_main_v65, val_main_v64, val_main_v58, val_main_v57, val_main_v56, val_main_v55, val_main_v54, val_main_v28, val_main_v27, val_main_c_10, val_main_c_11]
  rw [h, no_wrap _ (by omega)]

include hb in
theorem v66_at (e : Fin 100000) (s : Fin 16) : val_main_v66 (F := Ideal) x4 (ix3 e s 0) = BitVec.ofNat 32 (b e s).val := by
  have h : val_main_v66 (F := Ideal) x4 (ix3 e s 0) = Scalar.select (IntOp.cmpi .slt (x4 (ix2 e s)) 0#32) (IntOp.addi (x4 (ix2 e s)) 256#32) (x4 (ix2 e s)) := by
    pointwise [val_main_v66, val_main_v63, val_main_v62, val_main_v61, val_main_v60, val_main_v59, val_main_c_12, val_main_c_13]
  rw [h, hb, no_wrap _ (by omega)]

theorem v82_at (e : Fin 100000) (s : Fin 16) : val_main_v82 (F := Ideal) (ix3 e s 0) = BitVec.ofNat 32 s.val := by
  have h : val_main_v82 (F := Ideal) (ix3 e s 0) = Scalar.select (IntOp.cmpi .slt (BitVec.ofNat 32 s.val) 0#32) (IntOp.addi (BitVec.ofNat 32 s.val) 16#32) (BitVec.ofNat 32 s.val) := by
    pointwise [val_main_v82, val_main_v81, val_main_v75, val_main_v74, val_main_v73, val_main_v72, val_main_v71, val_main_v28, val_main_v27, val_main_c_15, val_main_c_16]
  rw [h, no_wrap _ (by omega)]

include hb in
theorem v83_at (e : Fin 100000) (s : Fin 16) : val_main_v83 (F := Ideal) x4 (ix3 e s 0) = BitVec.ofNat 32 (b e s).val := by
  have h : val_main_v83 (F := Ideal) x4 (ix3 e s 0) = Scalar.select (IntOp.cmpi .slt (x4 (ix2 e s)) 0#32) (IntOp.addi (x4 (ix2 e s)) 256#32) (x4 (ix2 e s)) := by
    pointwise [val_main_v83, val_main_v80, val_main_v79, val_main_v78, val_main_v77, val_main_v76, val_main_c_17, val_main_c_18]
  rw [h, hb, no_wrap _ (by omega)]

include ha hb in
theorem v51_at (e : Fin 100000) (s : Fin 16) :
    val_main_v51 (F := Ideal) x1 x2 x3 x4 (ix2 e s) = val_main_v24 (F := Ideal) x1 x2 (ix3 (a e) s (b e s)) := by
  unfold val_main_v51
  exact gather_Re3323 _ _ e s (a e) s (b e s) (((cat3 _ _ _ e s).1).trans (v47_at x3 a ha e s))
    (((cat3 _ _ _ e s).2.1).trans (v48_at e s)) (((cat3 _ _ _ e s).2.2).trans (v49_at x4 b hb e s))

include hb in
theorem v68_at (e : Fin 100000) (s : Fin 16) : val_main_v68 (F := Ideal) x2 x4 (ix2 e s) = val_main_v26 (F := Ideal) x2 (ix2 s (b e s)) := by
  unfold val_main_v68
  exact gather_Re2322 _ _ e s s (b e s) (((cat2 _ _ e s).1).trans (v65_at e s)) (((cat2 _ _ e s).2).trans (v66_at x4 b hb e s))

include hb in
theorem v85_at (q : Fin 1024) (e : Fin 100000) (s : Fin 16) :
    val_main_v85 (F := Ideal) x0 x2 x4 (ix3 q e s) = val_main_v21 (F := Ideal) x0 x2 (ix3 q s (b e s)) := by
  unfold val_main_v85
  exact gather_Re3332 _ _ q e s s (b e s) (((cat2 _ _ e s).1).trans (v82_at e s)) (((cat2 _ _ e s).2).trans (v83_at x4 b hb e s))

end

end Cert.ReferenceIdeal.Own

end
-- ==== Proof.RefVal.lean ====
/-
  The reference's negated distances, at an index.
-/
module

public import proofs.«01_k».proof.Proof.RefIdx

@[expose] public section

set_option maxRecDepth 16384

noncomputable section

namespace Cert.ReferenceIdeal.Own

open Cert.ReferenceIdeal Cert.ReferenceIdeal.Gen Cert.Own Cert.ReferenceIdeal.Read
open Idealize.ShloMosaic

/-- The second result of a row-wise sort of pairs. -/
theorem sort2_snd {a b : ℕ} {α β : Type} (cmp : α × β → α × β → BitVec 1) (x : (⟨2, ![a, b]⟩ : Shape).Idx → α) (y : (⟨2, ![a, b]⟩ : Shape).Idx → β)
    (q : Fin a) (j : Fin b) : (Host.sort2 ⟨2, ![a, b]⟩ 1 cmp x y).2 (ix2 q j)
    = y (ix2 q (sortedFrom (fun k k' => cmp (x (ix2 q k), y (ix2 q k)) (x (ix2 q k'), y (ix2 q k')) == 1#1) j)) := by
  unfold Host.sort2
  rw [dif_pos (by show 1 < 2; omega)]
  dsimp only
  erw [along_ix2]
  refine congrArg (fun p => y (ix2 q p)) (congrArg (fun B => sortedFrom B _) ?_)
  funext e e'
  erw [along_ix2, along_ix2]
  rfl

/-- The word of zero bits is zero. -/
theorem zero_f32 : Ideal.ofBits .f32 0x00000000#32 = 0 := by simp [Ideal.ofBits, Ideal.ieee]

/-- Zeros of both signs are one zero, so the value compared is the value. -/
theorem canon (x : EReal) :
    Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := by
  have h1 : FloatOps.cmpf (F := Ideal) (φ := .f32) .une x x = 0#1 := by
    have e : FloatOps.cmpf (F := Ideal) (φ := .f32) .une x x = BitVec.ofBool (decide (x ≠ x)) := rfl
    rw [e, decide_eq_false (by simp)]; rfl
  have h2 : FloatOps.cmpf (F := Ideal) (φ := .f32) .oeq x (FloatOps.ofBits (F := Ideal) .f32 0x00000000#32) = BitVec.ofBool (decide (x = Ideal.ofBits .f32 0x00000000#32)) := rfl
  have h3 : (FloatOps.ofBits (F := Ideal) .f32 0x00000000#32 : EReal) = Ideal.ofBits .f32 0x00000000#32 := rfl
  rw [h1, h2]
  by_cases h : x = Ideal.ofBits .f32 0x00000000#32
  · rw [decide_eq_true h]; exact h3.trans h.symm
  · rw [decide_eq_false h]; rfl

/-- The order the first sort uses. -/
theorem cmp_lt (x y : EReal) (i j : BitVec 32) :
    (comparator_f32_i32_d1 (F := Ideal) (x, i) (y, j) == 1#1) = decide (x < y) := by
  unfold comparator_f32_i32_d1
  dsimp only
  rw [canon, canon, Ideal.cmpfTotal_def]
  show (Ideal.cmp .olt x y == 1#1) = _
  simp only [Ideal.cmp]
  by_cases h : x < y <;> simp [h]

/-- The order the second sort uses. -/
theorem cmp_lt_int (n n' : ℕ) (hn : n < 2 ^ 31) (hn' : n' < 2 ^ 31) (i j : BitVec 32) :
    (comparator_i32_i32_d1 (BitVec.ofNat 32 n, i) (BitVec.ofNat 32 n', j) == 1#1) = decide (n < n') := by
  unfold comparator_i32_i32_d1
  dsimp only
  unfold IntOp.cmpi
  simp only [BitVec.slt, toInt_ofNat_small n hn, toInt_ofNat_small n' hn']
  by_cases h : n < n'
  · rw [decide_eq_true (by omega), decide_eq_true h]; rfl
  · rw [decide_eq_false (by omega), decide_eq_false h]; rfl

section
variable (x0 x1 : (⟨S1024x128, .f32⟩ : BufTy).Contents (Elt Ideal)) (x2 : (⟨S16x256x8, .f32⟩ : BufTy).Contents (Elt Ideal))
  (x3 : (⟨S100000, .i32⟩ : BufTy).Contents (Elt Ideal)) (x4 : (⟨S100000x16, .i32⟩ : BufTy).Contents (Elt Ideal))
  (a : Fin 100000 → Fin 1024) (ha : ∀ e, x3 (ix1 e) = BitVec.ofNat 32 (a e).val)
  (b : Fin 100000 → Fin 16 → Fin 256) (hb : ∀ e s, x4 (ix2 e s) = BitVec.ofNat 32 (b e s).val)

theorem lt31 : 31 < 1024 := by norm_num
theorem lt32 : 32 < 1024 := by norm_num

/-- A query's coarse distances, negated. -/
abbrev near (q : Fin 1024) : Fin 1024 → EReal := fun k => -(val_main_v13 (F := Ideal) x0 x1 (ix2 q k) : EReal)

/-- The first sort's positions: the nearest list first. -/
theorem v14_at (q k : Fin 1024) : val_main_v14 (F := Ideal) x0 x1 (ix2 q k) = BitVec.ofNat 32 (nth (near x0 x1 q) k).val := by
  unfold val_main_v14
  refine (sort2_snd _ _ _ q k).trans ?_
  have hB : (fun k k' : Fin 1024 => comparator_f32_i32_d1 (F := Ideal) (val_main_v13 (F := Ideal) x0 x1 (ix2 q k), val_main_call0_v0 (F := Ideal) (ix2 q k))
      (val_main_v13 (F := Ideal) x0 x1 (ix2 q k'), val_main_call0_v0 (F := Ideal) (ix2 q k')) == 1#1) = gtB (near x0 x1 q) := by
    funext e e'
    rw [cmp_lt]
    unfold gtB near
    exact decide_eq_decide.mpr EReal.neg_lt_neg_iff.symm
  rw [hB]
  exact val_main_call0_v0_apply _

/-- A list's rank, with the list at that place. -/
theorem v15_at (q p : Fin 1024) : ∃ r : Fin 1024, val_main_v15 (F := Ideal) x0 x1 (ix2 q p) = BitVec.ofNat 32 r.val ∧ nth (near x0 x1 q) r = p := by
  refine ⟨sortedFrom (fun k k' => decide ((nth (near x0 x1 q) k).val < (nth (near x0 x1 q) k').val)) p, ?_, sort_sorted (gtB (near x0 x1 q)) p⟩
  unfold val_main_v15
  refine (sort2_snd _ _ _ q p).trans ?_
  have hB : (fun k k' : Fin 1024 => comparator_i32_i32_d1 (val_main_v14 (F := Ideal) x0 x1 (ix2 q k), val_main_call1_v0 (F := Ideal) (ix2 q k))
      (val_main_v14 (F := Ideal) x0 x1 (ix2 q k'), val_main_call1_v0 (F := Ideal) (ix2 q k')) == 1#1)
      = fun k k' => decide ((nth (near x0 x1 q) k).val < (nth (near x0 x1 q) k').val) := by
    funext e e'
    rw [v14_at, v14_at, cmp_lt_int _ _ (by omega) (by omega)]
  rw [hB]
  exact val_main_call1_v0_apply _

variable (hgap : ∀ q, near x0 x1 q (nth (near x0 x1 q) ⟨32, lt32⟩) < near x0 x1 q (nth (near x0 x1 q) ⟨31, lt31⟩))

include ha hgap in
/-- A vector is probed when its list is no farther than the 32nd nearest. -/
theorem v18_at (q : Fin 1024) (e : Fin 100000) : val_main_v18 (F := Ideal) x0 x1 x3 (ix2 q e)
    = BitVec.ofBool (decide ((val_main_v13 (F := Ideal) x0 x1 (ix2 q (a e)) : EReal) ≤ val_main_v13 (F := Ideal) x0 x1 (ix2 q (nth (near x0 x1 q) ⟨31, lt31⟩)))) := by
  obtain ⟨r, hr, hp⟩ := v15_at x0 x1 q (a e)
  have h : val_main_v18 (F := Ideal) x0 x1 x3 (ix2 q e) = IntOp.cmpi .slt (val_main_v16 (F := Ideal) x0 x1 x3 (ix2 q e)) 32#32 := by
    rw [val_main_v18_apply, val_main_v17_apply, val_main_c_apply]
  rw [h, v16_at x0 x1 x3 a ha, hr]
  have hi := toInt_ofNat_small r.val (by omega)
  have h32 : (32#32 : BitVec 32).toInt = 32 := by decide
  unfold IntOp.cmpi
  simp only [BitVec.slt, hi, h32]
  refine congrArg BitVec.ofBool (decide_eq_decide.mpr ?_)
  have hs := sorted_le_iff (near x0 x1 q) 31 (by norm_num) (hgap q) r
  rw [hp] at hs
  unfold near at hs
  rw [EReal.neg_le_neg_iff] at hs
  rw [← hs]
  omega

variable (hA : ∀ i, Fin' (val_main_v13 (F := Ideal) x0 x1 i)) (hG : ∀ i, Fin' (val_main_v21 (F := Ideal) x0 x2 i))
  (hC : ∀ i, Fin' (val_main_v24 (F := Ideal) x1 x2 i)) (hR : ∀ i, Fin' (val_main_v26 (F := Ideal) x2 i))

include ha hb in
theorem v69_at (e : Fin 100000) (s : Fin 16) : (val_main_v69 (F := Ideal) x1 x2 x3 x4 (ix2 e s) : EReal)
    = 2 * val_main_v24 (F := Ideal) x1 x2 (ix3 (a e) s (b e s)) + val_main_v26 (F := Ideal) x2 (ix2 s (b e s)) := by
  have h : (val_main_v69 (F := Ideal) x1 x2 x3 x4 (ix2 e s) : EReal)
      = (Ideal.ofBits .f32 0x40000000#32 : EReal) * val_main_v51 (F := Ideal) x1 x2 x3 x4 (ix2 e s) + val_main_v68 (F := Ideal) x2 x4 (ix2 e s) := by
    rw [val_main_v69_apply, val_main_v53_apply, val_main_v52_apply, val_main_cst_9_apply]; rfl
  rw [h, v51_at x1 x2 x3 x4 a ha b hb, v68_at x2 x4 b hb, ofBits_two_f32]

include ha hb in
theorem v70_at (e : Fin 100000) : (val_main_v70 (F := Ideal) x1 x2 x3 x4 (ix1 e) : EReal)
    = ∑ s : Fin 16, (2 * (val_main_v24 (F := Ideal) x1 x2 (ix3 (a e) s (b e s)) : EReal) + val_main_v26 (F := Ideal) x2 (ix2 s (b e s))) := by
  rw [val_main_v70_apply]
  have h0 : (val_main_cst_14 (F := Ideal) (Shape.Idx.first h_S_) : EReal) = 0 := zero_f32
  refine (congrArg (· + _) h0).trans ((zero_add _).trans (Finset.sum_congr rfl fun s _ => ?_))
  rw [← v69_at x1 x2 x3 x4 a ha b hb e s]
  refine congrArg (val_main_v69 (F := Ideal) x1 x2 x3 x4) ?_
  funext d; fin_cases d <;> rfl

include hb in
theorem v86_at (q : Fin 1024) (e : Fin 100000) : (val_main_v86 (F := Ideal) x0 x2 x4 (ix2 q e) : EReal)
    = ∑ s : Fin 16, (val_main_v21 (F := Ideal) x0 x2 (ix3 q s (b e s)) : EReal) := by
  rw [val_main_v86_apply]
  have h0 : (val_main_cst_19 (F := Ideal) (Shape.Idx.first h_S_) : EReal) = 0 := zero_f32
  refine (congrArg (· + _) h0).trans ((zero_add _).trans (Finset.sum_congr rfl fun s _ => ?_))
  rw [← v85_at x0 x2 x4 b hb q e s]
  refine congrArg (val_main_v85 (F := Ideal) x0 x2 x4) ?_
  funext d; fin_cases d <;> rfl

include ha hb hA hG hC hR hgap in
/-- The reference's table: the negated distance of a probed vector, minus infinity for the others. -/
theorem v95_at (q : Fin 1024) (e : Fin 100000) : (val_main_v95 (F := Ideal) x0 x1 x2 x3 x4 (ix2 q e) : EReal)
    = if (val_main_v13 (F := Ideal) x0 x1 (ix2 q (a e)) : EReal) ≤ val_main_v13 (F := Ideal) x0 x1 (ix2 q (nth (near x0 x1 q) ⟨31, lt31⟩))
      then 0 - down ((val_main_v13 (F := Ideal) x0 x1 (ix2 q (a e)) : EReal)
          + up (fun s => val_main_v24 (F := Ideal) x1 x2 (ix3 (a e) (Fin.ofNat 16 s) (b e (Fin.ofNat 16 s)))) (fun s => val_main_v26 (F := Ideal) x2 (ix2 (Fin.ofNat 16 s) (b e (Fin.ofNat 16 s)))) 16)
          (fun s => val_main_v21 (F := Ideal) x0 x2 (ix3 q (Fin.ofNat 16 s) (b e (Fin.ofNat 16 s)))) 16
      else ⊥ := by
  have hofn : ∀ s : Fin 16, Fin.ofNat 16 s.val = s := by intro s; exact Fin.ext (Nat.mod_eq_of_lt s.isLt)
  have h : (val_main_v95 (F := Ideal) x0 x1 x2 x3 x4 (ix2 q e) : EReal)
      = -(Scalar.select (val_main_v18 (F := Ideal) x0 x1 x3 (ix2 q e))
          (((val_main_v87 (F := Ideal) x0 x1 x3 (ix2 q e) : EReal) + val_main_v70 (F := Ideal) x1 x2 x3 x4 (ix1 e))
            - (Ideal.ofBits .f32 0x40000000#32 : EReal) * val_main_v86 (F := Ideal) x0 x2 x4 (ix2 q e))
          (Ideal.ofBits .f32 0x7F800000#32 : EReal)) := by
    rw [val_main_v95_apply, val_main_v94_apply, val_main_v93_apply, val_main_v92_apply, val_main_v91_apply, val_main_cst_20_apply,
      val_main_call4_v0_apply, val_main_cst_21_apply, val_main_v90_apply, val_main_v89_apply, val_main_v88_apply]
    have hi : idx_main_v88 (idx_main_v89 (ix2 q e)) = ix1 e := by funext d; fin_cases d; rfl
    rw [hi]
    rfl
  have hup := up_eq (fun s => val_main_v24 (F := Ideal) x1 x2 (ix3 (a e) (Fin.ofNat 16 s) (b e (Fin.ofNat 16 s)))) (fun s => val_main_v26 (F := Ideal) x2 (ix2 (Fin.ofNat 16 s) (b e (Fin.ofNat 16 s)))) 16
  rw [Finset.sum_range] at hup
  simp only [hofn] at hup
  have hfin : Fin' ((val_main_v13 (F := Ideal) x0 x1 (ix2 q (a e)) : EReal) + ∑ s : Fin 16, (2 * (val_main_v24 (F := Ideal) x1 x2 (ix3 (a e) s (b e s)) : EReal) + val_main_v26 (F := Ideal) x2 (ix2 s (b e s)))) :=
    (hA _).add (Fin'.sum _ _ fun s => (Fin'.mul ⟨2, two_coe⟩ (hC _)).add (hR _))
  rw [h, v18_at x0 x1 x3 a ha hgap, v87_at x0 x1 x3 a ha, v70_at x1 x2 x3 x4 a ha b hb, v86_at x0 x2 x4 b hb, ofBits_two_f32, ofBits_top_f32, hup,
    down_eq _ _ (fun s => hG _) hfin, Finset.sum_range]
  simp only [hofn]
  split
  · next hle => rw [decide_eq_true hle, zero_sub]; rfl
  · next hle => rw [decide_eq_false hle]; exact EReal.neg_top

end

end Cert.ReferenceIdeal.Own

end
-- ==== Proof.Finite.lean ====
/-
  The argument products are numbers when the arguments are.
-/
module

public import proofs.«01_k».proof.Proof.Reals
public import proofs.«01_k».proof.Proof.Gen.ReferenceIdeal.Read

@[expose] public section

noncomputable section

namespace Cert.ReferenceIdeal.Own

open Cert.ReferenceIdeal Cert.ReferenceIdeal.Gen Cert.Own Cert.ReferenceIdeal.Read
open Idealize.ShloMosaic

theorem fin_zero_word : Fin' (Ideal.ofBits .f32 0x00000000#32) := ⟨0, by simp [Ideal.ofBits, Ideal.ieee]⟩

variable (x0 x1 : (⟨S1024x128, .f32⟩ : BufTy).Contents (Elt Ideal)) (x2 : (⟨S16x256x8, .f32⟩ : BufTy).Contents (Elt Ideal))
  (h0 : ∀ i, Fin' (x0 i)) (h1 : ∀ i, Fin' (x1 i)) (h2 : ∀ i, Fin' (x2 i))

include h0 h1 in
theorem fin_coarse (i : S1024x1024.Idx) : Fin' (val_main_v13 (F := Ideal) x0 x1 i) := by
  rw [val_main_v13_apply]
  refine Fin'.sub ?_ ?_
  · rw [val_main_v8_apply]
    refine Fin'.add ?_ ?_
    · rw [val_main_v6_apply, val_main_v2_apply, val_main_v1_apply]
      exact Fin'.add fin_zero_word (Fin'.sum _ _ fun k => Fin'.mul (h0 _) (h0 _))
    · rw [val_main_v7_apply, val_main_v5_apply, val_main_v4_apply]
      exact Fin'.add fin_zero_word (Fin'.sum _ _ fun k => Fin'.mul (h1 _) (h1 _))
  · rw [val_main_v12_apply, val_main_v11_apply, val_main_cst_1_apply]
    refine Fin'.mul ⟨2, ofBits_two_f32⟩ ?_
    rw [val_main_v10_apply]
    refine Fin'.sum _ _ fun k => Fin'.mul (h0 _) ?_
    rw [val_main_v9_apply]; exact h1 _

include h0 h2 in
theorem fin_qdot (i : S1024x16x256.Idx) : Fin' (val_main_v21 (F := Ideal) x0 x2 i) := by
  rw [val_main_v21_apply, val_main_v20_apply]
  refine Fin'.sum _ _ fun k => Fin'.mul (h2 _) ?_
  rw [val_main_v19_apply]; exact h0 _

include h1 h2 in
theorem fin_cdot (i : S1024x16x256.Idx) : Fin' (val_main_v24 (F := Ideal) x1 x2 i) := by
  rw [val_main_v24_apply, val_main_v23_apply]
  refine Fin'.sum _ _ fun k => Fin'.mul (h2 _) ?_
  rw [val_main_v22_apply]; exact h1 _

include h2 in
theorem fin_rnorm (i : S16x256.Idx) : Fin' (val_main_v26 (F := Ideal) x2 i) := by
  rw [val_main_v26_apply]
  exact Fin'.add fin_zero_word (Fin'.sum _ _ fun k => Fin'.mul (h2 _) (h2 _))

end Cert.ReferenceIdeal.Own

end
-- ==== Proof.Final.lean ====
/-
  The kernel's result is the reference's: every row of the kernel's table is the reference's row, gone on with minus infinity.
-/
module

public import proofs.«01_k».proof.Proof.KIRes
public import proofs.«01_k».proof.Proof.KIDist
public import proofs.«01_k».proof.Proof.RefVal
public import proofs.«01_k».proof.Proof.Finite

@[expose] public section

set_option maxRecDepth 16384

noncomputable section

namespace Cert.KernelIdeal.Own

open Cert.KernelIdeal Cert.KernelIdeal.Gen Cert.Own
open Idealize.ShloMosaic Idealize.ShloMosaic.TcCoe
open Cert.ReferenceIdeal.Read (val_main_v13 val_main_v95 val_main_indices)
open Cert.ReferenceIdeal.Own (near v95_at fin_coarse fin_qdot fin_cdot fin_rnorm)

/-- The places of a line that goes on with least values, as numbers. -/
theorem padded_val {n N : ℕ} (hN : n ≤ N) (x : Fin n → EReal) (y : Fin N → EReal) (hy : ∀ e : Fin n, y ⟨e.val, e.isLt.trans_le hN⟩ = x e)
    (hp : ∀ e : Fin N, n ≤ e.val → y e = ⊥) (k : ℕ) (hk : k < n) (hk' : k < N) : (nth y ⟨k, hk'⟩).val = (nth x ⟨k, hk⟩).val :=
  congrArg Fin.val (nth_padded hN x y hy hp ⟨k, hk⟩)

section
variable (m : (ℓ : Loc nD τ sig) → Buf (Elt Ideal) ℓ) (c : Dev nD)
  (h0 : ∀ i, Fin' (V0 m c main_arg0 i)) (h1 : ∀ i, Fin' (V0 m c main_arg1 i)) (h2 : ∀ i, Fin' (V0 m c main_arg2 i))
  (a : Fin 100000 → Fin 1024) (ha : ∀ e, V0 m c main_arg3 (ix1 e) = BitVec.ofNat 32 (a e).val)
  (b : Fin 100000 → Fin 16 → Fin 256) (hb : ∀ e s, V0 m c main_arg4 (ix2 e s) = BitVec.ofNat 32 (b e s).val)
  (hgap : ∀ q, near (V0 m c main_arg0) (V0 m c main_arg1) q (nth (near (V0 m c main_arg0) (V0 m c main_arg1) q) ⟨32, Cert.ReferenceIdeal.Own.lt32⟩)
    < near (V0 m c main_arg0) (V0 m c main_arg1) q (nth (near (V0 m c main_arg0) (V0 m c main_arg1) q) ⟨31, Cert.ReferenceIdeal.Own.lt31⟩))

include h0 h1 h2 ha hb in
/-- The kernel's table at a place of a row. -/
theorem row_at (q : Fin 1024) (e : Fin 100352) : (row (V6 m) c q e : EReal)
    = if coarse m c q (if h : e.val < 100000 then a ⟨e.val, h⟩ else 0) ≤ tau m c q then
        0 - down (coarse m c q (if h : e.val < 100000 then a ⟨e.val, h⟩ else 0)
            + if e.val < 100000 then term m c (if h : e.val < 100000 then a ⟨e.val, h⟩ else 0) (fun s => if h : e.val < 100000 then b ⟨e.val, h⟩ s else 0) else ⊤)
          (fun s => qdot m c q (Fin.ofNat 16 s) (if h : e.val < 100000 then b ⟨e.val, h⟩ (Fin.ofNat 16 s) else 0)) 16
      else ⊥ := by
  have hd := dist_at m c (fun i => fin_coarse _ _ h0 h1 i) (fun i => fin_qdot _ _ h0 h2 i) (fun i => fin_cdot _ _ h1 h2 i)
    (fun n => if h : n < 100000 then a ⟨n, h⟩ else 0) (fun n s => if h : n < 100000 then b ⟨n, h⟩ s else 0)
    (by
      intro n hn
      unfold lst
      by_cases h : n < 100000
      · rw [dif_pos h, dif_pos h]; exact ha _
      · rw [dif_neg h, dif_neg h]; rfl)
    (by
      intro n hn s
      unfold code
      by_cases h : n < 100000
      · rw [dif_pos h, dif_pos h]; exact hb _ _
      · rw [dif_neg h, dif_neg h]; rfl)
    ⟨q.val / 512, by omega⟩ ⟨q.val % 512, by omega⟩ ⟨e.val / 1024, by omega⟩ ⟨e.val % 1024, by omega⟩ q (by dsimp only; omega) e.val (by dsimp only; omega)
  refine Eq.trans ?_ hd
  have hq : (⟨q.val / 512 * 512 + q.val % 512, by omega⟩ : Fin 1024) = q := Fin.ext (by dsimp only; omega)
  have he : (⟨e.val / 1024 * 1024 + e.val % 1024, by omega⟩ : Fin 100352) = e := Fin.ext (by dsimp only; omega)
  unfold row
  exact congrArg (V6 m c main_v70) (congrArg₂ ix2 hq.symm he.symm)

include h0 h1 h2 ha hb in
/-- Past the database the row is minus infinity. -/
theorem row_pad (q : Fin 1024) (e : Fin 100352) (h : 100000 ≤ e.val) : (row (V6 m) c q e : EReal) = ⊥ := by
  rw [row_at m c h0 h1 h2 a ha b hb]
  by_cases hle : coarse m c q (if h : e.val < 100000 then a ⟨e.val, h⟩ else 0) ≤ tau m c q
  · rw [if_pos hle]
    have hfin : Fin' (coarse m c q (if h : e.val < 100000 then a ⟨e.val, h⟩ else 0)) := fin_coarse _ _ h0 h1 _
    rw [if_neg (by omega)]
    obtain ⟨r, hr⟩ := hfin
    have hq : ∀ s k, Fin' (qdot m c q s k) := fun s k => fin_qdot _ _ h0 h2 _
    rw [hr, EReal.coe_add_top, down_top _ (fun s => hq _ _)]
    rfl
  · rw [if_neg hle]

include h0 h1 h2 ha hb hgap in
/-- Within the database the row is the reference's. -/
theorem row_ref (q : Fin 1024) (e : Fin 100000) : (row (V6 m) c q ⟨e.val, by omega⟩ : EReal)
    = val_main_v95 (F := Ideal) (V0 m c main_arg0) (V0 m c main_arg1) (V0 m c main_arg2) (V0 m c main_arg3) (V0 m c main_arg4) (ix2 q e) := by
  rw [row_at m c h0 h1 h2 a ha b hb]
  refine Eq.trans ?_ (v95_at (V0 m c main_arg0) (V0 m c main_arg1) (V0 m c main_arg2) (V0 m c main_arg3) (V0 m c main_arg4) a ha b hb hgap
    (fin_coarse _ _ h0 h1) (fin_qdot _ _ h0 h2) (fin_cdot _ _ h1 h2) (fin_rnorm _ h2) q e).symm
  simp only [e.isLt, dif_pos, if_true]
  rfl

/-- The reference's result, read. -/
theorem indices_at (x0 x1 : FVec Ideal S1024x128 .f32) (x2 : FVec Ideal S16x256x8 .f32) (x3 : IVec S100000 32) (x4 : IVec S100000x16 32) (q : Fin 1024) (k : Fin 100) :
    val_main_indices (F := Ideal) x0 x1 x2 x3 x4 (ix2 q k)
      = BitVec.ofNat 32 (nth (fun e : Fin 100000 => (val_main_v95 (F := Ideal) x0 x1 x2 x3 x4 (ix2 q e) : EReal)) ⟨k.val, by omega⟩).val := by
  unfold val_main_indices
  generalize val_main_v95 (F := Ideal) x0 x1 x2 x3 x4 = X
  exact topK_idx X _ (by norm_num) q k

include h0 h1 h2 ha hb hgap in
/-- The places of a row. -/
theorem nth_row (q : Fin 1024) (k : Fin 100) : (nth (row (V6 m) c q) ⟨k.val, by omega⟩).val
    = (nth (fun e : Fin 100000 => (val_main_v95 (F := Ideal) (V0 m c main_arg0) (V0 m c main_arg1) (V0 m c main_arg2) (V0 m c main_arg3) (V0 m c main_arg4) (ix2 q e) : EReal)) ⟨k.val, by omega⟩).val := by
  exact padded_val (by norm_num) (fun e : Fin 100000 => (val_main_v95 (F := Ideal) (V0 m c main_arg0) (V0 m c main_arg1) (V0 m c main_arg2) (V0 m c main_arg3) (V0 m c main_arg4) (ix2 q e) : EReal))
    (row (V6 m) c q) (row_ref m c h0 h1 h2 a ha b hb hgap q) (row_pad m c h0 h1 h2 a ha b hb q) k.val _ _

include h0 h1 h2 ha hb hgap in
/-- The kernel's result is the reference's. -/
theorem result_ref : V11 m c main_v84
    = val_main_indices (F := Ideal) (V0 m c main_arg0) (V0 m c main_arg1) (V0 m c main_arg2) (V0 m c main_arg3) (V0 m c main_arg4) := by
  funext i
  obtain ⟨q, k, rfl⟩ : ∃ (q : Fin 1024) (k : Fin 100), i = ix2 q k := ⟨i 0, i 1, by funext d; fin_cases d <;> rfl⟩
  rw [result_at m c q k, nth_row m c h0 h1 h2 a ha b hb hgap q k]
  exact (indices_at _ _ _ _ _ q k).symm

end

end Cert.KernelIdeal.Own

end
-- ==== Proof.Pre.lean ====
/-
  What the precondition says of the arguments.
-/
module

public import proofs.«01_k».proof.Pre_pre
public import proofs.«01_k».proof.Proof.Gen.Pre_pre
public import proofs.«01_k».proof.Proof.RefVal
public import Idealize.ShloMosaic.Lib.ReduceAll

@[expose] public section

set_option maxRecDepth 16384

noncomputable section

namespace Cert.Pre_pre.Own

open Cert.Pre_pre Cert.Pre_pre.Facts Cert.Own
open Idealize.ShloMosaic

theorem and_parts (X Y : IVec S_ 1) (i : S_.Idx) (h : andi X Y i = 1#1) : X i = 1#1 ∧ Y i = 1#1 := by
  have h' : IntOp.andi (X i) (Y i) = 1#1 := h
  generalize X i = v at h' ⊢
  generalize Y i = w at h' ⊢
  revert v w; decide

/-- A value whose size is below infinity is a number. -/
theorem fin_of_abs (x : EReal) (h : FloatOps.cmpf (F := Ideal) (φ := .f32) .olt (FloatOps.hostAbsf (F := Ideal) (φ := .f32) x) (FloatOps.ofBits (F := Ideal) .f32 0x7F800000#32) = 1#1) : Fin' x := by
  have e : FloatOps.cmpf (F := Ideal) (φ := .f32) .olt (FloatOps.hostAbsf (F := Ideal) (φ := .f32) x) (FloatOps.ofBits (F := Ideal) .f32 0x7F800000#32)
      = BitVec.ofBool (decide (max x (-x) < Ideal.ofBits .f32 0x7F800000#32)) := rfl
  rw [e, ofBits_top_f32] at h
  have hlt : max x (-x) < ⊤ := by
    by_contra hn
    rw [decide_eq_false hn] at h
    exact absurd h (by decide)
  induction x using EReal.rec with
  | bot => exact absurd hlt (by simp)
  | top => exact absurd hlt (by simp)
  | coe r => exact ⟨r, rfl⟩

/-- A word between two bounds, as the word of a small number. -/
theorem word_range (w : BitVec 32) (N : ℕ) (hN : N < 2 ^ 31) (h1 : IntOp.cmpi .sge w 0#32 = 1#1) (h2 : IntOp.cmpi .slt w (BitVec.ofNat 32 N) = 1#1) :
    ∃ k : Fin N, w = BitVec.ofNat 32 k.val := by
  unfold IntOp.cmpi at h1 h2
  simp only [BitVec.slt, BitVec.sle, toInt_ofNat_small N hN] at h1 h2
  have g1 : (0 : ℤ) ≤ w.toInt := by
    by_contra hn
    rw [decide_eq_false (by simpa using hn)] at h1
    exact absurd h1 (by decide)
  have g2 : w.toInt < (N : ℤ) := by
    by_contra hn
    rw [decide_eq_false hn] at h2
    exact absurd h2 (by decide)
  refine ⟨⟨w.toInt.toNat, by omega⟩, ?_⟩
  apply BitVec.eq_of_toInt_eq
  show w.toInt = (BitVec.ofNat 32 w.toInt.toNat).toInt
  rw [toInt_ofNat_small _ (by omega)]
  omega

/-- The gap test at a query. -/
theorem gap_at (X : FVec Ideal S1024x33 .f32) (q : Fin 1024)
    (h : cmpf (F := Ideal) (φ := .f32) .ogt (shapeCast S1024 (extractStridedSlice S1024x1 ![0, 31] X slices_S1024x33_S1024x1_0_31) shapeCasts_S1024x1_S1024)
      (shapeCast S1024 (extractStridedSlice S1024x1 ![0, 32] X slices_S1024x33_S1024x1_0_32) shapeCasts_S1024x1_S1024) (ix1 q) = 1#1) :
    (X (ix2 q 32) : EReal) < X (ix2 q 31) := by
  have e : cmpf (F := Ideal) (φ := .f32) .ogt (shapeCast S1024 (extractStridedSlice S1024x1 ![0, 31] X slices_S1024x33_S1024x1_0_31) shapeCasts_S1024x1_S1024)
      (shapeCast S1024 (extractStridedSlice S1024x1 ![0, 32] X slices_S1024x33_S1024x1_0_32) shapeCasts_S1024x1_S1024) (ix1 q)
      = FloatOps.cmpf (F := Ideal) (φ := .f32) .ogt (X (ix2 q 31)) (X (ix2 q 32)) := by pointwise
  rw [e] at h
  by_contra hn
  have e : FloatOps.cmpf (F := Ideal) (φ := .f32) .ogt (X (ix2 q 31)) (X (ix2 q 32)) = BitVec.ofBool (decide ((X (ix2 q 32) : EReal) < X (ix2 q 31))) := rfl
  rw [e, decide_eq_false hn] at h
  exact absurd h (by decide)

instance : Subsingleton S_.Idx := ⟨fun _ _ => funext fun d => d.elim0⟩

/-- The precondition, read. -/
theorem read (x0 x1 : FVec Ideal S1024x128 .f32) (x2 : FVec Ideal S16x256x8 .f32) (x3 : IVec S100000 32) (x4 : IVec S100000x16 32)
    (h : Cert.Pre_pre.fn (F := Ideal) x0 x1 x2 x3 x4 = fun _ => 1#1) :
    (∀ i, Fin' (x0 i)) ∧ (∀ i, Fin' (x1 i)) ∧ (∀ i, Fin' (x2 i)) ∧ (∀ i, ∃ k : Fin 1024, x3 i = BitVec.ofNat 32 k.val)
    ∧ (∀ i, ∃ k : Fin 256, x4 i = BitVec.ofNat 32 k.val)
    ∧ (∀ q : Fin 1024, Cert.ReferenceIdeal.Own.near x0 x1 q (nth (Cert.ReferenceIdeal.Own.near x0 x1 q) ⟨32, Cert.ReferenceIdeal.Own.lt32⟩)
        < Cert.ReferenceIdeal.Own.near x0 x1 q (nth (Cert.ReferenceIdeal.Own.near x0 x1 q) ⟨31, Cert.ReferenceIdeal.Own.lt31⟩)) := by
  have h := congrFun h (fun a => a.elim0)
  unfold fn fn_part1 fn_part2 at h
  dsimp only at h
  obtain ⟨h, h8⟩ := and_parts _ _ _ h
  obtain ⟨h, h7⟩ := and_parts _ _ _ h
  obtain ⟨h, h6⟩ := and_parts _ _ _ h
  obtain ⟨h, h5⟩ := and_parts _ _ _ h
  obtain ⟨h, h4⟩ := and_parts _ _ _ h
  obtain ⟨h, h3⟩ := and_parts _ _ _ h
  obtain ⟨h1, h2⟩ := and_parts _ _ _ h
  have h1 := Host.reduce_andi_all _ _ _ _ _ h1
  have h2 := Host.reduce_andi_all _ _ _ _ _ h2
  have h3 := Host.reduce_andi_all _ _ _ _ _ h3
  have h4 := Host.reduce_andi_all _ _ _ _ _ h4
  have h5 := Host.reduce_andi_all _ _ _ _ _ h5
  have h6 := Host.reduce_andi_all _ _ _ _ _ h6
  have h7 := Host.reduce_andi_all _ _ _ _ _ h7
  have h8 := Host.reduce_andi_all _ _ _ _ _ h8
  refine ⟨fun i => fin_of_abs _ (h1 i), fun i => fin_of_abs _ (h2 i), fun i => fin_of_abs _ (h3 i),
    fun i => word_range _ 1024 (by norm_num) (h4 i) (h5 i), fun i => word_range _ 256 (by norm_num) (h6 i) (h7 i), fun q => ?_⟩
  have g := gap_at _ q (h8 (ix1 q))
  have e := fun k : Fin 33 => topK_val (Host.negf (F := Ideal) (φ := .f32) (Cert.ReferenceIdeal.Read.val_main_v13 (F := Ideal) x0 x1)) sliceFits_S1024x1024_S1024x33 (by norm_num) q k
  have g' := (lt_of_eq_of_lt (e 32).symm g).trans_eq (e 31)
  exact g'

end Cert.Pre_pre.Own

end
-- ==== Proof.Value.lean ====
/-
  The idealized kernel and the idealized reference end with equal results.
-/
module

public import proofs.«01_k».proof.Defs
public import proofs.«01_k».proof.Proof.KIRun
public import proofs.«01_k».proof.Proof.Final
public import proofs.«01_k».proof.Proof.Pre

@[expose] public section

noncomputable section

namespace Cert.Own

open Idealize.ShloMosaic Idealize.ShloMosaic.TcCoe Idealize.SL.Sem

/-- The kernel's results, from the arguments' memory, are the reference's. -/
theorem results_eq (m : (ℓ : Loc Cert.KernelIdeal.nD Cert.KernelIdeal.τ Cert.KernelIdeal.sig) → Buf (Elt Ideal) ℓ)
    (hpre : Cert.Pre_KernelIdeal_pre (hPre_pre := Cert.Pre_pre.Gen.facts) m) (c : Dev Cert.KernelIdeal.nD) :
    Cert.KernelIdeal.Own.V11 m c Cert.KernelIdeal.main_v84
      = Cert.ReferenceIdeal.Read.val_main_indices (F := Ideal) (Cert.KernelIdeal.Own.V0 m c Cert.KernelIdeal.main_arg0) (Cert.KernelIdeal.Own.V0 m c Cert.KernelIdeal.main_arg1)
        (Cert.KernelIdeal.Own.V0 m c Cert.KernelIdeal.main_arg2) (Cert.KernelIdeal.Own.V0 m c Cert.KernelIdeal.main_arg3) (Cert.KernelIdeal.Own.V0 m c Cert.KernelIdeal.main_arg4) := by
  obtain ⟨h0, h1, h2, h3, h4, hgap⟩ := Cert.Pre_pre.Own.read _ _ _ _ _ (hpre c)
  choose a ha using fun e : Fin 100000 => h3 (ix1 e)
  choose b hb using fun (e : Fin 100000) (s : Fin 16) => h4 (ix2 e s)
  exact Cert.KernelIdeal.Own.result_ref m c h0 h1 h2 a ha b hb hgap

/-- Equal results, from memories that agree on the arguments. -/
theorem algebraic_kernel : Cert.algebraic_KernelIdeal_ReferenceIdeal_pre_pre (hKernelIdeal := Cert.KernelIdeal.Gen.facts)
    (hReferenceIdeal := Cert.ReferenceIdeal.Gen.facts) (hPre_pre := Cert.Pre_pre.Gen.facts) := by
  intro m g m' g' hpre hargs
  refine ⟨fun c => Cert.KernelIdeal.Own.V11 m c Cert.KernelIdeal.main_v84, ?_, ?_⟩
  · exact (θ_run _ _ _).mono (fun r h c => h.1 c) (Cert.KernelIdeal.Own.run_main m g)
  · refine (θ_run _ _ _).mono (fun r h c => ⟨(h c).1.trans ?_, (h c).2⟩) (Cert.ReferenceIdeal.Value.run m' g')
    obtain ⟨e0, e1, e2, e3, e4⟩ := hargs c
    rw [Cert.ReferenceIdeal.Read.val_main_indices_eq, e0, e1, e2, e3, e4]
    exact (results_eq m hpre c).symm

end Cert.Own

end
-- ==== Proof.lean ====
/-
  The claim: the frames of the three programs, the named constant, and the equality of the two results.
-/
module

public import proofs.«01_k».proof.Defs
public import proofs.«01_k».proof.Proof.Frames
public import proofs.«01_k».proof.Proof.Value

@[expose] public section

noncomputable section

namespace Cert.Proof

/-- Everything claimed of the programs. -/
theorem claim : Cert.Claim := ⟨Cert.Kernel.Gen.facts, Cert.KernelIdeal.Gen.facts, Cert.ReferenceIdeal.Gen.facts, Cert.Pre_pre.Gen.facts,
  Cert.Own.frame_kernel, Cert.Own.frame_kernelIdeal, Cert.Own.frame_kernelIdeal_pre, Cert.Own.frame_referenceIdeal, Cert.Own.frame_referenceIdeal_pre,
  Cert.Own.preserves_kernel, Cert.Own.algebraic_kernel⟩

end Cert.Proof

end
